-- ==== Defs.lean ====
def Pre_AttnP (m : (ℓ : Loc Cert.AttnP.nD Cert.AttnP.τ Cert.AttnP.sig) → Buf (Elt Bits) ℓ) : Prop :=
  True

def Pre_AttnPIdeal (m : (ℓ : Loc Cert.AttnPIdeal.nD Cert.AttnPIdeal.τ Cert.AttnPIdeal.sig) → Buf (Elt Ideal) ℓ) : Prop :=
  True

def Pre_AttnPIdeal_finite_attn [hPre_finite_attn : Cert.Pre_finite_attn.Facts] (m : (ℓ : Loc Cert.AttnPIdeal.nD Cert.AttnPIdeal.τ Cert.AttnPIdeal.sig) → Buf (Elt Ideal) ℓ) : Prop :=
  ∀ c : Dev Cert.AttnPIdeal.nD,
    (Cert.Pre_finite_attn.fn (F := Ideal) (m ((c.tc : Thread Cert.AttnPIdeal.nD Cert.AttnPIdeal.τ).loc Cert.AttnPIdeal.main_arg0)) (m ((c.tc : Thread Cert.AttnPIdeal.nD Cert.AttnPIdeal.τ).loc Cert.AttnPIdeal.main_arg1)) (m ((c.tc : Thread Cert.AttnPIdeal.nD Cert.AttnPIdeal.τ).loc Cert.AttnPIdeal.main_arg2)) (m ((c.tc : Thread Cert.AttnPIdeal.nD Cert.AttnPIdeal.τ).loc Cert.AttnPIdeal.main_arg3))) = (fun _ => 1#1)

def Pre_AttnPRefIdeal (m : (ℓ : Loc Cert.AttnPRefIdeal.nD Cert.AttnPRefIdeal.τ Cert.AttnPRefIdeal.sig) → Buf (Elt Ideal) ℓ) : Prop :=
  True

def Pre_AttnPRefIdeal_finite_attn [hPre_finite_attn : Cert.Pre_finite_attn.Facts] (m : (ℓ : Loc Cert.AttnPRefIdeal.nD Cert.AttnPRefIdeal.τ Cert.AttnPRefIdeal.sig) → Buf (Elt Ideal) ℓ) : Prop :=
  ∀ c : Dev Cert.AttnPRefIdeal.nD,
    (Cert.Pre_finite_attn.fn (F := Ideal) (m ((c.tc : Thread Cert.AttnPRefIdeal.nD Cert.AttnPRefIdeal.τ).loc Cert.AttnPRefIdeal.main_arg0)) (m ((c.tc : Thread Cert.AttnPRefIdeal.nD Cert.AttnPRefIdeal.τ).loc Cert.AttnPRefIdeal.main_arg1)) (m ((c.tc : Thread Cert.AttnPRefIdeal.nD Cert.AttnPRefIdeal.τ).loc Cert.AttnPRefIdeal.main_arg2)) (m ((c.tc : Thread Cert.AttnPRefIdeal.nD Cert.AttnPRefIdeal.τ).loc Cert.AttnPRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_GmlpIn (m : (ℓ : Loc Cert.GmlpIn.nD Cert.GmlpIn.τ Cert.GmlpIn.sig) → Buf (Elt Bits) ℓ) : Prop :=
  True

def Pre_GmlpInIdeal (m : (ℓ : Loc Cert.GmlpInIdeal.nD Cert.GmlpInIdeal.τ Cert.GmlpInIdeal.sig) → Buf (Elt Ideal) ℓ) : Prop :=
  True

def Pre_GmlpInRefIdeal (m : (ℓ : Loc Cert.GmlpInRefIdeal.nD Cert.GmlpInRefIdeal.τ Cert.GmlpInRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_GmlpMix (m : (ℓ : Loc Cert.GmlpMix.nD Cert.GmlpMix.τ Cert.GmlpMix.sig) → Buf (Elt Bits) ℓ) : Prop :=
  True

def Pre_GmlpMixIdeal (m : (ℓ : Loc Cert.GmlpMixIdeal.nD Cert.GmlpMixIdeal.τ Cert.GmlpMixIdeal.sig) → Buf (Elt Ideal) ℓ) : Prop :=
  True

def Pre_GmlpMixRefIdeal (m : (ℓ : Loc Cert.GmlpMixRefIdeal.nD Cert.GmlpMixRefIdeal.τ Cert.GmlpMixRefIdeal.sig) → Buf (Elt Ideal) ℓ) : Prop :=
  True

def quiescent_AttnP [hAttnP : Cert.AttnP.Facts] : Prop :=
  ∀ (m : (ℓ : Loc Cert.AttnP.nD Cert.AttnP.τ Cert.AttnP.sig) → Buf (Elt Bits) ℓ) (g : Dev Cert.AttnP.nD → PrngReg), Pre_AttnP m →
    θ_run (Cert.AttnP.defs (F := Bits)) (onTc (τ := Cert.AttnP.τ) (Cert.AttnP.main (F := Bits))) ⟨m, fun _ => 0, g⟩ (fun r => (∀ c : Dev Cert.AttnP.nD,
      r.2.mem ((c.tc : Thread Cert.AttnP.nD Cert.AttnP.τ).loc Cert.AttnP.main_arg0) = m ((c.tc : Thread Cert.AttnP.nD Cert.AttnP.τ).loc Cert.AttnP.main_arg0)
      ∧ r.2.mem ((c.tc : Thread Cert.AttnP.nD Cert.AttnP.τ).loc Cert.AttnP.main_arg1) = m ((c.tc : Thread Cert.AttnP.nD Cert.AttnP.τ).loc Cert.AttnP.main_arg1)
      ∧ r.2.mem ((c.tc : Thread Cert.AttnP.nD Cert.AttnP.τ).loc Cert.AttnP.main_arg2) = m ((c.tc : Thread Cert.AttnP.nD Cert.AttnP.τ).loc Cert.AttnP.main_arg2)
      ∧ r.2.mem ((c.tc : Thread Cert.AttnP.nD Cert.AttnP.τ).loc Cert.AttnP.main_arg3) = m ((c.tc : Thread Cert.AttnP.nD Cert.AttnP.τ).loc Cert.AttnP.main_arg3))
      ∧ r.2.sem = fun _ => 0)

def quiescent_AttnPIdeal [hAttnPIdeal : Cert.AttnPIdeal.Facts] : Prop :=
  ∀ (m : (ℓ : Loc Cert.AttnPIdeal.nD Cert.AttnPIdeal.τ Cert.AttnPIdeal.sig) → Buf (Elt Ideal) ℓ) (g : Dev Cert.AttnPIdeal.nD → PrngReg), Pre_AttnPIdeal m →
    θ_run (Cert.AttnPIdeal.defs (F := Ideal)) (onTc (τ := Cert.AttnPIdeal.τ) (Cert.AttnPIdeal.main (F := Ideal))) ⟨m, fun _ => 0, g⟩ (fun r => (∀ c : Dev Cert.AttnPIdeal.nD,
      r.2.mem ((c.tc : Thread Cert.AttnPIdeal.nD Cert.AttnPIdeal.τ).loc Cert.AttnPIdeal.main_arg0) = m ((c.tc : Thread Cert.AttnPIdeal.nD Cert.AttnPIdeal.τ).loc Cert.AttnPIdeal.main_arg0)
      ∧ r.2.mem ((c.tc : Thread Cert.AttnPIdeal.nD Cert.AttnPIdeal.τ).loc Cert.AttnPIdeal.main_arg1) = m ((c.tc : Thread Cert.AttnPIdeal.nD Cert.AttnPIdeal.τ).loc Cert.AttnPIdeal.main_arg1)
      ∧ r.2.mem ((c.tc : Thread Cert.AttnPIdeal.nD Cert.AttnPIdeal.τ).loc Cert.AttnPIdeal.main_arg2) = m ((c.tc : Thread Cert.AttnPIdeal.nD Cert.AttnPIdeal.τ).loc Cert.AttnPIdeal.main_arg2)
      ∧ r.2.mem ((c.tc : Thread Cert.AttnPIdeal.nD Cert.AttnPIdeal.τ).loc Cert.AttnPIdeal.main_arg3) = m ((c.tc : Thread Cert.AttnPIdeal.nD Cert.AttnPIdeal.τ).loc Cert.AttnPIdeal.main_arg3))
      ∧ r.2.sem = fun _ => 0)

def quiescent_AttnPIdeal_pre_finite_attn [hAttnPIdeal : Cert.AttnPIdeal.Facts] [hPre_finite_attn : Cert.Pre_finite_attn.Facts] : Prop :=
  ∀ (m : (ℓ : Loc Cert.AttnPIdeal.nD Cert.AttnPIdeal.τ Cert.AttnPIdeal.sig) → Buf (Elt Ideal) ℓ) (g : Dev Cert.AttnPIdeal.nD → PrngReg), Pre_AttnPIdeal_finite_attn m →
    θ_run (Cert.AttnPIdeal.defs (F := Ideal)) (onTc (τ := Cert.AttnPIdeal.τ) (Cert.AttnPIdeal.main (F := Ideal))) ⟨m, fun _ => 0, g⟩ (fun r => (∀ c : Dev Cert.AttnPIdeal.nD,
      r.2.mem ((c.tc : Thread Cert.AttnPIdeal.nD Cert.AttnPIdeal.τ).loc Cert.AttnPIdeal.main_arg0) = m ((c.tc : Thread Cert.AttnPIdeal.nD Cert.AttnPIdeal.τ).loc Cert.AttnPIdeal.main_arg0)
      ∧ r.2.mem ((c.tc : Thread Cert.AttnPIdeal.nD Cert.AttnPIdeal.τ).loc Cert.AttnPIdeal.main_arg1) = m ((c.tc : Thread Cert.AttnPIdeal.nD Cert.AttnPIdeal.τ).loc Cert.AttnPIdeal.main_arg1)
      ∧ r.2.mem ((c.tc : Thread Cert.AttnPIdeal.nD Cert.AttnPIdeal.τ).loc Cert.AttnPIdeal.main_arg2) = m ((c.tc : Thread Cert.AttnPIdeal.nD Cert.AttnPIdeal.τ).loc Cert.AttnPIdeal.main_arg2)
      ∧ r.2.mem ((c.tc : Thread Cert.AttnPIdeal.nD Cert.AttnPIdeal.τ).loc Cert.AttnPIdeal.main_arg3) = m ((c.tc : Thread Cert.AttnPIdeal.nD Cert.AttnPIdeal.τ).loc Cert.AttnPIdeal.main_arg3))
      ∧ r.2.sem = fun _ => 0)

def quiescent_AttnPRefIdeal [hAttnPRefIdeal : Cert.AttnPRefIdeal.Facts] : Prop :=
  ∀ (m : (ℓ : Loc Cert.AttnPRefIdeal.nD Cert.AttnPRefIdeal.τ Cert.AttnPRefIdeal.sig) → Buf (Elt Ideal) ℓ) (g : Dev Cert.AttnPRefIdeal.nD → PrngReg), Pre_AttnPRefIdeal m →
    θ_run (Cert.AttnPRefIdeal.defs (F := Ideal)) (onTc (τ := Cert.AttnPRefIdeal.τ) (Cert.AttnPRefIdeal.main (F := Ideal))) ⟨m, fun _ => 0, g⟩ (fun r => (∀ c : Dev Cert.AttnPRefIdeal.nD,
      r.2.mem ((c.tc : Thread Cert.AttnPRefIdeal.nD Cert.AttnPRefIdeal.τ).loc Cert.AttnPRefIdeal.main_arg0) = m ((c.tc : Thread Cert.AttnPRefIdeal.nD Cert.AttnPRefIdeal.τ).loc Cert.AttnPRefIdeal.main_arg0)
      ∧ r.2.mem ((c.tc : Thread Cert.AttnPRefIdeal.nD Cert.AttnPRefIdeal.τ).loc Cert.AttnPRefIdeal.main_arg1) = m ((c.tc : Thread Cert.AttnPRefIdeal.nD Cert.AttnPRefIdeal.τ).loc Cert.AttnPRefIdeal.main_arg1)
      ∧ r.2.mem ((c.tc : Thread Cert.AttnPRefIdeal.nD Cert.AttnPRefIdeal.τ).loc Cert.AttnPRefIdeal.main_arg2) = m ((c.tc : Thread Cert.AttnPRefIdeal.nD Cert.AttnPRefIdeal.τ).loc Cert.AttnPRefIdeal.main_arg2)
      ∧ r.2.mem ((c.tc : Thread Cert.AttnPRefIdeal.nD Cert.AttnPRefIdeal.τ).loc Cert.AttnPRefIdeal.main_arg3) = m ((c.tc : Thread Cert.AttnPRefIdeal.nD Cert.AttnPRefIdeal.τ).loc Cert.AttnPRefIdeal.main_arg3))
      ∧ r.2.sem = fun _ => 0)

def quiescent_AttnPRefIdeal_pre_finite_attn [hAttnPRefIdeal : Cert.AttnPRefIdeal.Facts] [hPre_finite_attn : Cert.Pre_finite_attn.Facts] : Prop :=
  ∀ (m : (ℓ : Loc Cert.AttnPRefIdeal.nD Cert.AttnPRefIdeal.τ Cert.AttnPRefIdeal.sig) → Buf (Elt Ideal) ℓ) (g : Dev Cert.AttnPRefIdeal.nD → PrngReg), Pre_AttnPRefIdeal_finite_attn m →
    θ_run (Cert.AttnPRefIdeal.defs (F := Ideal)) (onTc (τ := Cert.AttnPRefIdeal.τ) (Cert.AttnPRefIdeal.main (F := Ideal))) ⟨m, fun _ => 0, g⟩ (fun r => (∀ c : Dev Cert.AttnPRefIdeal.nD,
      r.2.mem ((c.tc : Thread Cert.AttnPRefIdeal.nD Cert.AttnPRefIdeal.τ).loc Cert.AttnPRefIdeal.main_arg0) = m ((c.tc : Thread Cert.AttnPRefIdeal.nD Cert.AttnPRefIdeal.τ).loc Cert.AttnPRefIdeal.main_arg0)
      ∧ r.2.mem ((c.tc : Thread Cert.AttnPRefIdeal.nD Cert.AttnPRefIdeal.τ).loc Cert.AttnPRefIdeal.main_arg1) = m ((c.tc : Thread Cert.AttnPRefIdeal.nD Cert.AttnPRefIdeal.τ).loc Cert.AttnPRefIdeal.main_arg1)
      ∧ r.2.mem ((c.tc : Thread Cert.AttnPRefIdeal.nD Cert.AttnPRefIdeal.τ).loc Cert.AttnPRefIdeal.main_arg2) = m ((c.tc : Thread Cert.AttnPRefIdeal.nD Cert.AttnPRefIdeal.τ).loc Cert.AttnPRefIdeal.main_arg2)
      ∧ r.2.mem ((c.tc : Thread Cert.AttnPRefIdeal.nD Cert.AttnPRefIdeal.τ).loc Cert.AttnPRefIdeal.main_arg3) = m ((c.tc : Thread Cert.AttnPRefIdeal.nD Cert.AttnPRefIdeal.τ).loc Cert.AttnPRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_GmlpIn [hGmlpIn : Cert.GmlpIn.Facts] : Prop :=
  ∀ (m : (ℓ : Loc Cert.GmlpIn.nD Cert.GmlpIn.τ Cert.GmlpIn.sig) → Buf (Elt Bits) ℓ) (g : Dev Cert.GmlpIn.nD → PrngReg), Pre_GmlpIn m →
    θ_run (Cert.GmlpIn.defs (F := Bits)) (onTc (τ := Cert.GmlpIn.τ) (Cert.GmlpIn.main (F := Bits))) ⟨m, fun _ => 0, g⟩ (fun r => (∀ c : Dev Cert.GmlpIn.nD,
      r.2.mem ((c.tc : Thread Cert.GmlpIn.nD Cert.GmlpIn.τ).loc Cert.GmlpIn.main_arg0) = m ((c.tc : Thread Cert.GmlpIn.nD Cert.GmlpIn.τ).loc Cert.GmlpIn.main_arg0)
      ∧ r.2.mem ((c.tc : Thread Cert.GmlpIn.nD Cert.GmlpIn.τ).loc Cert.GmlpIn.main_arg1) = m ((c.tc : Thread Cert.GmlpIn.nD Cert.GmlpIn.τ).loc Cert.GmlpIn.main_arg1)
      ∧ r.2.mem ((c.tc : Thread Cert.GmlpIn.nD Cert.GmlpIn.τ).loc Cert.GmlpIn.main_arg2) = m ((c.tc : Thread Cert.GmlpIn.nD Cert.GmlpIn.τ).loc Cert.GmlpIn.main_arg2)
      ∧ r.2.mem ((c.tc : Thread Cert.GmlpIn.nD Cert.GmlpIn.τ).loc Cert.GmlpIn.main_arg3) = m ((c.tc : Thread Cert.GmlpIn.nD Cert.GmlpIn.τ).loc Cert.GmlpIn.main_arg3))
      ∧ r.2.sem = fun _ => 0)

def quiescent_GmlpInIdeal [hGmlpInIdeal : Cert.GmlpInIdeal.Facts] : Prop :=
  ∀ (m : (ℓ : Loc Cert.GmlpInIdeal.nD Cert.GmlpInIdeal.τ Cert.GmlpInIdeal.sig) → Buf (Elt Ideal) ℓ) (g : Dev Cert.GmlpInIdeal.nD → PrngReg), Pre_GmlpInIdeal m →
    θ_run (Cert.GmlpInIdeal.defs (F := Ideal)) (onTc (τ := Cert.GmlpInIdeal.τ) (Cert.GmlpInIdeal.main (F := Ideal))) ⟨m, fun _ => 0, g⟩ (fun r => (∀ c : Dev Cert.GmlpInIdeal.nD,
      r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
      ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1)
      ∧ r.2.mem ((c.tc : Thread Cert.GmlpInIdeal.nD Cert.GmlpInIdeal.τ).loc Cert.GmlpInIdeal.main_arg2) = m ((c.tc : Thread Cert.GmlpInIdeal.nD Cert.GmlpInIdeal.τ).loc Cert.GmlpInIdeal.main_arg2)
      ∧ r.2.mem ((c.tc : Thread Cert.GmlpInIdeal.nD Cert.GmlpInIdeal.τ).loc Cert.GmlpInIdeal.main_arg3) = m ((c.tc : Thread Cert.GmlpInIdeal.nD Cert.GmlpInIdeal.τ).loc Cert.GmlpInIdeal.main_arg3))
      ∧ r.2.sem = fun _ => 0)

def quiescent_GmlpInRefIdeal [hGmlpInRefIdeal : Cert.GmlpInRefIdeal.Facts] : Prop :=
  ∀ (m : (ℓ : Loc Cert.GmlpInRefIdeal.nD Cert.GmlpInRefIdeal.τ Cert.GmlpInRefIdeal.sig) → Buf (Elt Ideal) ℓ) (g : Dev Cert.GmlpInRefIdeal.nD → PrngReg), Pre_GmlpInRefIdeal m →
    θ_run (Cert.GmlpInRefIdeal.defs (F := Ideal)) (onTc (τ := Cert.GmlpInRefIdeal.τ) (Cert.GmlpInRefIdeal.main (F := Ideal))) ⟨m, fun _ => 0, g⟩ (fun r => (∀ c : Dev Cert.GmlpInRefIdeal.nD,
      r.2.mem ((c.tc : Thread Cert.GmlpInRefIdeal.nD Cert.GmlpInRefIdeal.τ).loc Cert.GmlpInRefIdeal.main_arg0) = m ((c.tc : Thread Cert.GmlpInRefIdeal.nD Cert.GmlpInRefIdeal.τ).loc Cert.GmlpInRefIdeal.main_arg0)
      ∧ r.2.mem ((c.tc : Thread Cert.GmlpInRefIdeal.nD Cert.GmlpInRefIdeal.τ).loc Cert.GmlpInRefIdeal.main_arg1) = m ((c.tc : Thread Cert.GmlpInRefIdeal.nD Cert.GmlpInRefIdeal.τ).loc Cert.GmlpInRefIdeal.main_arg1)
      ∧ r.2.mem ((c.tc : Thread Cert.GmlpInRefIdeal.nD Cert.GmlpInRefIdeal.τ).loc Cert.GmlpInRefIdeal.main_arg2) = m ((c.tc : Thread Cert.GmlpInRefIdeal.nD Cert.GmlpInRefIdeal.τ).loc Cert.GmlpInRefIdeal.main_arg2)
      ∧ r.2.mem ((c.tc : Thread Cert.GmlpInRefIdeal.nD Cert.GmlpInRefIdeal.τ).loc Cert.GmlpInRefIdeal.main_arg3) = m ((c.tc : Thread Cert.GmlpInRefIdeal.nD Cert.GmlpInRefIdeal.τ).loc Cert.GmlpInRefIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_GmlpMix [hGmlpMix : Cert.GmlpMix.Facts] : Prop :=
  ∀ (m : (ℓ : Loc Cert.GmlpMix.nD Cert.GmlpMix.τ Cert.GmlpMix.sig) → Buf (Elt Bits) ℓ) (g : Dev Cert.GmlpMix.nD → PrngReg), Pre_GmlpMix m →
    θ_run (Cert.GmlpMix.defs (F := Bits)) (onTc (τ := Cert.GmlpMix.τ) (Cert.GmlpMix.main (F := Bits))) ⟨m, fun _ => 0, g⟩ (fun r => (∀ c : Dev Cert.GmlpMix.nD,
      r.2.mem ((c.tc : Thread Cert.GmlpMix.nD Cert.GmlpMix.τ).loc Cert.GmlpMix.main_arg0) = m ((c.tc : Thread Cert.GmlpMix.nD Cert.GmlpMix.τ).loc Cert.GmlpMix.main_arg0)
      ∧ r.2.mem ((c.tc : Thread Cert.GmlpMix.nD Cert.GmlpMix.τ).loc Cert.GmlpMix.main_arg1) = m ((c.tc : Thread Cert.GmlpMix.nD Cert.GmlpMix.τ).loc Cert.GmlpMix.main_arg1)
      ∧ r.2.mem ((c.tc : Thread Cert.GmlpMix.nD Cert.GmlpMix.τ).loc Cert.GmlpMix.main_arg2) = m ((c.tc : Thread Cert.GmlpMix.nD Cert.GmlpMix.τ).loc Cert.GmlpMix.main_arg2)
      ∧ r.2.mem ((c.tc : Thread Cert.GmlpMix.nD Cert.GmlpMix.τ).loc Cert.GmlpMix.main_arg3) = m ((c.tc : Thread Cert.GmlpMix.nD Cert.GmlpMix.τ).loc Cert.GmlpMix.main_arg3))
      ∧ r.2.sem = fun _ => 0)

def quiescent_GmlpMixIdeal [hGmlpMixIdeal : Cert.GmlpMixIdeal.Facts] : Prop :=
  ∀ (m : (ℓ : Loc Cert.GmlpMixIdeal.nD Cert.GmlpMixIdeal.τ Cert.GmlpMixIdeal.sig) → Buf (Elt Ideal) ℓ) (g : Dev Cert.GmlpMixIdeal.nD → PrngReg), Pre_GmlpMixIdeal m →
    θ_run (Cert.GmlpMixIdeal.defs (F := Ideal)) (onTc (τ := Cert.GmlpMixIdeal.τ) (Cert.GmlpMixIdeal.main (F := Ideal))) ⟨m, fun _ => 0, g⟩ (fun r => (∀ c : Dev Cert.GmlpMixIdeal.nD,
      r.2.mem ((c.tc : Thread Cert.GmlpMixIdeal.nD Cert.GmlpMixIdeal.τ).loc Cert.GmlpMixIdeal.main_arg0) = m ((c.tc : Thread Cert.GmlpMixIdeal.nD Cert.GmlpMixIdeal.τ).loc Cert.GmlpMixIdeal.main_arg0)
      ∧ r.2.mem ((c.tc : Thread Cert.GmlpMixIdeal.nD Cert.GmlpMixIdeal.τ).loc Cert.GmlpMixIdeal.main_arg1) = m ((c.tc : Thread Cert.GmlpMixIdeal.nD Cert.GmlpMixIdeal.τ).loc Cert.GmlpMixIdeal.main_arg1)
      ∧ r.2.mem ((c.tc : Thread Cert.GmlpMixIdeal.nD Cert.GmlpMixIdeal.τ).loc Cert.GmlpMixIdeal.main_arg2) = m ((c.tc : Thread Cert.GmlpMixIdeal.nD Cert.GmlpMixIdeal.τ).loc Cert.GmlpMixIdeal.main_arg2)
      ∧ r.2.mem ((c.tc : Thread Cert.GmlpMixIdeal.nD Cert.GmlpMixIdeal.τ).loc Cert.GmlpMixIdeal.main_arg3) = m ((c.tc : Thread Cert.GmlpMixIdeal.nD Cert.GmlpMixIdeal.τ).loc Cert.GmlpMixIdeal.main_arg3))
      ∧ r.2.sem = fun _ => 0)

def quiescent_GmlpMixRefIdeal [hGmlpMixRefIdeal : Cert.GmlpMixRefIdeal.Facts] : Prop :=
  ∀ (m : (ℓ : Loc Cert.GmlpMixRefIdeal.nD Cert.GmlpMixRefIdeal.τ Cert.GmlpMixRefIdeal.sig) → Buf (Elt Ideal) ℓ) (g : Dev Cert.GmlpMixRefIdeal.nD → PrngReg), Pre_GmlpMixRefIdeal m →
    θ_run (Cert.GmlpMixRefIdeal.defs (F := Ideal)) (onTc (τ := Cert.GmlpMixRefIdeal.τ) (Cert.GmlpMixRefIdeal.main (F := Ideal))) ⟨m, fun _ => 0, g⟩ (fun r => (∀ c : Dev Cert.GmlpMixRefIdeal.nD,
      r.2.mem ((c.tc : Thread Cert.GmlpMixRefIdeal.nD Cert.GmlpMixRefIdeal.τ).loc Cert.GmlpMixRefIdeal.main_arg0) = m ((c.tc : Thread Cert.GmlpMixRefIdeal.nD Cert.GmlpMixRefIdeal.τ).loc Cert.GmlpMixRefIdeal.main_arg0)
      ∧ r.2.mem ((c.tc : Thread Cert.GmlpMixRefIdeal.nD Cert.GmlpMixRefIdeal.τ).loc Cert.GmlpMixRefIdeal.main_arg1) = m ((c.tc : Thread Cert.GmlpMixRefIdeal.nD Cert.GmlpMixRefIdeal.τ).loc Cert.GmlpMixRefIdeal.main_arg1)
      ∧ r.2.mem ((c.tc : Thread Cert.GmlpMixRefIdeal.nD Cert.GmlpMixRefIdeal.τ).loc Cert.GmlpMixRefIdeal.main_arg2) = m ((c.tc : Thread Cert.GmlpMixRefIdeal.nD Cert.GmlpMixRefIdeal.τ).loc Cert.GmlpMixRefIdeal.main_arg2)
      ∧ r.2.mem ((c.tc : Thread Cert.GmlpMixRefIdeal.nD Cert.GmlpMixRefIdeal.τ).loc Cert.GmlpMixRefIdeal.main_arg3) = m ((c.tc : Thread Cert.GmlpMixRefIdeal.nD Cert.GmlpMixRefIdeal.τ).loc Cert.GmlpMixRefIdeal.main_arg3))
      ∧ r.2.sem = fun _ => 0)

def preserves_AttnP_AttnPIdeal : Prop :=
  IdealRules.named_const.Statement Cert.AttnPIdeal.κ "mask" .f32 0xF149F2CA#32 ⊥

def algebraic_AttnPIdeal_AttnPRefIdeal_on_prompt_rows_pre_finite_attn [hAttnPIdeal : Cert.AttnPIdeal.Facts] [hAttnPRefIdeal : Cert.AttnPRefIdeal.Facts] [hPre_finite_attn : Cert.Pre_finite_attn.Facts] [hOn_prompt_rows : Cert.On_prompt_rows.Facts] : Prop :=
  ∀ (m : (ℓ : Loc Cert.AttnPIdeal.nD Cert.AttnPIdeal.τ Cert.AttnPIdeal.sig) → Buf (Elt Ideal) ℓ) (g : Dev Cert.AttnPIdeal.nD → PrngReg)
    (m' : (ℓ : Loc Cert.AttnPRefIdeal.nD Cert.AttnPRefIdeal.τ Cert.AttnPRefIdeal.sig) → Buf (Elt Ideal) ℓ) (g' : Dev Cert.AttnPRefIdeal.nD → PrngReg), Pre_AttnPIdeal_finite_attn m →
    (∀ c : Dev Cert.AttnPIdeal.nD,
      m' ((c.tc : Thread Cert.AttnPRefIdeal.nD Cert.AttnPRefIdeal.τ).loc Cert.AttnPRefIdeal.main_arg0) = m ((c.tc : Thread Cert.AttnPIdeal.nD Cert.AttnPIdeal.τ).loc Cert.AttnPIdeal.main_arg0)
      ∧ m' ((c.tc : Thread Cert.AttnPRefIdeal.nD Cert.AttnPRefIdeal.τ).loc Cert.AttnPRefIdeal.main_arg1) = m ((c.tc : Thread Cert.AttnPIdeal.nD Cert.AttnPIdeal.τ).loc Cert.AttnPIdeal.main_arg1)
      ∧ m' ((c.tc : Thread Cert.AttnPRefIdeal.nD Cert.AttnPRefIdeal.τ).loc Cert.AttnPRefIdeal.main_arg2) = m ((c.tc : Thread Cert.AttnPIdeal.nD Cert.AttnPIdeal.τ).loc Cert.AttnPIdeal.main_arg2)
      ∧ m' ((c.tc : Thread Cert.AttnPRefIdeal.nD Cert.AttnPRefIdeal.τ).loc Cert.AttnPRefIdeal.main_arg3) = m ((c.tc : Thread Cert.AttnPIdeal.nD Cert.AttnPIdeal.τ).loc Cert.AttnPIdeal.main_arg3)) →
    ∃ (v0 : (c : Dev Cert.AttnPIdeal.nD) → Buf (Elt Ideal) ((c.tc : Thread Cert.AttnPIdeal.nD Cert.AttnPIdeal.τ).loc Cert.AttnPIdeal.main_v34)),
      θ_run (Cert.AttnPIdeal.defs (F := Ideal)) (onTc (τ := Cert.AttnPIdeal.τ) (Cert.AttnPIdeal.main (F := Ideal))) ⟨m, fun _ => 0, g⟩ (fun r => ∀ c : Dev Cert.AttnPIdeal.nD,
          (∀ i : (⟨2, ![8704, 1024]⟩ : Shape).Idx, (Cert.On_prompt_rows.fn (F := Ideal) (m ((c.tc : Thread Cert.AttnPIdeal.nD Cert.AttnPIdeal.τ).loc Cert.AttnPIdeal.main_arg0)) (m ((c.tc : Thread Cert.AttnPIdeal.nD Cert.AttnPIdeal.τ).loc Cert.AttnPIdeal.main_arg1)) (m ((c.tc : Thread Cert.AttnPIdeal.nD Cert.AttnPIdeal.τ).loc Cert.AttnPIdeal.main_arg2)) (m ((c.tc : Thread Cert.AttnPIdeal.nD Cert.AttnPIdeal.τ).loc Cert.AttnPIdeal.main_arg3))) i = 1#1 → r.2.mem ((c.tc : Thread Cert.AttnPIdeal.nD Cert.AttnPIdeal.τ).loc Cert.AttnPIdeal.main_v34) i = v0 c i)
          ∧ r.2.mem ((c.tc : Thread Cert.AttnPIdeal.nD Cert.AttnPIdeal.τ).loc Cert.AttnPIdeal.main_arg0) = m ((c.tc : Thread Cert.AttnPIdeal.nD Cert.AttnPIdeal.τ).loc Cert.AttnPIdeal.main_arg0)
          ∧ r.2.mem ((c.tc : Thread Cert.AttnPIdeal.nD Cert.AttnPIdeal.τ).loc Cert.AttnPIdeal.main_arg1) = m ((c.tc : Thread Cert.AttnPIdeal.nD Cert.AttnPIdeal.τ).loc Cert.AttnPIdeal.main_arg1)
          ∧ r.2.mem ((c.tc : Thread Cert.AttnPIdeal.nD Cert.AttnPIdeal.τ).loc Cert.AttnPIdeal.main_arg2) = m ((c.tc : Thread Cert.AttnPIdeal.nD Cert.AttnPIdeal.τ).loc Cert.AttnPIdeal.main_arg2)
          ∧ r.2.mem ((c.tc : Thread Cert.AttnPIdeal.nD Cert.AttnPIdeal.τ).loc Cert.AttnPIdeal.main_arg3) = m ((c.tc : Thread Cert.AttnPIdeal.nD Cert.AttnPIdeal.τ).loc Cert.AttnPIdeal.main_arg3))
      ∧ θ_run (Cert.AttnPRefIdeal.defs (F := Ideal)) (onTc (τ := Cert.AttnPRefIdeal.τ) (Cert.AttnPRefIdeal.main (F := Ideal))) ⟨m', fun _ => 0, g'⟩ (fun r => ∀ c : Dev Cert.AttnPRefIdeal.nD,
          (∀ i : (⟨2, ![8704, 1024]⟩ : Shape).Idx, (Cert.On_prompt_rows.fn (F := Ideal) (m ((c.tc : Thread Cert.AttnPIdeal.nD Cert.AttnPIdeal.τ).loc Cert.AttnPIdeal.main_arg0)) (m ((c.tc : Thread Cert.AttnPIdeal.nD Cert.AttnPIdeal.τ).loc Cert.AttnPIdeal.main_arg1)) (m ((c.tc : Thread Cert.AttnPIdeal.nD Cert.AttnPIdeal.τ).loc Cert.AttnPIdeal.main_arg2)) (m ((c.tc : Thread Cert.AttnPIdeal.nD Cert.AttnPIdeal.τ).loc Cert.AttnPIdeal.main_arg3))) i = 1#1 → r.2.mem ((c.tc : Thread Cert.AttnPRefIdeal.nD Cert.AttnPRefIdeal.τ).loc Cert.AttnPRefIdeal.main_v86) i = v0 c i)
          ∧ r.2.mem ((c.tc : Thread Cert.AttnPRefIdeal.nD Cert.AttnPRefIdeal.τ).loc Cert.AttnPRefIdeal.main_arg0) = m' ((c.tc : Thread Cert.AttnPRefIdeal.nD Cert.AttnPRefIdeal.τ).loc Cert.AttnPRefIdeal.main_arg0)
          ∧ r.2.mem ((c.tc : Thread Cert.AttnPRefIdeal.nD Cert.AttnPRefIdeal.τ).loc Cert.AttnPRefIdeal.main_arg1) = m' ((c.tc : Thread Cert.AttnPRefIdeal.nD Cert.AttnPRefIdeal.τ).loc Cert.AttnPRefIdeal.main_arg1)
          ∧ r.2.mem ((c.tc : Thread Cert.AttnPRefIdeal.nD Cert.AttnPRefIdeal.τ).loc Cert.AttnPRefIdeal.main_arg2) = m' ((c.tc : Thread Cert.AttnPRefIdeal.nD Cert.AttnPRefIdeal.τ).loc Cert.AttnPRefIdeal.main_arg2)
          ∧ r.2.mem ((c.tc : Thread Cert.AttnPRefIdeal.nD Cert.AttnPRefIdeal.τ).loc Cert.AttnPRefIdeal.main_arg3) = m' ((c.tc : Thread Cert.AttnPRefIdeal.nD Cert.AttnPRefIdeal.τ).loc Cert.AttnPRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v9) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v1) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v16) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v18) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v5_0)) (v1 : (c : Dev Cert.MergeIdeal.nD) → Buf (Elt Ideal) ((c.tc : Thread Cert.MergeIdeal.nD Cert.MergeIdeal.τ).loc Cert.MergeIdeal.main_v5_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5_0) = v0 c
          ∧ r.2.mem ((c.tc : Thread Cert.MergeIdeal.nD Cert.MergeIdeal.τ).loc Cert.MergeIdeal.main_v5_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v28) = v0 c
          ∧ r.2.mem ((c.tc : Thread Cert.MergeRefIdeal.nD Cert.MergeRefIdeal.τ).loc Cert.MergeRefIdeal.main_v44) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v4_0)) (v1 : (c : Dev Cert.PleIdeal.nD) → Buf (Elt Ideal) ((c.tc : Thread Cert.PleIdeal.nD Cert.PleIdeal.τ).loc Cert.PleIdeal.main_v4_1)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v4_0) = v0 c
          ∧ r.2.mem ((c.tc : Thread Cert.PleIdeal.nD Cert.PleIdeal.τ).loc Cert.PleIdeal.main_v4_1) = v1 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v30) = v0 c
          ∧ r.2.mem ((c.tc : Thread Cert.PleRefIdeal.nD Cert.PleRefIdeal.τ).loc Cert.PleRefIdeal.main_v46) = v1 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_GmlpIn_GmlpInIdeal : Prop :=
  True

def algebraic_GmlpInIdeal_GmlpInRefIdeal [hGmlpInIdeal : Cert.GmlpInIdeal.Facts] [hGmlpInRefIdeal : Cert.GmlpInRefIdeal.Facts] : Prop :=
  ∀ (m : (ℓ : Loc Cert.GmlpInIdeal.nD Cert.GmlpInIdeal.τ Cert.GmlpInIdeal.sig) → Buf (Elt Ideal) ℓ) (g : Dev Cert.GmlpInIdeal.nD → PrngReg)
    (m' : (ℓ : Loc Cert.GmlpInRefIdeal.nD Cert.GmlpInRefIdeal.τ Cert.GmlpInRefIdeal.sig) → Buf (Elt Ideal) ℓ) (g' : Dev Cert.GmlpInRefIdeal.nD → PrngReg), Pre_GmlpInIdeal m →
    (∀ c : Dev Cert.GmlpInIdeal.nD,
      m' ((c.tc : Thread Cert.GmlpInRefIdeal.nD Cert.GmlpInRefIdeal.τ).loc Cert.GmlpInRefIdeal.main_arg0) = m ((c.tc : Thread Cert.GmlpInIdeal.nD Cert.GmlpInIdeal.τ).loc Cert.GmlpInIdeal.main_arg0)
      ∧ m' ((c.tc : Thread Cert.GmlpInRefIdeal.nD Cert.GmlpInRefIdeal.τ).loc Cert.GmlpInRefIdeal.main_arg1) = m ((c.tc : Thread Cert.GmlpInIdeal.nD Cert.GmlpInIdeal.τ).loc Cert.GmlpInIdeal.main_arg1)
      ∧ m' ((c.tc : Thread Cert.GmlpInRefIdeal.nD Cert.GmlpInRefIdeal.τ).loc Cert.GmlpInRefIdeal.main_arg2) = m ((c.tc : Thread Cert.GmlpInIdeal.nD Cert.GmlpInIdeal.τ).loc Cert.GmlpInIdeal.main_arg2)
      ∧ m' ((c.tc : Thread Cert.GmlpInRefIdeal.nD Cert.GmlpInRefIdeal.τ).loc Cert.GmlpInRefIdeal.main_arg3) = m ((c.tc : Thread Cert.GmlpInIdeal.nD Cert.GmlpInIdeal.τ).loc Cert.GmlpInIdeal.main_arg3)) →
    ∃ (v0 : (c : Dev Cert.GmlpInIdeal.nD) → Buf (Elt Ideal) ((c.tc : Thread Cert.GmlpInIdeal.nD Cert.GmlpInIdeal.τ).loc Cert.GmlpInIdeal.main_v3_0)) (v1 : (c : Dev Cert.GmlpInIdeal.nD) → Buf (Elt Ideal) ((c.tc : Thread Cert.GmlpInIdeal.nD Cert.GmlpInIdeal.τ).loc Cert.GmlpInIdeal.main_v3_1)),
      θ_run (Cert.GmlpInIdeal.defs (F := Ideal)) (onTc (τ := Cert.GmlpInIdeal.τ) (Cert.GmlpInIdeal.main (F := Ideal))) ⟨m, fun _ => 0, g⟩ (fun r => ∀ c : Dev Cert.GmlpInIdeal.nD,
          r.2.mem ((c.tc : Thread Cert.GmlpInIdeal.nD Cert.GmlpInIdeal.τ).loc Cert.GmlpInIdeal.main_v3_0) = v0 c
          ∧ r.2.mem ((c.tc : Thread Cert.GmlpInIdeal.nD Cert.GmlpInIdeal.τ).loc Cert.GmlpInIdeal.main_v3_1) = v1 c
          ∧ r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
          ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1)
          ∧ r.2.mem ((c.tc : Thread Cert.GmlpInIdeal.nD Cert.GmlpInIdeal.τ).loc Cert.GmlpInIdeal.main_arg2) = m ((c.tc : Thread Cert.GmlpInIdeal.nD Cert.GmlpInIdeal.τ).loc Cert.GmlpInIdeal.main_arg2)
          ∧ r.2.mem ((c.tc : Thread Cert.GmlpInIdeal.nD Cert.GmlpInIdeal.τ).loc Cert.GmlpInIdeal.main_arg3) = m ((c.tc : Thread Cert.GmlpInIdeal.nD Cert.GmlpInIdeal.τ).loc Cert.GmlpInIdeal.main_arg3))
      ∧ θ_run (Cert.GmlpInRefIdeal.defs (F := Ideal)) (onTc (τ := Cert.GmlpInRefIdeal.τ) (Cert.GmlpInRefIdeal.main (F := Ideal))) ⟨m', fun _ => 0, g'⟩ (fun r => ∀ c : Dev Cert.GmlpInRefIdeal.nD,
          r.2.mem ((c.tc : Thread Cert.GmlpInRefIdeal.nD Cert.GmlpInRefIdeal.τ).loc Cert.GmlpInRefIdeal.main_v25) = v0 c
          ∧ r.2.mem ((c.tc : Thread Cert.GmlpInRefIdeal.nD Cert.GmlpInRefIdeal.τ).loc Cert.GmlpInRefIdeal.main_v51) = v1 c
          ∧ r.2.mem ((c.tc : Thread Cert.GmlpInRefIdeal.nD Cert.GmlpInRefIdeal.τ).loc Cert.GmlpInRefIdeal.main_arg0) = m' ((c.tc : Thread Cert.GmlpInRefIdeal.nD Cert.GmlpInRefIdeal.τ).loc Cert.GmlpInRefIdeal.main_arg0)
          ∧ r.2.mem ((c.tc : Thread Cert.GmlpInRefIdeal.nD Cert.GmlpInRefIdeal.τ).loc Cert.GmlpInRefIdeal.main_arg1) = m' ((c.tc : Thread Cert.GmlpInRefIdeal.nD Cert.GmlpInRefIdeal.τ).loc Cert.GmlpInRefIdeal.main_arg1)
          ∧ r.2.mem ((c.tc : Thread Cert.GmlpInRefIdeal.nD Cert.GmlpInRefIdeal.τ).loc Cert.GmlpInRefIdeal.main_arg2) = m' ((c.tc : Thread Cert.GmlpInRefIdeal.nD Cert.GmlpInRefIdeal.τ).loc Cert.GmlpInRefIdeal.main_arg2)
          ∧ r.2.mem ((c.tc : Thread Cert.GmlpInRefIdeal.nD Cert.GmlpInRefIdeal.τ).loc Cert.GmlpInRefIdeal.main_arg3) = m' ((c.tc : Thread Cert.GmlpInRefIdeal.nD Cert.GmlpInRefIdeal.τ).loc Cert.GmlpInRefIdeal.main_arg3))

def preserves_Qkv_QkvIdeal : Prop :=
  True

def algebraic_QkvIdeal_QkvRefIdeal_on_kept_rows [hQkvIdeal : Cert.QkvIdeal.Facts] [hQkvRefIdeal : Cert.QkvRefIdeal.Facts] [hOn_kept_rows : Cert.On_kept_rows.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v1_0)) (v1 : (c : Dev Cert.QkvIdeal.nD) → Buf (Elt Ideal) ((c.tc : Thread Cert.QkvIdeal.nD Cert.QkvIdeal.τ).loc Cert.QkvIdeal.main_v1_1)) (v2 : (c : Dev Cert.QkvIdeal.nD) → Buf (Elt Ideal) ((c.tc : Thread Cert.QkvIdeal.nD Cert.QkvIdeal.τ).loc Cert.QkvIdeal.main_v1_2)) (v3 : (c : Dev Cert.QkvIdeal.nD) → Buf (Elt Ideal) ((c.tc : Thread Cert.QkvIdeal.nD Cert.QkvIdeal.τ).loc Cert.QkvIdeal.main_v1_3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          (∀ i : (⟨2, ![8704, 1024]⟩ : Shape).Idx, (Cert.On_kept_rows.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1))).1 i = 1#1 → r.2.mem ((c.tc : Thread Cert.QkvIdeal.nD Cert.QkvIdeal.τ).loc Cert.QkvIdeal.main_v1_0) i = v0 c i)
          ∧ (∀ i : (⟨2, ![8704, 1024]⟩ : Shape).Idx, (Cert.On_kept_rows.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1))).2.1 i = 1#1 → r.2.mem ((c.tc : Thread Cert.QkvIdeal.nD Cert.QkvIdeal.τ).loc Cert.QkvIdeal.main_v1_1) i = v1 c i)
          ∧ (∀ i : (⟨2, ![8704, 1024]⟩ : Shape).Idx, (Cert.On_kept_rows.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1))).2.2.1 i = 1#1 → r.2.mem ((c.tc : Thread Cert.QkvIdeal.nD Cert.QkvIdeal.τ).loc Cert.QkvIdeal.main_v1_2) i = v2 c i)
          ∧ (∀ i : (⟨2, ![2048, 2048]⟩ : Shape).Idx, (Cert.On_kept_rows.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1))).2.2.2 i = 1#1 → r.2.mem ((c.tc : Thread Cert.QkvIdeal.nD Cert.QkvIdeal.τ).loc Cert.QkvIdeal.main_v1_3) i = v3 c i)
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          (∀ i : (⟨2, ![8704, 1024]⟩ : Shape).Idx, (Cert.On_kept_rows.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1))).1 i = 1#1 → r.2.mem ((c.tc : Thread Cert.QkvRefIdeal.nD Cert.QkvRefIdeal.τ).loc Cert.QkvRefIdeal.main_v18) i = v0 c i)
          ∧ (∀ i : (⟨2, ![8704, 1024]⟩ : Shape).Idx, (Cert.On_kept_rows.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1))).2.1 i = 1#1 → r.2.mem ((c.tc : Thread Cert.QkvRefIdeal.nD Cert.QkvRefIdeal.τ).loc Cert.QkvRefIdeal.main_v19) i = v1 c i)
          ∧ (∀ i : (⟨2, ![8704, 1024]⟩ : Shape).Idx, (Cert.On_kept_rows.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1))).2.2.1 i = 1#1 → r.2.mem ((c.tc : Thread Cert.QkvRefIdeal.nD Cert.QkvRefIdeal.τ).loc Cert.QkvRefIdeal.main_v20) i = v2 c i)
          ∧ (∀ i : (⟨2, ![2048, 2048]⟩ : Shape).Idx, (Cert.On_kept_rows.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1))).2.2.2 i = 1#1 → r.2.mem ((c.tc : Thread Cert.QkvRefIdeal.nD Cert.QkvRefIdeal.τ).loc Cert.QkvRefIdeal.main_v21) i = v3 c i)
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v15) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_GmlpMix_GmlpMixIdeal : Prop :=
  True

def algebraic_GmlpMixIdeal_GmlpMixRefIdeal [hGmlpMixIdeal : Cert.GmlpMixIdeal.Facts] [hGmlpMixRefIdeal : Cert.GmlpMixRefIdeal.Facts] : Prop :=
  ∀ (m : (ℓ : Loc Cert.GmlpMixIdeal.nD Cert.GmlpMixIdeal.τ Cert.GmlpMixIdeal.sig) → Buf (Elt Ideal) ℓ) (g : Dev Cert.GmlpMixIdeal.nD → PrngReg)
    (m' : (ℓ : Loc Cert.GmlpMixRefIdeal.nD Cert.GmlpMixRefIdeal.τ Cert.GmlpMixRefIdeal.sig) → Buf (Elt Ideal) ℓ) (g' : Dev Cert.GmlpMixRefIdeal.nD → PrngReg), Pre_GmlpMixIdeal m →
    (∀ c : Dev Cert.GmlpMixIdeal.nD,
      m' ((c.tc : Thread Cert.GmlpMixRefIdeal.nD Cert.GmlpMixRefIdeal.τ).loc Cert.GmlpMixRefIdeal.main_arg0) = m ((c.tc : Thread Cert.GmlpMixIdeal.nD Cert.GmlpMixIdeal.τ).loc Cert.GmlpMixIdeal.main_arg0)
      ∧ m' ((c.tc : Thread Cert.GmlpMixRefIdeal.nD Cert.GmlpMixRefIdeal.τ).loc Cert.GmlpMixRefIdeal.main_arg1) = m ((c.tc : Thread Cert.GmlpMixIdeal.nD Cert.GmlpMixIdeal.τ).loc Cert.GmlpMixIdeal.main_arg1)
      ∧ m' ((c.tc : Thread Cert.GmlpMixRefIdeal.nD Cert.GmlpMixRefIdeal.τ).loc Cert.GmlpMixRefIdeal.main_arg2) = m ((c.tc : Thread Cert.GmlpMixIdeal.nD Cert.GmlpMixIdeal.τ).loc Cert.GmlpMixIdeal.main_arg2)
      ∧ m' ((c.tc : Thread Cert.GmlpMixRefIdeal.nD Cert.GmlpMixRefIdeal.τ).loc Cert.GmlpMixRefIdeal.main_arg3) = m ((c.tc : Thread Cert.GmlpMixIdeal.nD Cert.GmlpMixIdeal.τ).loc Cert.GmlpMixIdeal.main_arg3)) →
    ∃ (v0 : (c : Dev Cert.GmlpMixIdeal.nD) → Buf (Elt Ideal) ((c.tc : Thread Cert.GmlpMixIdeal.nD Cert.GmlpMixIdeal.τ).loc Cert.GmlpMixIdeal.main_v21)),
      θ_run (Cert.GmlpMixIdeal.defs (F := Ideal)) (onTc (τ := Cert.GmlpMixIdeal.τ) (Cert.GmlpMixIdeal.main (F := Ideal))) ⟨m, fun _ => 0, g⟩ (fun r => ∀ c : Dev Cert.GmlpMixIdeal.nD,
          r.2.mem ((c.tc : Thread Cert.GmlpMixIdeal.nD Cert.GmlpMixIdeal.τ).loc Cert.GmlpMixIdeal.main_v21) = v0 c
          ∧ r.2.mem ((c.tc : Thread Cert.GmlpMixIdeal.nD Cert.GmlpMixIdeal.τ).loc Cert.GmlpMixIdeal.main_arg0) = m ((c.tc : Thread Cert.GmlpMixIdeal.nD Cert.GmlpMixIdeal.τ).loc Cert.GmlpMixIdeal.main_arg0)
          ∧ r.2.mem ((c.tc : Thread Cert.GmlpMixIdeal.nD Cert.GmlpMixIdeal.τ).loc Cert.GmlpMixIdeal.main_arg1) = m ((c.tc : Thread Cert.GmlpMixIdeal.nD Cert.GmlpMixIdeal.τ).loc Cert.GmlpMixIdeal.main_arg1)
          ∧ r.2.mem ((c.tc : Thread Cert.GmlpMixIdeal.nD Cert.GmlpMixIdeal.τ).loc Cert.GmlpMixIdeal.main_arg2) = m ((c.tc : Thread Cert.GmlpMixIdeal.nD Cert.GmlpMixIdeal.τ).loc Cert.GmlpMixIdeal.main_arg2)
          ∧ r.2.mem ((c.tc : Thread Cert.GmlpMixIdeal.nD Cert.GmlpMixIdeal.τ).loc Cert.GmlpMixIdeal.main_arg3) = m ((c.tc : Thread Cert.GmlpMixIdeal.nD Cert.GmlpMixIdeal.τ).loc Cert.GmlpMixIdeal.main_arg3))
      ∧ θ_run (Cert.GmlpMixRefIdeal.defs (F := Ideal)) (onTc (τ := Cert.GmlpMixRefIdeal.τ) (Cert.GmlpMixRefIdeal.main (F := Ideal))) ⟨m', fun _ => 0, g'⟩ (fun r => ∀ c : Dev Cert.GmlpMixRefIdeal.nD,
          r.2.mem ((c.tc : Thread Cert.GmlpMixRefIdeal.nD Cert.GmlpMixRefIdeal.τ).loc Cert.GmlpMixRefIdeal.main_v44) = v0 c
          ∧ r.2.mem ((c.tc : Thread Cert.GmlpMixRefIdeal.nD Cert.GmlpMixRefIdeal.τ).loc Cert.GmlpMixRefIdeal.main_arg0) = m' ((c.tc : Thread Cert.GmlpMixRefIdeal.nD Cert.GmlpMixRefIdeal.τ).loc Cert.GmlpMixRefIdeal.main_arg0)
          ∧ r.2.mem ((c.tc : Thread Cert.GmlpMixRefIdeal.nD Cert.GmlpMixRefIdeal.τ).loc Cert.GmlpMixRefIdeal.main_arg1) = m' ((c.tc : Thread Cert.GmlpMixRefIdeal.nD Cert.GmlpMixRefIdeal.τ).loc Cert.GmlpMixRefIdeal.main_arg1)
          ∧ r.2.mem ((c.tc : Thread Cert.GmlpMixRefIdeal.nD Cert.GmlpMixRefIdeal.τ).loc Cert.GmlpMixRefIdeal.main_arg2) = m' ((c.tc : Thread Cert.GmlpMixRefIdeal.nD Cert.GmlpMixRefIdeal.τ).loc Cert.GmlpMixRefIdeal.main_arg2)
          ∧ r.2.mem ((c.tc : Thread Cert.GmlpMixRefIdeal.nD Cert.GmlpMixRefIdeal.τ).loc Cert.GmlpMixRefIdeal.main_arg3) = m' ((c.tc : Thread Cert.GmlpMixRefIdeal.nD Cert.GmlpMixRefIdeal.τ).loc Cert.GmlpMixRefIdeal.main_arg3))

def Claim : Prop :=
  ∃ (hAttnP : Cert.AttnP.Facts) (hAttnPIdeal : Cert.AttnPIdeal.Facts) (hAttnPRefIdeal : Cert.AttnPRefIdeal.Facts) (hFfn : Cert.Ffn.Facts) (hFfnIdeal : Cert.FfnIdeal.Facts) (hFfnRefIdeal : Cert.FfnRefIdeal.Facts) (hGates : Cert.Gates.Facts) (hGatesIdeal : Cert.GatesIdeal.Facts) (hGatesRefIdeal : Cert.GatesRefIdeal.Facts) (hGlu : Cert.Glu.Facts) (hGluIdeal : Cert.GluIdeal.Facts) (hGluRefIdeal : Cert.GluRefIdeal.Facts) (hMerge : Cert.Merge.Facts) (hMergeIdeal : Cert.MergeIdeal.Facts) (hMergeRefIdeal : Cert.MergeRefIdeal.Facts) (hPle : Cert.Ple.Facts) (hPleIdeal : Cert.PleIdeal.Facts) (hPleRefIdeal : Cert.PleRefIdeal.Facts) (hGmlpIn : Cert.GmlpIn.Facts) (hGmlpInIdeal : Cert.GmlpInIdeal.Facts) (hGmlpInRefIdeal : Cert.GmlpInRefIdeal.Facts) (hQkv : Cert.Qkv.Facts) (hQkvIdeal : Cert.QkvIdeal.Facts) (hQkvRefIdeal : Cert.QkvRefIdeal.Facts) (hRms : Cert.Rms.Facts) (hRmsIdeal : Cert.RmsIdeal.Facts) (hRmsRefIdeal : Cert.RmsRefIdeal.Facts) (hGmlpMix : Cert.GmlpMix.Facts) (hGmlpMixIdeal : Cert.GmlpMixIdeal.Facts) (hGmlpMixRefIdeal : Cert.GmlpMixRefIdeal.Facts) (hPre_finite_attn : Cert.Pre_finite_attn.Facts) (hOn_prompt_rows : Cert.On_prompt_rows.Facts) (hOn_kept_rows : Cert.On_kept_rows.Facts),
    quiescent_AttnP (hAttnP := hAttnP)
    ∧ quiescent_AttnPIdeal (hAttnPIdeal := hAttnPIdeal)
    ∧ quiescent_AttnPIdeal_pre_finite_attn (hAttnPIdeal := hAttnPIdeal) (hPre_finite_attn := hPre_finite_attn)
    ∧ quiescent_AttnPRefIdeal (hAttnPRefIdeal := hAttnPRefIdeal)
    ∧ quiescent_AttnPRefIdeal_pre_finite_attn (hAttnPRefIdeal := hAttnPRefIdeal) (hPre_finite_attn := hPre_finite_attn)
    ∧ quiescent_Ffn (hFfn := hFfn)
    ∧ quiescent_FfnIdeal (hFfnIdeal := hFfnIdeal)
    ∧ quiescent_FfnRefIdeal (hFfnRefIdeal := hFfnRefIdeal)
    ∧ quiescent_Gates (hGates := hGates)
    ∧ quiescent_GatesIdeal (hGatesIdeal := hGatesIdeal)
    ∧ quiescent_GatesRefIdeal (hGatesRefIdeal := hGatesRefIdeal)
    ∧ quiescent_Glu (hGlu := hGlu)
    ∧ quiescent_GluIdeal (hGluIdeal := hGluIdeal)
    ∧ quiescent_GluRefIdeal (hGluRefIdeal := hGluRefIdeal)
    ∧ quiescent_Merge (hMerge := hMerge)
    ∧ quiescent_MergeIdeal (hMergeIdeal := hMergeIdeal)
    ∧ quiescent_MergeRefIdeal (hMergeRefIdeal := hMergeRefIdeal)
    ∧ quiescent_Ple (hPle := hPle)
    ∧ quiescent_PleIdeal (hPleIdeal := hPleIdeal)
    ∧ quiescent_PleRefIdeal (hPleRefIdeal := hPleRefIdeal)
    ∧ quiescent_GmlpIn (hGmlpIn := hGmlpIn)
    ∧ quiescent_GmlpInIdeal (hGmlpInIdeal := hGmlpInIdeal)
    ∧ quiescent_GmlpInRefIdeal (hGmlpInRefIdeal := hGmlpInRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Rms (hRms := hRms)
    ∧ quiescent_RmsIdeal (hRmsIdeal := hRmsIdeal)
    ∧ quiescent_RmsRefIdeal (hRmsRefIdeal := hRmsRefIdeal)
    ∧ quiescent_GmlpMix (hGmlpMix := hGmlpMix)
    ∧ quiescent_GmlpMixIdeal (hGmlpMixIdeal := hGmlpMixIdeal)
    ∧ quiescent_GmlpMixRefIdeal (hGmlpMixRefIdeal := hGmlpMixRefIdeal)
    ∧ preserves_AttnP_AttnPIdeal
    ∧ algebraic_AttnPIdeal_AttnPRefIdeal_on_prompt_rows_pre_finite_attn (hAttnPIdeal := hAttnPIdeal) (hAttnPRefIdeal := hAttnPRefIdeal) (hPre_finite_attn := hPre_finite_attn) (hOn_prompt_rows := hOn_prompt_rows)
    ∧ preserves_Ffn_FfnIdeal
    ∧ algebraic_FfnIdeal_FfnRefIdeal (hFfnIdeal := hFfnIdeal) (hFfnRefIdeal := hFfnRefIdeal)
    ∧ preserves_Gates_GatesIdeal
    ∧ algebraic_GatesIdeal_GatesRefIdeal (hGatesIdeal := hGatesIdeal) (hGatesRefIdeal := hGatesRefIdeal)
    ∧ preserves_Glu_GluIdeal
    ∧ algebraic_GluIdeal_GluRefIdeal (hGluIdeal := hGluIdeal) (hGluRefIdeal := hGluRefIdeal)
    ∧ preserves_Merge_MergeIdeal
    ∧ algebraic_MergeIdeal_MergeRefIdeal (hMergeIdeal := hMergeIdeal) (hMergeRefIdeal := hMergeRefIdeal)
    ∧ preserves_Ple_PleIdeal
    ∧ algebraic_PleIdeal_PleRefIdeal (hPleIdeal := hPleIdeal) (hPleRefIdeal := hPleRefIdeal)
    ∧ preserves_GmlpIn_GmlpInIdeal
    ∧ algebraic_GmlpInIdeal_GmlpInRefIdeal (hGmlpInIdeal := hGmlpInIdeal) (hGmlpInRefIdeal := hGmlpInRefIdeal)
    ∧ preserves_Qkv_QkvIdeal
    ∧ algebraic_QkvIdeal_QkvRefIdeal_on_kept_rows (hQkvIdeal := hQkvIdeal) (hQkvRefIdeal := hQkvRefIdeal) (hOn_kept_rows := hOn_kept_rows)
    ∧ preserves_Rms_RmsIdeal
    ∧ algebraic_RmsIdeal_RmsRefIdeal (hRmsIdeal := hRmsIdeal) (hRmsRefIdeal := hRmsRefIdeal)
    ∧ preserves_GmlpMix_GmlpMixIdeal
    ∧ algebraic_GmlpMixIdeal_GmlpMixRefIdeal (hGmlpMixIdeal := hGmlpMixIdeal) (hGmlpMixRefIdeal := hGmlpMixRefIdeal)
-- ==== On_kept_rows.lean ====
abbrev S8704x2048 : Shape := ⟨2, ![8704, 2048]⟩
abbrev S4x2048x13312 : Shape := ⟨3, ![4, 2048, 13312]⟩
abbrev S_ : Shape := ⟨0, ![]⟩
abbrev S8704x1024 : Shape := ⟨2, ![8704, 1024]⟩
abbrev S2048x2048 : Shape := ⟨2, ![2048, 2048]⟩

class Facts : Prop where
  bcast_S_S8704x1024 : S_.BroadcastsInDim S8704x1024 (![] : Fin 0 → Fin S8704x1024.rank)
  bcast_S_S2048x2048 : S_.BroadcastsInDim S2048x2048 (![] : Fin 0 → Fin S2048x2048.rank)

variable [Facts]

def fn {F : FTy → Type} [FloatOps F] (main_arg0 : FVec F S8704x2048 .bf16) (main_arg1 : FVec F S4x2048x13312 .f32) : IVec S8704x1024 1 × IVec S8704x1024 1 × IVec S8704x1024 1 × IVec S2048x2048 1 :=
  let main_c : IVec S_ 1 := constantI S_ 1 1#1
  let main_v0 : IVec S8704x1024 1 := broadcastInDim S8704x1024 ![] bcast_S_S8704x1024 main_c
  let main_v1 : IVec S2048x2048 32 := iotaInDim S2048x2048 32 0
  let main_c_0 : IVec S_ 32 := constantI S_ 32 1536#32
  let main_v2 : IVec S2048x2048 32 := broadcastInDim S2048x2048 ![] bcast_S_S2048x2048 main_c_0
  let main_v3 : IVec S2048x2048 1 := cmpi .slt main_v1 main_v2
  (main_v0, main_v0, main_v0, main_v3)
-- ==== On_prompt_rows.lean ====
abbrev S8704x1024 : Shape := ⟨2, ![8704, 1024]⟩
abbrev S8x257 : Shape := ⟨2, ![8, 257]⟩
abbrev S_ : Shape := ⟨0, ![]⟩

class Facts : Prop where
  bcast_S_S8704x1024 : S_.BroadcastsInDim S8704x1024 (![] : Fin 0 → Fin S8704x1024.rank)

variable [Facts]

def fn {F : FTy → Type} [FloatOps F] (main_arg0 : FVec F S8704x1024 .bf16) (main_arg1 : FVec F S8704x1024 .bf16) (main_arg2 : FVec F S8704x1024 .bf16) (main_arg3 : FVec F S8x257 .f32) : IVec S8704x1024 1 :=
  let main_v0 : IVec S8704x1024 32 := iotaInDim S8704x1024 32 0
  let main_c : IVec S_ 32 := constantI S_ 32 8192#32
  let main_v1 : IVec S8704x1024 32 := broadcastInDim S8704x1024 ![] bcast_S_S8704x1024 main_c
  let main_v2 : IVec S8704x1024 1 := cmpi .slt main_v0 main_v1
  main_v2
-- ==== Pre_finite_attn.lean ====
abbrev S8704x1024 : Shape := ⟨2, ![8704, 1024]⟩
abbrev S8x257 : Shape := ⟨2, ![8, 257]⟩
abbrev S_ : Shape := ⟨0, ![]⟩

class Facts : Prop where
  bitsLt_bf16_f32 : FTy.bits .bf16 < FTy.bits .f32
  bcast_S_S8704x1024 : S_.BroadcastsInDim S8704x1024 (![] : Fin 0 → Fin S8704x1024.rank)
  reducesTo_S8704x1024_S_d0_1 : S8704x1024.ReducesTo [0, 1] S_
  h_S_ : 0 < S_.numel
  bcast_S_S8x257 : S_.BroadcastsInDim S8x257 (![] : Fin 0 → Fin S8x257.rank)
  reducesTo_S8x257_S_d0_1 : S8x257.ReducesTo [0, 1] S_

variable [Facts]

def fn {F : FTy → Type} [FloatOps F] (main_arg0 : FVec F S8704x1024 .bf16) (main_arg1 : FVec F S8704x1024 .bf16) (main_arg2 : FVec F S8704x1024 .bf16) (main_arg3 : FVec F S8x257 .f32) : IVec S_ 1 :=
  let main_v0 : FVec F S8704x1024 .f32 := (extf .f32 · bitsLt_bf16_f32) main_arg0
  let main_v1 : FVec F S8704x1024 .f32 := Host.absf main_v0
  let main_cst : FVec F S_ .f32 := constant S_ .f32 0x7F800000#32
  let main_v2 : FVec F S8704x1024 .f32 := broadcastInDim S8704x1024 ![] bcast_S_S8704x1024 main_cst
  let main_v3 : IVec S8704x1024 1 := cmpf .olt main_v1 main_v2
  let main_c : IVec S_ 1 := constantI S_ 1 1#1
  let main_v4 : IVec S_ 1 := (fun x v => Host.reduce IntOp.andi x v reducesTo_S8704x1024_S_d0_1 h_S_) main_v3 main_c
  let main_v5 : FVec F S8704x1024 .f32 := (extf .f32 · bitsLt_bf16_f32) main_arg1
  let main_v6 : FVec F S8704x1024 .f32 := Host.absf main_v5
  let main_cst_0 : FVec F S_ .f32 := constant S_ .f32 0x7F800000#32
  let main_v7 : FVec F S8704x1024 .f32 := broadcastInDim S8704x1024 ![] bcast_S_S8704x1024 main_cst_0
  let main_v8 : IVec S8704x1024 1 := cmpf .olt main_v6 main_v7
  let main_c_1 : IVec S_ 1 := constantI S_ 1 1#1
  let main_v9 : IVec S_ 1 := (fun x v => Host.reduce IntOp.andi x v reducesTo_S8704x1024_S_d0_1 h_S_) main_v8 main_c_1
  let main_v10 : IVec S_ 1 := andi main_v4 main_v9
  let main_v11 : FVec F S8x257 .f32 := Host.absf main_arg3
  let main_cst_2 : FVec F S_ .f32 := constant S_ .f32 0x7F800000#32
  let main_v12 : FVec F S8x257 .f32 := broadcastInDim S8x257 ![] bcast_S_S8x257 main_cst_2
  let main_v13 : IVec S8x257 1 := cmpf .olt main_v11 main_v12
  let main_c_3 : IVec S_ 1 := constantI S_ 1 1#1
  let main_v14 : IVec S_ 1 := (fun x v => Host.reduce IntOp.andi x v reducesTo_S8x257_S_d0_1 h_S_) main_v13 main_c_3
  let main_v15 : IVec S_ 1 := andi main_v10 main_v14
  main_v15
-- ==== AttnP.lean ====
abbrev S8704x1024 : Shape := ⟨2, ![8704, 1024]⟩
abbrev S8x257 : Shape := ⟨2, ![8, 257]⟩
abbrev S256 : Shape := ⟨1, ![256]⟩
abbrev S256x1 : Shape := ⟨2, ![256, 1]⟩
abbrev S768 : Shape := ⟨1, ![768]⟩
abbrev S1x768 : Shape := ⟨2, ![1, 768]⟩
abbrev S_ : Shape := ⟨0, ![]⟩
abbrev S256x768 : Shape := ⟨2, ![256, 768]⟩
abbrev S1x256x768 : Shape := ⟨3, ![1, 256, 768]⟩
abbrev S256x768x1 : Shape := ⟨3, ![256, 768, 1]⟩
abbrev S8x256x768 : Shape := ⟨3, ![8, 256, 768]⟩
abbrev S256x1024 : Shape := ⟨2, ![256, 1024]⟩
abbrev S256x128 : Shape := ⟨2, ![256, 128]⟩
abbrev S256x256 : Shape := ⟨2, ![256, 256]⟩
abbrev S1x256x256 : Shape := ⟨3, ![1, 256, 256]⟩

abbrev nBuf : Space → Nat
  | .hbm => 90
  | .vmem => 17
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x1024, .bf16⟩
  | .hbm, ⟨3, _⟩ => ⟨S8x257, .f32⟩
  | .hbm, ⟨4, _⟩ => ⟨S256, .i32⟩
  | .hbm, ⟨5, _⟩ => ⟨S256x1, .i32⟩
  | .hbm, ⟨6, _⟩ => ⟨S768, .i32⟩
  | .hbm, ⟨7, _⟩ => ⟨S1x768, .i32⟩
  | .hbm, ⟨8, _⟩ => ⟨S_, .i32⟩
  | .hbm, ⟨9, _⟩ => ⟨S1x768, .i32⟩
  | .hbm, ⟨10, _⟩ => ⟨S1x768, .i32⟩
  | .hbm, ⟨11, _⟩ => ⟨S256x768, .i32⟩
  | .hbm, ⟨12, _⟩ => ⟨S256x768, .i32⟩
  | .hbm, ⟨13, _⟩ => ⟨S256x768, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S256x768, .i32⟩
  | .hbm, ⟨18, _⟩ => ⟨S256x768, .i32⟩
  | .hbm, ⟨19, _⟩ => ⟨S_, .i32⟩
  | .hbm, ⟨20, _⟩ => ⟨S256x768, .i32⟩
  | .hbm, ⟨21, _⟩ => ⟨S256x768, .i32⟩
  | .hbm, ⟨22, _⟩ => ⟨S_, .i32⟩
  | .hbm, ⟨23, _⟩ => ⟨S256x768, .i32⟩
  | .hbm, ⟨24, _⟩ => ⟨S256x768, .i32⟩
  | .hbm, ⟨25, _⟩ => ⟨S_, .i32⟩
  | .hbm, ⟨26, _⟩ => ⟨S_, .i32⟩
  | .hbm, ⟨27, _⟩ => ⟨S1x768, .i32⟩
  | .hbm, ⟨28, _⟩ => ⟨S1x768, .i32⟩
  | .hbm, ⟨29, _⟩ => ⟨S1x768, .i32⟩
  | .hbm, ⟨30, _⟩ => ⟨S_, .i32⟩
  | .hbm, ⟨31, _⟩ => ⟨S1x768, .i32⟩
  | .hbm, ⟨32, _⟩ => ⟨S1x768, .i1⟩
  | .hbm, ⟨33, _⟩ => ⟨S1x768, .i32⟩
  | .hbm, ⟨34, _⟩ => ⟨S1x768, .i32⟩
  | .hbm, ⟨35, _⟩ => ⟨S_, .i32⟩
  | .hbm, ⟨36, _⟩ => ⟨S1x768, .i32⟩
  | .hbm, ⟨37, _⟩ => ⟨S1x768, .i1⟩
  | .hbm, ⟨38, _⟩ => ⟨S1x768, .i1⟩
  | .hbm, ⟨39, _⟩ => ⟨S_, .i32⟩
  | .hbm, ⟨40, _⟩ => ⟨S1x768, .i32⟩
  | .hbm, ⟨41, _⟩ => ⟨S1x768, .i32⟩
  | .hbm, ⟨42, _⟩ => ⟨S1x768, .i32⟩
  | .hbm, ⟨43, _⟩ => ⟨S_, .i32⟩
  | .hbm, ⟨44, _⟩ => ⟨S1x768, .i32⟩
  | .hbm, ⟨45, _⟩ => ⟨S1x768, .i32⟩
  | .hbm, ⟨46, _⟩ => ⟨S_, .i32⟩
  | .hbm, ⟨47, _⟩ => ⟨S_, .i32⟩
  | .hbm, ⟨48, _⟩ => ⟨S256x1, .i32⟩
  | .hbm, ⟨49, _⟩ => ⟨S256x1, .i32⟩
  | .hbm, ⟨50, _⟩ => ⟨S256x1, .i32⟩
  | .hbm, ⟨51, _⟩ => ⟨S_, .i32⟩
  | .hbm, ⟨52, _⟩ => ⟨S256x1, .i32⟩
  | .hbm, ⟨53, _⟩ => ⟨S256x1, .i1⟩
  | .hbm, ⟨54, _⟩ => ⟨S256x1, .i32⟩
  | .hbm, ⟨55, _⟩ => ⟨S256x1, .i32⟩
  | .hbm, ⟨56, _⟩ => ⟨S_, .i32⟩
  | .hbm, ⟨57, _⟩ => ⟨S256x1, .i32⟩
  | .hbm, ⟨58, _⟩ => ⟨S256x1, .i1⟩
  | .hbm, ⟨59, _⟩ => ⟨S256x1, .i1⟩
  | .hbm, ⟨60, _⟩ => ⟨S_, .i32⟩
  | .hbm, ⟨61, _⟩ => ⟨S256x1, .i32⟩
  | .hbm, ⟨62, _⟩ => ⟨S256x1, .i32⟩
  | .hbm, ⟨63, _⟩ => ⟨S256x1, .i32⟩
  | .hbm, ⟨64, _⟩ => ⟨S_, .i32⟩
  | .hbm, ⟨65, _⟩ => ⟨S256x1, .i32⟩
  | .hbm, ⟨66, _⟩ => ⟨S256x1, .i32⟩
  | .hbm, ⟨67, _⟩ => ⟨S256x768, .i32⟩
  | .hbm, ⟨68, _⟩ => ⟨S256x768, .i32⟩
  | .hbm, ⟨69, _⟩ => ⟨S256x768, .i1⟩
  | .hbm, ⟨70, _⟩ => ⟨S256x768, .i32⟩
  | .hbm, ⟨71, _⟩ => ⟨S256x768, .i32⟩
  | .hbm, ⟨72, _⟩ => ⟨S256x768, .i1⟩
  | .hbm, ⟨73, _⟩ => ⟨S256x768, .i1⟩
  | .hbm, ⟨74, _⟩ => ⟨S1x256x768, .i1⟩
  | .hbm, ⟨75, _⟩ => ⟨S_, .i32⟩
  | .hbm, ⟨76, _⟩ => ⟨S256x768, .i32⟩
  | .hbm, ⟨77, _⟩ => ⟨S256x768, .i1⟩
  | .hbm, ⟨78, _⟩ => ⟨S_, .i32⟩
  | .hbm, ⟨79, _⟩ => ⟨S256x768, .i32⟩
  | .hbm, ⟨80, _⟩ => ⟨S256x768, .i32⟩
  | .hbm, ⟨81, _⟩ => ⟨S256x768, .i32⟩
  | .hbm, ⟨82, _⟩ => ⟨S256x768x1, .i32⟩
  | .hbm, ⟨83, _⟩ => ⟨S8x256x768, .f32⟩
  | .hbm, ⟨84, _⟩ => ⟨S_, .f32⟩
  | .hbm, ⟨85, _⟩ => ⟨S_, .f32⟩
  | .hbm, ⟨86, _⟩ => ⟨S8x256x768, .i1⟩
  | .hbm, ⟨87, _⟩ => ⟨S8x256x768, .f32⟩
  | .hbm, ⟨88, _⟩ => ⟨S8x256x768, .f32⟩
  | .hbm, ⟨89, _⟩ => ⟨S8704x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S8x256x768, .f32⟩
  | .local _ .vmem, ⟨15, _⟩ => ⟨S256x1024, .bf16⟩
  | .local _ .vmem, ⟨16, _⟩ => ⟨S256x1024, .bf16⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v12 : Ref sig .tc := ⟨.hbm, 42, rfl⟩
abbrev main_c_4 : Ref sig .tc := ⟨.hbm, 43, rfl⟩
abbrev main_v13 : Ref sig .tc := ⟨.hbm, 44, rfl⟩
abbrev main_v14 : Ref sig .tc := ⟨.hbm, 45, rfl⟩
abbrev main_c_5 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_c : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_0 : Ref sig .tc := ⟨.hbm, 60, rfl⟩
abbrev main_call2_v12 : Ref sig .tc := ⟨.hbm, 61, rfl⟩
abbrev main_call2_v13 : Ref sig .tc := ⟨.hbm, 62, rfl⟩
abbrev main_v15 : Ref sig .tc := ⟨.hbm, 63, rfl⟩
abbrev main_c_6 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_c_7 : Ref sig .tc := ⟨.hbm, 75, rfl⟩
abbrev main_v26 : Ref sig .tc := ⟨.hbm, 76, rfl⟩
abbrev main_v27 : Ref sig .tc := ⟨.hbm, 77, rfl⟩
abbrev main_c_8 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_cst : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_v33 : Ref sig .tc := ⟨.hbm, 88, rfl⟩
abbrev main_v34 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c0_i32 : BitVec 32 := 0#32
  let v2 : BitVec 32 := Scalar.addi v1 c0_i32
  let c0_i32_0 : BitVec 32 := 0#32
  let v3 : BitVec 32 := Scalar.maxsi v2 c0_i32_0
  let v4 : BitVec 32 := Scalar.addi v0 v3
  let c0_i32_1 : BitVec 32 := 0#32
  let c0_i32_2 : BitVec 32 := 0#32
  ![v4.toNat, c0_i32_1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c1_i32 : BitVec 32 := 1#32
  let v2 : BitVec 32 := Scalar.addi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c2_i32_0 : BitVec 32 := 2#32
  let v2 : BitVec 32 := Scalar.addi v1 c2_i32_0
  let c0_i32 : BitVec 32 := 0#32
  let v3 : BitVec 32 := Scalar.maxsi v2 c0_i32
  let v4 : BitVec 32 := Scalar.addi v0 v3
  let c0_i32_1 : BitVec 32 := 0#32
  let c0_i32_2 : BitVec 32 := 0#32
  ![v4.toNat, c0_i32_1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c0_i32 : BitVec 32 := 0#32
  let v2 : BitVec 32 := Scalar.addi v1 c0_i32
  let c0_i32_0 : BitVec 32 := 0#32
  let v3 : BitVec 32 := Scalar.maxsi v2 c0_i32_0
  let v4 : BitVec 32 := Scalar.addi v0 v3
  let c0_i32_1 : BitVec 32 := 0#32
  let c0_i32_2 : BitVec 32 := 0#32
  ![v4.toNat, c0_i32_1.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c1_i32 : BitVec 32 := 1#32
  let v2 : BitVec 32 := Scalar.addi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c2_i32_0 : BitVec 32 := 2#32
  let v2 : BitVec 32 := Scalar.addi v1 c2_i32_0
  let c0_i32 : BitVec 32 := 0#32
  let v3 : BitVec 32 := Scalar.maxsi v2 c0_i32
  let v4 : BitVec 32 := Scalar.addi v0 v3
  let c0_i32_1 : BitVec 32 := 0#32
  let c0_i32_2 : BitVec 32 := 0#32
  ![v4.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnPIdeal.lean ====
variable {F : FTy → Type} [FloatOps F] [Named F]
def κ : String → Option EReal := fun
  | "mask" => some ⊥
  | _ => none
-- ==== AttnPRefIdeal.lean ====
abbrev S8704x1024 : Shape := ⟨2, ![8704, 1024]⟩
abbrev S8x257 : Shape := ⟨2, ![8, 257]⟩
abbrev S8192x1024 : Shape := ⟨2, ![8192, 1024]⟩
abbrev S2x4096x8x128 : Shape := ⟨4, ![2, 4096, 8, 128]⟩
abbrev S_ : Shape := ⟨0, ![]⟩
abbrev S2x4608x8x128 : Shape := ⟨4, ![2, 4608, 8, 128]⟩
abbrev S2x72x64x8x128 : Shape := ⟨5, ![2, 72, 64, 8, 128]⟩
abbrev S2x64x64x8x128 : Shape := ⟨5, ![2, 64, 64, 8, 128]⟩
abbrev S2x64x576x8x128 : Shape := ⟨5, ![2, 64, 576, 8, 128]⟩
abbrev S2x64x8x64x576 : Shape := ⟨5, ![2, 64, 8, 64, 576]⟩
abbrev S576 : Shape := ⟨1, ![576]⟩
abbrev S64 : Shape := ⟨1, ![64]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S1x1x8x64x576 : Shape := ⟨5, ![1, 1, 8, 64, 576]⟩
abbrev S1x64x1x1x576 : Shape := ⟨5, ![1, 64, 1, 1, 576]⟩
abbrev S2x64x8x64 : Shape := ⟨4, ![2, 64, 8, 64]⟩
abbrev S2x64x8x64x1 : Shape := ⟨5, ![2, 64, 8, 64, 1]⟩
abbrev S2x64x8x128x64 : Shape := ⟨5, ![2, 64, 8, 128, 64]⟩

abbrev nBuf : Space → Nat
  | .hbm => 118
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x1024, .bf16⟩
  | .hbm, ⟨3, _⟩ => ⟨S8x257, .f32⟩
  | .hbm, ⟨4, _⟩ => ⟨S8192x1024, .bf16⟩
  | .hbm, ⟨5, _⟩ => ⟨S8192x1024, .f32⟩
  | .hbm, ⟨6, _⟩ => ⟨S2x4096x8x128, .f32⟩
  | .hbm, ⟨7, _⟩ => ⟨S8192x1024, .bf16⟩
  | .hbm, ⟨8, _⟩ => ⟨S8192x1024, .f32⟩
  | .hbm, ⟨9, _⟩ => ⟨S2x4096x8x128, .f32⟩
  | .hbm, ⟨10, _⟩ => ⟨S8192x1024, .bf16⟩
  | .hbm, ⟨11, _⟩ => ⟨S8192x1024, .f32⟩
  | .hbm, ⟨12, _⟩ => ⟨S2x4096x8x128, .f32⟩
  | .hbm, ⟨13, _⟩ => ⟨S_, .i32⟩
  | .hbm, ⟨14, _⟩ => ⟨S_, .f32⟩
  | .hbm, ⟨15, _⟩ => ⟨S2x4608x8x128, .f32⟩
  | .hbm, ⟨16, _⟩ => ⟨S2x72x64x8x128, .f32⟩
  | .hbm, ⟨17, _⟩ => ⟨S_, .i32⟩
  | .hbm, ⟨18, _⟩ => ⟨S_, .f32⟩
  | .hbm, ⟨19, _⟩ => ⟨S2x4608x8x128, .f32⟩
  | .hbm, ⟨20, _⟩ => ⟨S2x72x64x8x128, .f32⟩
  | .hbm, ⟨21, _⟩ => ⟨S2x64x64x8x128, .f32⟩
  | .hbm, ⟨22, _⟩ => ⟨S2x64x64x8x128, .f32⟩
  | .hbm, ⟨23, _⟩ => ⟨S2x64x64x8x128, .f32⟩
  | .hbm, ⟨24, _⟩ => ⟨S2x64x64x8x128, .f32⟩
  | .hbm, ⟨25, _⟩ => ⟨S2x64x64x8x128, .f32⟩
  | .hbm, ⟨26, _⟩ => ⟨S2x64x64x8x128, .f32⟩
  | .hbm, ⟨27, _⟩ => ⟨S2x64x64x8x128, .f32⟩
  | .hbm, ⟨28, _⟩ => ⟨S2x64x64x8x128, .f32⟩
  | .hbm, ⟨29, _⟩ => ⟨S2x64x64x8x128, .f32⟩
  | .hbm, ⟨30, _⟩ => ⟨S2x64x576x8x128, .f32⟩
  | .hbm, ⟨31, _⟩ => ⟨S2x64x64x8x128, .f32⟩
  | .hbm, ⟨32, _⟩ => ⟨S2x64x64x8x128, .f32⟩
  | .hbm, ⟨33, _⟩ => ⟨S2x64x64x8x128, .f32⟩
  | .hbm, ⟨34, _⟩ => ⟨S2x64x64x8x128, .f32⟩
  | .hbm, ⟨35, _⟩ => ⟨S2x64x64x8x128, .f32⟩
  | .hbm, ⟨36, _⟩ => ⟨S2x64x64x8x128, .f32⟩
  | .hbm, ⟨37, _⟩ => ⟨S2x64x64x8x128, .f32⟩
  | .hbm, ⟨38, _⟩ => ⟨S2x64x64x8x128, .f32⟩
  | .hbm, ⟨39, _⟩ => ⟨S2x64x64x8x128, .f32⟩
  | .hbm, ⟨40, _⟩ => ⟨S2x64x576x8x128, .f32⟩
  | .hbm, ⟨41, _⟩ => ⟨S2x64x64x8x128, .f32⟩
  | .hbm, ⟨42, _⟩ => ⟨S2x64x8x64x576, .f32⟩
  | .hbm, ⟨43, _⟩ => ⟨S_, .f32⟩
  | .hbm, ⟨44, _⟩ => ⟨S2x64x8x64x576, .f32⟩
  | .hbm, ⟨45, _⟩ => ⟨S2x64x8x64x576, .f32⟩
  | .hbm, ⟨46, _⟩ => ⟨S576, .i32⟩
  | .hbm, ⟨47, _⟩ => ⟨S_, .i32⟩
  | .hbm, ⟨48, _⟩ => ⟨S576, .i32⟩
  | .hbm, ⟨49, _⟩ => ⟨S576, .i32⟩
  | .hbm, ⟨50, _⟩ => ⟨S64, .i32⟩
  | .hbm, ⟨51, _⟩ => ⟨S64x1, .i32⟩
  | .hbm, ⟨52, _⟩ => ⟨S1x576, .i32⟩
  | .hbm, ⟨53, _⟩ => ⟨S64x576, .i32⟩
  | .hbm, ⟨54, _⟩ => ⟨S64x576, .i32⟩
  | .hbm, ⟨55, _⟩ => ⟨S64x576, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S64x576, .i32⟩
  | .hbm, ⟨60, _⟩ => ⟨S64x576, .i32⟩
  | .hbm, ⟨61, _⟩ => ⟨S_, .i32⟩
  | .hbm, ⟨62, _⟩ => ⟨S64x576, .i32⟩
  | .hbm, ⟨63, _⟩ => ⟨S64x576, .i32⟩
  | .hbm, ⟨64, _⟩ => ⟨S_, .i32⟩
  | .hbm, ⟨65, _⟩ => ⟨S64x576, .i32⟩
  | .hbm, ⟨66, _⟩ => ⟨S64x576, .i32⟩
  | .hbm, ⟨67, _⟩ => ⟨S_, .i32⟩
  | .hbm, ⟨68, _⟩ => ⟨S64x576, .i32⟩
  | .hbm, ⟨69, _⟩ => ⟨S64x576, .i1⟩
  | .hbm, ⟨70, _⟩ => ⟨S_, .i32⟩
  | .hbm, ⟨71, _⟩ => ⟨S64x576, .i32⟩
  | .hbm, ⟨72, _⟩ => ⟨S64x576, .i32⟩
  | .hbm, ⟨73, _⟩ => ⟨S64x576, .i32⟩
  | .hbm, ⟨74, _⟩ => ⟨S64x576x1, .i32⟩
  | .hbm, ⟨75, _⟩ => ⟨S8x64x576, .f32⟩
  | .hbm, ⟨76, _⟩ => ⟨S1x1x8x64x576, .f32⟩
  | .hbm, ⟨77, _⟩ => ⟨S2x64x8x64x576, .f32⟩
  | .hbm, ⟨78, _⟩ => ⟨S2x64x8x64x576, .f32⟩
  | .hbm, ⟨79, _⟩ => ⟨S64, .i32⟩
  | .hbm, ⟨80, _⟩ => ⟨S64x1, .i32⟩
  | .hbm, ⟨81, _⟩ => ⟨S_, .i32⟩
  | .hbm, ⟨82, _⟩ => ⟨S64x1, .i32⟩
  | .hbm, ⟨83, _⟩ => ⟨S64x1, .i32⟩
  | .hbm, ⟨84, _⟩ => ⟨S1x576, .i32⟩
  | .hbm, ⟨85, _⟩ => ⟨S64x576, .i32⟩
  | .hbm, ⟨86, _⟩ => ⟨S64x576, .i32⟩
  | .hbm, ⟨87, _⟩ => ⟨S64x576, .i32⟩
  | .hbm, ⟨88, _⟩ => ⟨S_, .i32⟩
  | .hbm, ⟨89, _⟩ => ⟨S64x576, .i32⟩
  | .hbm, ⟨90, _⟩ => ⟨S64x576, .i1⟩
  | .hbm, ⟨91, _⟩ => ⟨S1x64x1x1x576, .i1⟩
  | .hbm, ⟨92, _⟩ => ⟨S_, .f32⟩
  | .hbm, ⟨93, _⟩ => ⟨S_, .f32⟩
  | .hbm, ⟨94, _⟩ => ⟨S2x64x8x64x576, .i1⟩
  | .hbm, ⟨95, _⟩ => ⟨S2x64x8x64x576, .f32⟩
  | .hbm, ⟨96, _⟩ => ⟨S2x64x8x64x576, .f32⟩
  | .hbm, ⟨97, _⟩ => ⟨S_, .f32⟩
  | .hbm, ⟨98, _⟩ => ⟨S2x64x8x64, .f32⟩
  | .hbm, ⟨99, _⟩ => ⟨S_, .f32⟩
  | .hbm, ⟨100, _⟩ => ⟨S2x64x8x64, .f32⟩
  | .hbm, ⟨101, _⟩ => ⟨S2x64x8x64, .f32⟩
  | .hbm, ⟨102, _⟩ => ⟨S2x64x8x64x1, .f32⟩
  | .hbm, ⟨103, _⟩ => ⟨S2x64x8x64x576, .f32⟩
  | .hbm, ⟨104, _⟩ => ⟨S2x64x8x64x576, .f32⟩
  | .hbm, ⟨105, _⟩ => ⟨S2x64x8x64x576, .f32⟩
  | .hbm, ⟨106, _⟩ => ⟨S_, .f32⟩
  | .hbm, ⟨107, _⟩ => ⟨S2x64x8x64, .f32⟩
  | .hbm, ⟨108, _⟩ => ⟨S2x64x8x64x1, .f32⟩
  | .hbm, ⟨109, _⟩ => ⟨S2x64x8x64x576, .f32⟩
  | .hbm, ⟨110, _⟩ => ⟨S2x64x8x64x576, .f32⟩
  | .hbm, ⟨111, _⟩ => ⟨S2x64x8x128x64, .f32⟩
  | .hbm, ⟨112, _⟩ => ⟨S2x64x64x8x128, .f32⟩
  | .hbm, ⟨113, _⟩ => ⟨S8192x1024, .f32⟩
  | .hbm, ⟨114, _⟩ => ⟨S_, .i32⟩
  | .hbm, ⟨115, _⟩ => ⟨S_, .f32⟩
  | .hbm, ⟨116, _⟩ => ⟨S8704x1024, .f32⟩
  | .hbm, ⟨117, _⟩ => ⟨S8704x1024, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_1 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_c_2 : Ref sig .tc := ⟨.hbm, 56, rfl⟩
abbrev main_c_3 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v46 : Ref sig .tc := ⟨.hbm, 63, rfl⟩
abbrev main_c_4 : Ref sig .tc := ⟨.hbm, 64, rfl⟩
abbrev main_v47 : Ref sig .tc := ⟨.hbm, 65, rfl⟩
abbrev main_v48 : Ref sig .tc := ⟨.hbm, 66, rfl⟩
abbrev main_c_5 : Ref sig .tc := ⟨.hbm, 67, rfl⟩
abbrev main_v49 : Ref sig .tc := ⟨.hbm, 68, rfl⟩
abbrev main_v50 : Ref sig .tc := ⟨.hbm, 69, rfl⟩
abbrev main_c_6 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_7 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_8 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_9 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v70 : Ref sig .tc := ⟨.hbm, 96, rfl⟩
abbrev main_cst_10 : Ref sig .tc := ⟨.hbm, 97, rfl⟩
abbrev main_v71 : Ref sig .tc := ⟨.hbm, 98, rfl⟩
abbrev main_cst_11 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_12 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_c_13 : Ref sig .tc := ⟨.hbm, 114, rfl⟩
abbrev main_call4_v0 : Ref sig .tc := ⟨.hbm, 115, rfl⟩
abbrev main_v85 : Ref sig .tc := ⟨.hbm, 116, rfl⟩
abbrev main_v86 : Ref sig .tc := ⟨.hbm, 117, rfl⟩

abbrev nD : Nat := 1
abbrev τ : Topo := Topo.v7x

variable {F : FTy → Type} [FloatOps F]

def κ : String → Option EReal := fun
  | "mask" => some ⊥
  | _ => none
-- ==== Ffn.lean ====
abbrev S8704x2048 : Shape := ⟨2, ![8704, 2048]⟩
abbrev S4x2048x8192 : Shape := ⟨3, ![4, 2048, 8192]⟩
abbrev S4x8192x2048 : Shape := ⟨3, ![4, 8192, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 7
  | .vmem => 10
  | .smem => 0
  | _ => 0

abbrev bufTy : (tb : Table) → Fin (tcTables nBuf tb) → BufTy
  | .hbm, ⟨0, _⟩ => ⟨S8704x2048, .bf16⟩
  | .hbm, ⟨1, _⟩ => ⟨S8704x2048, .f32⟩
  | .hbm, ⟨2, _⟩ => ⟨S4x2048x8192, .f32⟩
  | .hbm, ⟨3, _⟩ => ⟨S4x8192x2048, .f32⟩
  | .hbm, ⟨4, _⟩ => ⟨S4x2048x8192, .bf16⟩
  | .hbm, ⟨5, _⟩ => ⟨S4x8192x2048, .bf16⟩
  | .hbm, ⟨6, _⟩ => ⟨S8704x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![17, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnRefIdeal.lean ====
abbrev S8704x2048 : Shape := ⟨2, ![8704, 2048]⟩
abbrev S4x2048x8192 : Shape := ⟨3, ![4, 2048, 8192]⟩
abbrev S4x8192x2048 : Shape := ⟨3, ![4, 8192, 2048]⟩
abbrev S1x2048x8192 : Shape := ⟨3, ![1, 2048, 8192]⟩
abbrev S2048x8192 : Shape := ⟨2, ![2048, 8192]⟩
abbrev S8704x8192 : Shape := ⟨2, ![8704, 8192]⟩
abbrev S_ : Shape := ⟨0, ![]⟩
abbrev S1x8192x2048 : Shape := ⟨3, ![1, 8192, 2048]⟩
abbrev S8192x2048 : Shape := ⟨2, ![8192, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S8704x2048, .f32⟩
  | .hbm, ⟨2, _⟩ => ⟨S4x2048x8192, .f32⟩
  | .hbm, ⟨3, _⟩ => ⟨S4x8192x2048, .f32⟩
  | .hbm, ⟨4, _⟩ => ⟨S8704x2048, .f32⟩
  | .hbm, ⟨5, _⟩ => ⟨S1x2048x8192, .f32⟩
  | .hbm, ⟨6, _⟩ => ⟨S2048x8192, .f32⟩
  | .hbm, ⟨7, _⟩ => ⟨S8704x8192, .f32⟩
  | .hbm, ⟨8, _⟩ => ⟨S_, .f32⟩
  | .hbm, ⟨9, _⟩ => ⟨S8704x8192, .f32⟩
  | .hbm, ⟨10, _⟩ => ⟨S8704x8192, .f32⟩
  | .hbm, ⟨11, _⟩ => ⟨S8704x8192, .f32⟩
  | .hbm, ⟨12, _⟩ => ⟨S1x8192x2048, .f32⟩
  | .hbm, ⟨13, _⟩ => ⟨S8192x2048, .f32⟩
  | .hbm, ⟨14, _⟩ => ⟨S8704x2048, .f32⟩
  | .hbm, ⟨15, _⟩ => ⟨S8704x2048, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Gates.lean ====
abbrev S8704x2048 : Shape := ⟨2, ![8704, 2048]⟩
abbrev S4x2048x13312 : Shape := ⟨3, ![4, 2048, 13312]⟩
abbrev S8704x6144 : Shape := ⟨2, ![8704, 6144]⟩
abbrev S512x2048 : Shape := ⟨2, ![512, 2048]⟩
abbrev S1x2048x1024 : Shape := ⟨3, ![1, 2048, 1024]⟩
abbrev S512x6144 : Shape := ⟨2, ![512, 6144]⟩
abbrev S2048x1024 : Shape := ⟨2, ![2048, 1024]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8704x2048, .bf16⟩
  | .hbm, ⟨1, _⟩ => ⟨S4x2048x13312, .f32⟩
  | .hbm, ⟨2, _⟩ => ⟨S4x2048x13312, .bf16⟩
  | .hbm, ⟨3, _⟩ => ⟨S8704x6144, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S512x6144, .bf16⟩
  | .local _ .vmem, ⟨9, _⟩ => ⟨S512x6144, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c7_i32 : BitVec 32 := 7#32
  let c0_i32_1 : BitVec 32 := 0#32
  ![c0_i32.toNat, c0_i32_0.toNat, c7_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c8_i32 : BitVec 32 := 8#32
  let c0_i32_1 : BitVec 32 := 0#32
  ![c0_i32.toNat, c0_i32_0.toNat, c8_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c9_i32 : BitVec 32 := 9#32
  let c0_i32_1 : BitVec 32 := 0#32
  ![c0_i32.toNat, c0_i32_0.toNat, c9_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c10_i32 : BitVec 32 := 10#32
  let c0_i32_1 : BitVec 32 := 0#32
  ![c0_i32.toNat, c0_i32_0.toNat, c10_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c11_i32 : BitVec 32 := 11#32
  let c0_i32_1 : BitVec 32 := 0#32
  ![c0_i32.toNat, c0_i32_0.toNat, c11_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c12_i32 : BitVec 32 := 12#32
  let c0_i32_1 : BitVec 32 := 0#32
  ![c0_i32.toNat, c0_i32_0.toNat, c12_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x6144 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GatesRefIdeal.lean ====
abbrev S8704x2048 : Shape := ⟨2, ![8704, 2048]⟩
abbrev S4x2048x13312 : Shape := ⟨3, ![4, 2048, 13312]⟩
abbrev S1x2048x13312 : Shape := ⟨3, ![1, 2048, 13312]⟩
abbrev S2048x13312 : Shape := ⟨2, ![2048, 13312]⟩
abbrev S8704x13312 : Shape := ⟨2, ![8704, 13312]⟩
abbrev S8704x1024 : Shape := ⟨2, ![8704, 1024]⟩
abbrev S8704x6144 : Shape := ⟨2, ![8704, 6144]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S4x2048x13312, .f32⟩
  | .hbm, ⟨2, _⟩ => ⟨S8704x2048, .f32⟩
  | .hbm, ⟨3, _⟩ => ⟨S1x2048x13312, .f32⟩
  | .hbm, ⟨4, _⟩ => ⟨S2048x13312, .f32⟩
  | .hbm, ⟨5, _⟩ => ⟨S8704x13312, .f32⟩
  | .hbm, ⟨6, _⟩ => ⟨S8704x2048, .f32⟩
  | .hbm, ⟨7, _⟩ => ⟨S8704x2048, .f32⟩
  | .hbm, ⟨8, _⟩ => ⟨S8704x1024, .f32⟩
  | .hbm, ⟨9, _⟩ => ⟨S8704x1024, .f32⟩
  | .hbm, ⟨10, _⟩ => ⟨S8704x1024, .f32⟩
  | .hbm, ⟨11, _⟩ => ⟨S8704x6144, .f32⟩
  | .hbm, ⟨12, _⟩ => ⟨S8704x6144, .f32⟩
  | .hbm, ⟨13, _⟩ => ⟨S8704x6144, .f32⟩
  | .hbm, ⟨14, _⟩ => ⟨S_, .f32⟩
  | .hbm, ⟨15, _⟩ => ⟨S8704x6144, .f32⟩
  | .hbm, ⟨16, _⟩ => ⟨S8704x6144, .f32⟩
  | .hbm, ⟨17, _⟩ => ⟨S_, .f32⟩
  | .hbm, ⟨18, _⟩ => ⟨S8704x6144, .f32⟩
  | .hbm, ⟨19, _⟩ => ⟨S8704x6144, .f32⟩
  | .hbm, ⟨20, _⟩ => ⟨S8704x6144, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Glu.lean ====
abbrev S8704x2048 : Shape := ⟨2, ![8704, 2048]⟩
abbrev S4x2048x13312 : Shape := ⟨3, ![4, 2048, 13312]⟩
abbrev S8704x1024 : Shape := ⟨2, ![8704, 1024]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8704x2048, .bf16⟩
  | .hbm, ⟨1, _⟩ => ⟨S4x2048x13312, .f32⟩
  | .hbm, ⟨2, _⟩ => ⟨S4x2048x13312, .bf16⟩
  | .hbm, ⟨3, _⟩ => ⟨S8704x1024, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .f32⟩
  | .local _ .vmem, ⟨5, _⟩ => ⟨S512x1024, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluRefIdeal.lean ====
abbrev S8704x2048 : Shape := ⟨2, ![8704, 2048]⟩
abbrev S4x2048x13312 : Shape := ⟨3, ![4, 2048, 13312]⟩
abbrev S1x2048x13312 : Shape := ⟨3, ![1, 2048, 13312]⟩
abbrev S2048x13312 : Shape := ⟨2, ![2048, 13312]⟩
abbrev S8704x13312 : Shape := ⟨2, ![8704, 13312]⟩
abbrev S8704x1024 : Shape := ⟨2, ![8704, 1024]⟩
abbrev S8704x6144 : Shape := ⟨2, ![8704, 6144]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S4x2048x13312, .f32⟩
  | .hbm, ⟨2, _⟩ => ⟨S8704x2048, .f32⟩
  | .hbm, ⟨3, _⟩ => ⟨S1x2048x13312, .f32⟩
  | .hbm, ⟨4, _⟩ => ⟨S2048x13312, .f32⟩
  | .hbm, ⟨5, _⟩ => ⟨S8704x13312, .f32⟩
  | .hbm, ⟨6, _⟩ => ⟨S8704x2048, .f32⟩
  | .hbm, ⟨7, _⟩ => ⟨S8704x2048, .f32⟩
  | .hbm, ⟨8, _⟩ => ⟨S8704x1024, .f32⟩
  | .hbm, ⟨9, _⟩ => ⟨S8704x1024, .f32⟩
  | .hbm, ⟨10, _⟩ => ⟨S8704x1024, .f32⟩
  | .hbm, ⟨11, _⟩ => ⟨S8704x6144, .f32⟩
  | .hbm, ⟨12, _⟩ => ⟨S8704x1024, .f32⟩
  | .hbm, ⟨13, _⟩ => ⟨S8704x1024, .f32⟩
  | .hbm, ⟨14, _⟩ => ⟨S8704x1024, .f32⟩
  | .hbm, ⟨15, _⟩ => ⟨S8704x1024, .f32⟩
  | .hbm, ⟨16, _⟩ => ⟨S_, .f32⟩
  | .hbm, ⟨17, _⟩ => ⟨S8704x1024, .f32⟩
  | .hbm, ⟨18, _⟩ => ⟨S8704x1024, .f32⟩
  | .hbm, ⟨19, _⟩ => ⟨S_, .f32⟩
  | .hbm, ⟨20, _⟩ => ⟨S8704x1024, .f32⟩
  | .hbm, ⟨21, _⟩ => ⟨S8704x1024, .f32⟩
  | .hbm, ⟨22, _⟩ => ⟨S8704x1024, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Merge.lean ====
abbrev S8704x1024 : Shape := ⟨2, ![8704, 1024]⟩
abbrev S8704x6144 : Shape := ⟨2, ![8704, 6144]⟩
abbrev S8704x2048 : Shape := ⟨2, ![8704, 2048]⟩
abbrev S4x1024x2048 : Shape := ⟨3, ![4, 1024, 2048]⟩
abbrev S4x2048x2048 : Shape := ⟨3, ![4, 2048, 2048]⟩
abbrev S4x2048 : Shape := ⟨2, ![4, 2048]⟩
abbrev S4x1x2048 : Shape := ⟨3, ![4, 1, 2048]⟩
abbrev S256x1024 : Shape := ⟨2, ![256, 1024]⟩
abbrev S256x2048 : Shape := ⟨2, ![256, 2048]⟩
abbrev S1x1024x2048 : Shape := ⟨3, ![1, 1024, 2048]⟩
abbrev S1x2048x2048 : Shape := ⟨3, ![1, 2048, 2048]⟩
abbrev S1x1x2048 : Shape := ⟨3, ![1, 1, 2048]⟩
abbrev S1024x2048 : Shape := ⟨2, ![1024, 2048]⟩
abbrev S2048x2048 : Shape := ⟨2, ![2048, 2048]⟩
abbrev S1x2048 : Shape := ⟨2, ![1, 2048]⟩
abbrev S256 : Shape := ⟨1, ![256]⟩
abbrev S256x1 : Shape := ⟨2, ![256, 1]⟩

abbrev nBuf : Space → Nat
  | .hbm => 17
  | .vmem => 23
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x1024, .bf16⟩
  | .hbm, ⟨3, _⟩ => ⟨S8704x6144, .bf16⟩
  | .hbm, ⟨4, _⟩ => ⟨S8704x2048, .f32⟩
  | .hbm, ⟨5, _⟩ => ⟨S4x1024x2048, .f32⟩
  | .hbm, ⟨6, _⟩ => ⟨S4x1024x2048, .f32⟩
  | .hbm, ⟨7, _⟩ => ⟨S4x1024x2048, .f32⟩
  | .hbm, ⟨8, _⟩ => ⟨S4x2048x2048, .f32⟩
  | .hbm, ⟨9, _⟩ => ⟨S4x2048, .f32⟩
  | .hbm, ⟨10, _⟩ => ⟨S4x1024x2048, .bf16⟩
  | .hbm, ⟨11, _⟩ => ⟨S4x1024x2048, .bf16⟩
  | .hbm, ⟨12, _⟩ => ⟨S4x1024x2048, .bf16⟩
  | .hbm, ⟨13, _⟩ => ⟨S4x2048x2048, .bf16⟩
  | .hbm, ⟨14, _⟩ => ⟨S4x1x2048, .f32⟩
  | .hbm, ⟨15, _⟩ => ⟨S8704x2048, .f32⟩
  | .hbm, ⟨16, _⟩ => ⟨S8704x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .f32⟩
  | .local _ .vmem, ⟨13, _⟩ => ⟨S256x2048, .f32⟩
  | .local _ .vmem, ⟨14, _⟩ => ⟨S1x1024x2048, .bf16⟩
  | .local _ .vmem, ⟨15, _⟩ => ⟨S1x1024x2048, .bf16⟩
  | .local _ .vmem, ⟨16, _⟩ => ⟨S1x1024x2048, .bf16⟩
  | .local _ .vmem, ⟨17, _⟩ => ⟨S1x2048x2048, .bf16⟩
  | .local _ .vmem, ⟨18, _⟩ => ⟨S1x1x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .bf16⟩
  | .local _ .vmem, ⟨22, _⟩ => ⟨S256x2048, .bf16⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S8704x1024 : Shape := ⟨2, ![8704, 1024]⟩
abbrev S8704x6144 : Shape := ⟨2, ![8704, 6144]⟩
abbrev S8704x2048 : Shape := ⟨2, ![8704, 2048]⟩
abbrev S4x1024x2048 : Shape := ⟨3, ![4, 1024, 2048]⟩
abbrev S4x2048x2048 : Shape := ⟨3, ![4, 2048, 2048]⟩
abbrev S4x2048 : Shape := ⟨2, ![4, 2048]⟩
abbrev S8704x3x2048 : Shape := ⟨3, ![8704, 3, 2048]⟩
abbrev S1x1024x2048 : Shape := ⟨3, ![1, 1024, 2048]⟩
abbrev S1024x2048 : Shape := ⟨2, ![1024, 2048]⟩
abbrev S8704x1x2048 : Shape := ⟨3, ![8704, 1, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8704 : Shape := ⟨1, ![8704]⟩
abbrev S8704x1 : Shape := ⟨2, ![8704, 1]⟩

abbrev nBuf : Space → Nat
  | .hbm => 58
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x1024, .bf16⟩
  | .hbm, ⟨3, _⟩ => ⟨S8704x6144, .bf16⟩
  | .hbm, ⟨4, _⟩ => ⟨S8704x2048, .f32⟩
  | .hbm, ⟨5, _⟩ => ⟨S4x1024x2048, .f32⟩
  | .hbm, ⟨6, _⟩ => ⟨S4x1024x2048, .f32⟩
  | .hbm, ⟨7, _⟩ => ⟨S4x1024x2048, .f32⟩
  | .hbm, ⟨8, _⟩ => ⟨S4x2048x2048, .f32⟩
  | .hbm, ⟨9, _⟩ => ⟨S4x2048, .f32⟩
  | .hbm, ⟨10, _⟩ => ⟨S8704x1024, .f32⟩
  | .hbm, ⟨11, _⟩ => ⟨S8704x1024, .f32⟩
  | .hbm, ⟨12, _⟩ => ⟨S8704x1024, .f32⟩
  | .hbm, ⟨13, _⟩ => ⟨S8704x6144, .f32⟩
  | .hbm, ⟨14, _⟩ => ⟨S8704x3x2048, .f32⟩
  | .hbm, ⟨15, _⟩ => ⟨S1x1024x2048, .f32⟩
  | .hbm, ⟨16, _⟩ => ⟨S1024x2048, .f32⟩
  | .hbm, ⟨17, _⟩ => ⟨S8704x2048, .f32⟩
  | .hbm, ⟨18, _⟩ => ⟨S1x1024x2048, .f32⟩
  | .hbm, ⟨19, _⟩ => ⟨S1024x2048, .f32⟩
  | .hbm, ⟨20, _⟩ => ⟨S8704x2048, .f32⟩
  | .hbm, ⟨21, _⟩ => ⟨S1x1024x2048, .f32⟩
  | .hbm, ⟨22, _⟩ => ⟨S1024x2048, .f32⟩
  | .hbm, ⟨23, _⟩ => ⟨S8704x2048, .f32⟩
  | .hbm, ⟨24, _⟩ => ⟨S8704x1x2048, .f32⟩
  | .hbm, ⟨25, _⟩ => ⟨S8704x2048, .f32⟩
  | .hbm, ⟨26, _⟩ => ⟨S8704x2048, .f32⟩
  | .hbm, ⟨27, _⟩ => ⟨S8704x1x2048, .f32⟩
  | .hbm, ⟨28, _⟩ => ⟨S8704x2048, .f32⟩
  | .hbm, ⟨29, _⟩ => ⟨S8704x2048, .f32⟩
  | .hbm, ⟨30, _⟩ => ⟨S8704x2048, .f32⟩
  | .hbm, ⟨31, _⟩ => ⟨S8704x1x2048, .f32⟩
  | .hbm, ⟨32, _⟩ => ⟨S8704x2048, .f32⟩
  | .hbm, ⟨33, _⟩ => ⟨S8704x2048, .f32⟩
  | .hbm, ⟨34, _⟩ => ⟨S8704x2048, .f32⟩
  | .hbm, ⟨35, _⟩ => ⟨S1x2048x2048, .f32⟩
  | .hbm, ⟨36, _⟩ => ⟨S2048x2048, .f32⟩
  | .hbm, ⟨37, _⟩ => ⟨S8704x2048, .f32⟩
  | .hbm, ⟨38, _⟩ => ⟨S8704x2048, .f32⟩
  | .hbm, ⟨39, _⟩ => ⟨S1x2048, .f32⟩
  | .hbm, ⟨40, _⟩ => ⟨S2048, .f32⟩
  | .hbm, ⟨41, _⟩ => ⟨S8704x2048, .f32⟩
  | .hbm, ⟨42, _⟩ => ⟨S_, .f32⟩
  | .hbm, ⟨43, _⟩ => ⟨S8704, .f32⟩
  | .hbm, ⟨44, _⟩ => ⟨S8704x1, .f32⟩
  | .hbm, ⟨45, _⟩ => ⟨S_, .f32⟩
  | .hbm, ⟨46, _⟩ => ⟨S8704x1, .f32⟩
  | .hbm, ⟨47, _⟩ => ⟨S8704x1, .f32⟩
  | .hbm, ⟨48, _⟩ => ⟨S_, .f32⟩
  | .hbm, ⟨49, _⟩ => ⟨S8704x1, .f32⟩
  | .hbm, ⟨50, _⟩ => ⟨S8704x1, .f32⟩
  | .hbm, ⟨51, _⟩ => ⟨S8704x1, .f32⟩
  | .hbm, ⟨52, _⟩ => ⟨S8704x2048, .f32⟩
  | .hbm, ⟨53, _⟩ => ⟨S8704x2048, .f32⟩
  | .hbm, ⟨54, _⟩ => ⟨S1x2048, .f32⟩
  | .hbm, ⟨55, _⟩ => ⟨S8704x2048, .f32⟩
  | .hbm, ⟨56, _⟩ => ⟨S8704x2048, .f32⟩
  | .hbm, ⟨57, _⟩ => ⟨S8704x2048, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst : Ref sig .tc := ⟨.hbm, 42, rfl⟩
abbrev main_v32 : Ref sig .tc := ⟨.hbm, 43, rfl⟩
abbrev main_v33 : Ref sig .tc := ⟨.hbm, 44, rfl⟩
abbrev main_cst_0 : Ref sig .tc := ⟨.hbm, 45, rfl⟩
abbrev main_v34 : Ref sig .tc := ⟨.hbm, 46, rfl⟩
abbrev main_v35 : Ref sig .tc := ⟨.hbm, 47, rfl⟩
abbrev main_cst_1 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Ple.lean ====
abbrev S8704x2048 : Shape := ⟨2, ![8704, 2048]⟩
abbrev S4x8704x256 : Shape := ⟨3, ![4, 8704, 256]⟩
abbrev S4x2048x2048 : Shape := ⟨3, ![4, 2048, 2048]⟩
abbrev S4x256x2048 : Shape := ⟨3, ![4, 256, 2048]⟩
abbrev S4x2048 : Shape := ⟨2, ![4, 2048]⟩
abbrev S5x2048 : Shape := ⟨2, ![5, 2048]⟩
abbrev S4x1x2048 : Shape := ⟨3, ![4, 1, 2048]⟩
abbrev S5x1x2048 : Shape := ⟨3, ![5, 1, 2048]⟩
abbrev S512x2048 : Shape := ⟨2, ![512, 2048]⟩
abbrev S1x512x256 : Shape := ⟨3, ![1, 512, 256]⟩
abbrev S1x2048x2048 : Shape := ⟨3, ![1, 2048, 2048]⟩
abbrev S1x256x2048 : Shape := ⟨3, ![1, 256, 2048]⟩
abbrev S1x1x2048 : Shape := ⟨3, ![1, 1, 2048]⟩
abbrev S1x2048 : Shape := ⟨2, ![1, 2048]⟩
abbrev S512 : Shape := ⟨1, ![512]⟩
abbrev S512x1 : Shape := ⟨2, ![512, 1]⟩
abbrev S2048x2048 : Shape := ⟨2, ![2048, 2048]⟩
abbrev S512x256 : Shape := ⟨2, ![512, 256]⟩
abbrev S256x2048 : Shape := ⟨2, ![256, 2048]⟩

abbrev nBuf : Space → Nat
  | .hbm => 12
  | .vmem => 12
  | .smem => 0
  | _ => 0

abbrev bufTy : (tb : Table) → Fin (tcTables nBuf tb) → BufTy
  | .hbm, ⟨0, _⟩ => ⟨S8704x2048, .f32⟩
  | .hbm, ⟨1, _⟩ => ⟨S4x8704x256, .f32⟩
  | .hbm, ⟨2, _⟩ => ⟨S4x2048x2048, .f32⟩
  | .hbm, ⟨3, _⟩ => ⟨S4x256x2048, .f32⟩
  | .hbm, ⟨4, _⟩ => ⟨S4x2048, .f32⟩
  | .hbm, ⟨5, _⟩ => ⟨S5x2048, .f32⟩
  | .hbm, ⟨6, _⟩ => ⟨S4x2048x2048, .bf16⟩
  | .hbm, ⟨7, _⟩ => ⟨S4x256x2048, .bf16⟩
  | .hbm, ⟨8, _⟩ => ⟨S4x1x2048, .f32⟩
  | .hbm, ⟨9, _⟩ => ⟨S5x1x2048, .f32⟩
  | .hbm, ⟨10, _⟩ => ⟨S8704x2048, .f32⟩
  | .hbm, ⟨11, _⟩ => ⟨S8704x2048, .bf16⟩
  | .local _ .vmem, ⟨0, _⟩ => ⟨S512x2048, .f32⟩
  | .local _ .vmem, ⟨1, _⟩ => ⟨S512x2048, .f32⟩
  | .local _ .vmem, ⟨2, _⟩ => ⟨S1x512x256, .f32⟩
  | .local _ .vmem, ⟨3, _⟩ => ⟨S1x512x256, .f32⟩
  | .local _ .vmem, ⟨4, _⟩ => ⟨S1x2048x2048, .bf16⟩
  | .local _ .vmem, ⟨5, _⟩ => ⟨S1x256x2048, .bf16⟩
  | .local _ .vmem, ⟨6, _⟩ => ⟨S1x1x2048, .f32⟩
  | .local _ .vmem, ⟨7, _⟩ => ⟨S1x1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PleRefIdeal.lean ====
abbrev S8704x2048 : Shape := ⟨2, ![8704, 2048]⟩
abbrev S4x8704x256 : Shape := ⟨3, ![4, 8704, 256]⟩
abbrev S4x2048x2048 : Shape := ⟨3, ![4, 2048, 2048]⟩
abbrev S4x256x2048 : Shape := ⟨3, ![4, 256, 2048]⟩
abbrev S4x2048 : Shape := ⟨2, ![4, 2048]⟩
abbrev S5x2048 : Shape := ⟨2, ![5, 2048]⟩
abbrev S1x2048 : Shape := ⟨2, ![1, 2048]⟩
abbrev S2048 : Shape := ⟨1, ![2048]⟩
abbrev S_ : Shape := ⟨0, ![]⟩
abbrev S8704 : Shape := ⟨1, ![8704]⟩
abbrev S8704x1 : Shape := ⟨2, ![8704, 1]⟩
abbrev S1x2048x2048 : Shape := ⟨3, ![1, 2048, 2048]⟩
abbrev S2048x2048 : Shape := ⟨2, ![2048, 2048]⟩
abbrev S1x8704x256 : Shape := ⟨3, ![1, 8704, 256]⟩
abbrev S8704x256 : Shape := ⟨2, ![8704, 256]⟩
abbrev S1x256x2048 : Shape := ⟨3, ![1, 256, 2048]⟩
abbrev S256x2048 : Shape := ⟨2, ![256, 2048]⟩

abbrev nBuf : Space → Nat
  | .hbm => 61
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S4x8704x256, .f32⟩
  | .hbm, ⟨2, _⟩ => ⟨S4x2048x2048, .f32⟩
  | .hbm, ⟨3, _⟩ => ⟨S4x256x2048, .f32⟩
  | .hbm, ⟨4, _⟩ => ⟨S4x2048, .f32⟩
  | .hbm, ⟨5, _⟩ => ⟨S5x2048, .f32⟩
  | .hbm, ⟨6, _⟩ => ⟨S1x2048, .f32⟩
  | .hbm, ⟨7, _⟩ => ⟨S2048, .f32⟩
  | .hbm, ⟨8, _⟩ => ⟨S8704x2048, .f32⟩
  | .hbm, ⟨9, _⟩ => ⟨S_, .f32⟩
  | .hbm, ⟨10, _⟩ => ⟨S8704, .f32⟩
  | .hbm, ⟨11, _⟩ => ⟨S8704x1, .f32⟩
  | .hbm, ⟨12, _⟩ => ⟨S_, .f32⟩
  | .hbm, ⟨13, _⟩ => ⟨S8704x1, .f32⟩
  | .hbm, ⟨14, _⟩ => ⟨S8704x1, .f32⟩
  | .hbm, ⟨15, _⟩ => ⟨S_, .f32⟩
  | .hbm, ⟨16, _⟩ => ⟨S8704x1, .f32⟩
  | .hbm, ⟨17, _⟩ => ⟨S8704x1, .f32⟩
  | .hbm, ⟨18, _⟩ => ⟨S8704x1, .f32⟩
  | .hbm, ⟨19, _⟩ => ⟨S8704x2048, .f32⟩
  | .hbm, ⟨20, _⟩ => ⟨S8704x2048, .f32⟩
  | .hbm, ⟨21, _⟩ => ⟨S1x2048, .f32⟩
  | .hbm, ⟨22, _⟩ => ⟨S8704x2048, .f32⟩
  | .hbm, ⟨23, _⟩ => ⟨S8704x2048, .f32⟩
  | .hbm, ⟨24, _⟩ => ⟨S1x2048x2048, .f32⟩
  | .hbm, ⟨25, _⟩ => ⟨S2048x2048, .f32⟩
  | .hbm, ⟨26, _⟩ => ⟨S8704x2048, .f32⟩
  | .hbm, ⟨27, _⟩ => ⟨S8704x2048, .f32⟩
  | .hbm, ⟨28, _⟩ => ⟨S8704x2048, .f32⟩
  | .hbm, ⟨29, _⟩ => ⟨S_, .f32⟩
  | .hbm, ⟨30, _⟩ => ⟨S8704x2048, .f32⟩
  | .hbm, ⟨31, _⟩ => ⟨S8704x2048, .f32⟩
  | .hbm, ⟨32, _⟩ => ⟨S_, .f32⟩
  | .hbm, ⟨33, _⟩ => ⟨S8704x2048, .f32⟩
  | .hbm, ⟨34, _⟩ => ⟨S8704x2048, .f32⟩
  | .hbm, ⟨35, _⟩ => ⟨S1x8704x256, .f32⟩
  | .hbm, ⟨36, _⟩ => ⟨S8704x256, .f32⟩
  | .hbm, ⟨37, _⟩ => ⟨S1x256x2048, .f32⟩
  | .hbm, ⟨38, _⟩ => ⟨S256x2048, .f32⟩
  | .hbm, ⟨39, _⟩ => ⟨S8704x2048, .f32⟩
  | .hbm, ⟨40, _⟩ => ⟨S8704x2048, .f32⟩
  | .hbm, ⟨41, _⟩ => ⟨S8704x2048, .f32⟩
  | .hbm, ⟨42, _⟩ => ⟨S1x2048, .f32⟩
  | .hbm, ⟨43, _⟩ => ⟨S2048, .f32⟩
  | .hbm, ⟨44, _⟩ => ⟨S8704x2048, .f32⟩
  | .hbm, ⟨45, _⟩ => ⟨S_, .f32⟩
  | .hbm, ⟨46, _⟩ => ⟨S8704, .f32⟩
  | .hbm, ⟨47, _⟩ => ⟨S8704x1, .f32⟩
  | .hbm, ⟨48, _⟩ => ⟨S_, .f32⟩
  | .hbm, ⟨49, _⟩ => ⟨S8704x1, .f32⟩
  | .hbm, ⟨50, _⟩ => ⟨S8704x1, .f32⟩
  | .hbm, ⟨51, _⟩ => ⟨S_, .f32⟩
  | .hbm, ⟨52, _⟩ => ⟨S8704x1, .f32⟩
  | .hbm, ⟨53, _⟩ => ⟨S8704x1, .f32⟩
  | .hbm, ⟨54, _⟩ => ⟨S8704x1, .f32⟩
  | .hbm, ⟨55, _⟩ => ⟨S8704x2048, .f32⟩
  | .hbm, ⟨56, _⟩ => ⟨S8704x2048, .f32⟩
  | .hbm, ⟨57, _⟩ => ⟨S1x2048, .f32⟩
  | .hbm, ⟨58, _⟩ => ⟨S8704x2048, .f32⟩
  | .hbm, ⟨59, _⟩ => ⟨S8704x2048, .f32⟩
  | .hbm, ⟨60, _⟩ => ⟨S8704x2048, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== GmlpIn.lean ====
abbrev S8704x2048 : Shape := ⟨2, ![8704, 2048]⟩
abbrev S4x2048x13312 : Shape := ⟨3, ![4, 2048, 13312]⟩
abbrev S4x1024 : Shape := ⟨2, ![4, 1024]⟩
abbrev S4x1x1024 : Shape := ⟨3, ![4, 1, 1024]⟩
abbrev S8704x1024 : Shape := ⟨2, ![8704, 1024]⟩
abbrev S512x2048 : Shape := ⟨2, ![512, 2048]⟩
abbrev S1x2048x1024 : Shape := ⟨3, ![1, 2048, 1024]⟩
abbrev S1x1x1024 : Shape := ⟨3, ![1, 1, 1024]⟩
abbrev S512x1024 : Shape := ⟨2, ![512, 1024]⟩
abbrev S2048x1024 : Shape := ⟨2, ![2048, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S8704x2048, .bf16⟩
  | .hbm, ⟨1, _⟩ => ⟨S4x2048x13312, .f32⟩
  | .hbm, ⟨2, _⟩ => ⟨S4x1024, .f32⟩
  | .hbm, ⟨3, _⟩ => ⟨S4x1024, .f32⟩
  | .hbm, ⟨4, _⟩ => ⟨S4x2048x13312, .bf16⟩
  | .hbm, ⟨5, _⟩ => ⟨S4x1x1024, .f32⟩
  | .hbm, ⟨6, _⟩ => ⟨S4x1x1024, .f32⟩
  | .hbm, ⟨7, _⟩ => ⟨S8704x1024, .bf16⟩
  | .hbm, ⟨8, _⟩ => ⟨S8704x1024, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1x1024, .f32⟩
  | .local _ .vmem, ⟨5, _⟩ => ⟨S1x1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GmlpInRefIdeal.lean ====
abbrev S8704x2048 : Shape := ⟨2, ![8704, 2048]⟩
abbrev S4x2048x13312 : Shape := ⟨3, ![4, 2048, 13312]⟩
abbrev S4x1024 : Shape := ⟨2, ![4, 1024]⟩
abbrev S1x2048x13312 : Shape := ⟨3, ![1, 2048, 13312]⟩
abbrev S2048x13312 : Shape := ⟨2, ![2048, 13312]⟩
abbrev S8704x13312 : Shape := ⟨2, ![8704, 13312]⟩
abbrev S8704x1024 : Shape := ⟨2, ![8704, 1024]⟩
abbrev S8704x6144 : Shape := ⟨2, ![8704, 6144]⟩
abbrev S_ : Shape := ⟨0, ![]⟩
abbrev S1x1024 : Shape := ⟨2, ![1, 1024]⟩
abbrev S1024 : Shape := ⟨1, ![1024]⟩
abbrev S8704 : Shape := ⟨1, ![8704]⟩
abbrev S8704x1 : Shape := ⟨2, ![8704, 1]⟩

abbrev nBuf : Space → Nat
  | .hbm => 65
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S4x2048x13312, .f32⟩
  | .hbm, ⟨2, _⟩ => ⟨S4x1024, .f32⟩
  | .hbm, ⟨3, _⟩ => ⟨S4x1024, .f32⟩
  | .hbm, ⟨4, _⟩ => ⟨S8704x2048, .f32⟩
  | .hbm, ⟨5, _⟩ => ⟨S1x2048x13312, .f32⟩
  | .hbm, ⟨6, _⟩ => ⟨S2048x13312, .f32⟩
  | .hbm, ⟨7, _⟩ => ⟨S8704x13312, .f32⟩
  | .hbm, ⟨8, _⟩ => ⟨S8704x2048, .f32⟩
  | .hbm, ⟨9, _⟩ => ⟨S8704x2048, .f32⟩
  | .hbm, ⟨10, _⟩ => ⟨S8704x1024, .f32⟩
  | .hbm, ⟨11, _⟩ => ⟨S8704x1024, .f32⟩
  | .hbm, ⟨12, _⟩ => ⟨S8704x1024, .f32⟩
  | .hbm, ⟨13, _⟩ => ⟨S8704x6144, .f32⟩
  | .hbm, ⟨14, _⟩ => ⟨S8704x2048, .f32⟩
  | .hbm, ⟨15, _⟩ => ⟨S8704x2048, .f32⟩
  | .hbm, ⟨16, _⟩ => ⟨S_, .f32⟩
  | .hbm, ⟨17, _⟩ => ⟨S8704x2048, .f32⟩
  | .hbm, ⟨18, _⟩ => ⟨S8704x2048, .f32⟩
  | .hbm, ⟨19, _⟩ => ⟨S8704x2048, .f32⟩
  | .hbm, ⟨20, _⟩ => ⟨S_, .f32⟩
  | .hbm, ⟨21, _⟩ => ⟨S8704x2048, .f32⟩
  | .hbm, ⟨22, _⟩ => ⟨S8704x2048, .f32⟩
  | .hbm, ⟨23, _⟩ => ⟨S8704x2048, .f32⟩
  | .hbm, ⟨24, _⟩ => ⟨S_, .f32⟩
  | .hbm, ⟨25, _⟩ => ⟨S8704x2048, .f32⟩
  | .hbm, ⟨26, _⟩ => ⟨S8704x2048, .f32⟩
  | .hbm, ⟨27, _⟩ => ⟨S_, .f32⟩
  | .hbm, ⟨28, _⟩ => ⟨S8704x2048, .f32⟩
  | .hbm, ⟨29, _⟩ => ⟨S8704x2048, .f32⟩
  | .hbm, ⟨30, _⟩ => ⟨S8704x2048, .f32⟩
  | .hbm, ⟨31, _⟩ => ⟨S8704x1024, .f32⟩
  | .hbm, ⟨32, _⟩ => ⟨S8704x1024, .f32⟩
  | .hbm, ⟨33, _⟩ => ⟨S8704x1024, .bf16⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S1024, .f32⟩
  | .hbm, ⟨38, _⟩ => ⟨S_, .f32⟩
  | .hbm, ⟨39, _⟩ => ⟨S8704, .f32⟩
  | .hbm, ⟨40, _⟩ => ⟨S8704x1, .f32⟩
  | .hbm, ⟨41, _⟩ => ⟨S_, .f32⟩
  | .hbm, ⟨42, _⟩ => ⟨S8704x1, .f32⟩
  | .hbm, ⟨43, _⟩ => ⟨S8704x1, .f32⟩
  | .hbm, ⟨44, _⟩ => ⟨S8704x1024, .f32⟩
  | .hbm, ⟨45, _⟩ => ⟨S8704x1024, .f32⟩
  | .hbm, ⟨46, _⟩ => ⟨S8704x1024, .f32⟩
  | .hbm, ⟨47, _⟩ => ⟨S_, .f32⟩
  | .hbm, ⟨48, _⟩ => ⟨S8704, .f32⟩
  | .hbm, ⟨49, _⟩ => ⟨S8704x1, .f32⟩
  | .hbm, ⟨50, _⟩ => ⟨S_, .f32⟩
  | .hbm, ⟨51, _⟩ => ⟨S8704x1, .f32⟩
  | .hbm, ⟨52, _⟩ => ⟨S8704x1, .f32⟩
  | .hbm, ⟨53, _⟩ => ⟨S_, .f32⟩
  | .hbm, ⟨54, _⟩ => ⟨S8704x1, .f32⟩
  | .hbm, ⟨55, _⟩ => ⟨S8704x1, .f32⟩
  | .hbm, ⟨56, _⟩ => ⟨S8704x1, .f32⟩
  | .hbm, ⟨57, _⟩ => ⟨S8704x1024, .f32⟩
  | .hbm, ⟨58, _⟩ => ⟨S8704x1024, .f32⟩
  | .hbm, ⟨59, _⟩ => ⟨S1x1024, .f32⟩
  | .hbm, ⟨60, _⟩ => ⟨S8704x1024, .f32⟩
  | .hbm, ⟨61, _⟩ => ⟨S8704x1024, .f32⟩
  | .hbm, ⟨62, _⟩ => ⟨S1x1024, .f32⟩
  | .hbm, ⟨63, _⟩ => ⟨S8704x1024, .f32⟩
  | .hbm, ⟨64, _⟩ => ⟨S8704x1024, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩

abbrev nD : Nat := 1
abbrev τ : Topo := Topo.v7x

variable {F : FTy → Type} [FloatOps F]
-- ==== Qkv.lean ====
abbrev S8704x2048 : Shape := ⟨2, ![8704, 2048]⟩
abbrev S4x2048x13312 : Shape := ⟨3, ![4, 2048, 13312]⟩
abbrev S8704x1024 : Shape := ⟨2, ![8704, 1024]⟩
abbrev S2048x2048 : Shape := ⟨2, ![2048, 2048]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 7
  | .vmem => 13
  | .smem => 0
  | _ => 0

abbrev bufTy : (tb : Table) → Fin (tcTables nBuf tb) → BufTy
  | .hbm, ⟨0, _⟩ => ⟨S8704x2048, .bf16⟩
  | .hbm, ⟨1, _⟩ => ⟨S4x2048x13312, .f32⟩
  | .hbm, ⟨2, _⟩ => ⟨S4x2048x13312, .bf16⟩
  | .hbm, ⟨3, _⟩ => ⟨S8704x1024, .bf16⟩
  | .hbm, ⟨4, _⟩ => ⟨S8704x1024, .bf16⟩
  | .hbm, ⟨5, _⟩ => ⟨S8704x1024, .bf16⟩
  | .hbm, ⟨6, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x2048, .f32⟩
  | .local _ .vmem, ⟨12, _⟩ => ⟨S512x2048, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c5_i32 : BitVec 32 := 5#32
  let c0_i32_1 : BitVec 32 := 0#32
  ![c0_i32.toNat, c0_i32_0.toNat, c5_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c6_i32 : BitVec 32 := 6#32
  let c0_i32_1 : BitVec 32 := 0#32
  ![c0_i32.toNat, c0_i32_0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c7_i32 : BitVec 32 := 7#32
  let v0 : BitVec 1 := Scalar.cmpi .eq arg0 c7_i32
  let c0_i32 : BitVec 32 := 0#32
  let c3_i32 : BitVec 32 := 3#32
  let v1 : BitVec 32 := Scalar.select v0 c0_i32 c3_i32
  let c15_i32 : BitVec 32 := 15#32
  let v2 : BitVec 1 := Scalar.cmpi .eq arg0 c15_i32
  let c1_i32 : BitVec 32 := 1#32
  let v3 : BitVec 32 := Scalar.select v2 c1_i32 v1
  let c16_i32 : BitVec 32 := 16#32
  let v4 : BitVec 1 := Scalar.cmpi .eq arg0 c16_i32
  let c2_i32 : BitVec 32 := 2#32
  let v5 : BitVec 32 := Scalar.select v4 c2_i32 v3
  let c0_i32_0 : BitVec 32 := 0#32
  let c0_i32_1 : BitVec 32 := 0#32
  ![v5.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QkvRefIdeal.lean ====
abbrev S8704x2048 : Shape := ⟨2, ![8704, 2048]⟩
abbrev S4x2048x13312 : Shape := ⟨3, ![4, 2048, 13312]⟩
abbrev S1x2048x13312 : Shape := ⟨3, ![1, 2048, 13312]⟩
abbrev S2048x13312 : Shape := ⟨2, ![2048, 13312]⟩
abbrev S8704x13312 : Shape := ⟨2, ![8704, 13312]⟩
abbrev S8704x1024 : Shape := ⟨2, ![8704, 1024]⟩
abbrev S8704x6144 : Shape := ⟨2, ![8704, 6144]⟩
abbrev S8192x2048 : Shape := ⟨2, ![8192, 2048]⟩
abbrev S2x4096x2048 : Shape := ⟨3, ![2, 4096, 2048]⟩
abbrev S2x512x2048 : Shape := ⟨3, ![2, 512, 2048]⟩
abbrev S1024x2048 : Shape := ⟨2, ![1024, 2048]⟩
abbrev S512x2048 : Shape := ⟨2, ![512, 2048]⟩
abbrev S1536x2048 : Shape := ⟨2, ![1536, 2048]⟩
abbrev S_ : Shape := ⟨0, ![]⟩
abbrev S2048x2048 : Shape := ⟨2, ![2048, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S4x2048x13312, .f32⟩
  | .hbm, ⟨2, _⟩ => ⟨S8704x2048, .f32⟩
  | .hbm, ⟨3, _⟩ => ⟨S1x2048x13312, .f32⟩
  | .hbm, ⟨4, _⟩ => ⟨S2048x13312, .f32⟩
  | .hbm, ⟨5, _⟩ => ⟨S8704x13312, .f32⟩
  | .hbm, ⟨6, _⟩ => ⟨S8704x2048, .f32⟩
  | .hbm, ⟨7, _⟩ => ⟨S8704x2048, .f32⟩
  | .hbm, ⟨8, _⟩ => ⟨S8704x1024, .f32⟩
  | .hbm, ⟨9, _⟩ => ⟨S8704x1024, .f32⟩
  | .hbm, ⟨10, _⟩ => ⟨S8704x1024, .f32⟩
  | .hbm, ⟨11, _⟩ => ⟨S8704x6144, .f32⟩
  | .hbm, ⟨12, _⟩ => ⟨S8704x2048, .f32⟩
  | .hbm, ⟨13, _⟩ => ⟨S8192x2048, .f32⟩
  | .hbm, ⟨14, _⟩ => ⟨S2x4096x2048, .f32⟩
  | .hbm, ⟨15, _⟩ => ⟨S2x512x2048, .f32⟩
  | .hbm, ⟨16, _⟩ => ⟨S1024x2048, .f32⟩
  | .hbm, ⟨17, _⟩ => ⟨S512x2048, .f32⟩
  | .hbm, ⟨18, _⟩ => ⟨S1536x2048, .f32⟩
  | .hbm, ⟨19, _⟩ => ⟨S_, .f32⟩
  | .hbm, ⟨20, _⟩ => ⟨S512x2048, .f32⟩
  | .hbm, ⟨21, _⟩ => ⟨S8704x1024, .bf16⟩
  | .hbm, ⟨22, _⟩ => ⟨S8704x1024, .bf16⟩
  | .hbm, ⟨23, _⟩ => ⟨S8704x1024, .bf16⟩
  | .hbm, ⟨24, _⟩ => ⟨S2048x2048, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== Rms.lean ====
abbrev S8704x2048 : Shape := ⟨2, ![8704, 2048]⟩
abbrev S5x2048 : Shape := ⟨2, ![5, 2048]⟩
abbrev S5x1x2048 : Shape := ⟨3, ![5, 1, 2048]⟩
abbrev S512x2048 : Shape := ⟨2, ![512, 2048]⟩
abbrev S1x1x2048 : Shape := ⟨3, ![1, 1, 2048]⟩
abbrev S1x2048 : Shape := ⟨2, ![1, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8704x2048, .f32⟩
  | .hbm, ⟨1, _⟩ => ⟨S5x2048, .f32⟩
  | .hbm, ⟨2, _⟩ => ⟨S5x1x2048, .f32⟩
  | .hbm, ⟨3, _⟩ => ⟨S8704x2048, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S512x2048, .bf16⟩
  | .local _ .vmem, ⟨4, _⟩ => ⟨S512x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S8704x2048 : Shape := ⟨2, ![8704, 2048]⟩
abbrev S5x2048 : Shape := ⟨2, ![5, 2048]⟩
abbrev S1x2048 : Shape := ⟨2, ![1, 2048]⟩
abbrev S2048 : Shape := ⟨1, ![2048]⟩
abbrev S_ : Shape := ⟨0, ![]⟩
abbrev S8704 : Shape := ⟨1, ![8704]⟩
abbrev S8704x1 : Shape := ⟨2, ![8704, 1]⟩

abbrev nBuf : Space → Nat
  | .hbm => 21
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S5x2048, .f32⟩
  | .hbm, ⟨2, _⟩ => ⟨S1x2048, .f32⟩
  | .hbm, ⟨3, _⟩ => ⟨S2048, .f32⟩
  | .hbm, ⟨4, _⟩ => ⟨S8704x2048, .f32⟩
  | .hbm, ⟨5, _⟩ => ⟨S_, .f32⟩
  | .hbm, ⟨6, _⟩ => ⟨S8704, .f32⟩
  | .hbm, ⟨7, _⟩ => ⟨S8704x1, .f32⟩
  | .hbm, ⟨8, _⟩ => ⟨S_, .f32⟩
  | .hbm, ⟨9, _⟩ => ⟨S8704x1, .f32⟩
  | .hbm, ⟨10, _⟩ => ⟨S8704x1, .f32⟩
  | .hbm, ⟨11, _⟩ => ⟨S_, .f32⟩
  | .hbm, ⟨12, _⟩ => ⟨S8704x1, .f32⟩
  | .hbm, ⟨13, _⟩ => ⟨S8704x1, .f32⟩
  | .hbm, ⟨14, _⟩ => ⟨S8704x1, .f32⟩
  | .hbm, ⟨15, _⟩ => ⟨S8704x2048, .f32⟩
  | .hbm, ⟨16, _⟩ => ⟨S8704x2048, .f32⟩
  | .hbm, ⟨17, _⟩ => ⟨S1x2048, .f32⟩
  | .hbm, ⟨18, _⟩ => ⟨S8704x2048, .f32⟩
  | .hbm, ⟨19, _⟩ => ⟨S8704x2048, .f32⟩
  | .hbm, ⟨20, _⟩ => ⟨S8704x2048, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== GmlpMix.lean ====
abbrev S8704x1024 : Shape := ⟨2, ![8704, 1024]⟩
abbrev S4x8x128x128 : Shape := ⟨4, ![4, 8, 128, 128]⟩
abbrev S4x8x128 : Shape := ⟨3, ![4, 8, 128]⟩
abbrev S1x8x128x128 : Shape := ⟨4, ![1, 8, 128, 128]⟩
abbrev S8x128x128 : Shape := ⟨3, ![8, 128, 128]⟩
abbrev S8x32x32 : Shape := ⟨3, ![8, 32, 32]⟩
abbrev S1x8x1x32x1x32 : Shape := ⟨6, ![1, 8, 1, 32, 1, 32]⟩
abbrev S1x8x4x32x4x32 : Shape := ⟨6, ![1, 8, 4, 32, 4, 32]⟩
abbrev S1x8x128 : Shape := ⟨3, ![1, 8, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S32x1024 : Shape := ⟨2, ![32, 1024]⟩
abbrev S1x32x1x1024 : Shape := ⟨4, ![1, 32, 1, 1024]⟩
abbrev S4x32x1x1024 : Shape := ⟨4, ![4, 32, 1, 1024]⟩
abbrev S2x8x128x128 : Shape := ⟨4, ![2, 8, 128, 128]⟩
abbrev S1x128x1024 : Shape := ⟨3, ![1, 128, 1024]⟩
abbrev S2x128x1024 : Shape := ⟨3, ![2, 128, 1024]⟩
abbrev S512x1024 : Shape := ⟨2, ![512, 1024]⟩
abbrev S128x128 : Shape := ⟨2, ![128, 128]⟩
abbrev S1x1x128x128 : Shape := ⟨4, ![1, 1, 128, 128]⟩
abbrev S1x128x128 : Shape := ⟨3, ![1, 128, 128]⟩

abbrev nBuf : Space → Nat
  | .hbm => 26
  | .vmem => 10
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .f32⟩
  | .hbm, ⟨2, _⟩ => ⟨S4x8x128x128, .f32⟩
  | .hbm, ⟨3, _⟩ => ⟨S4x8x128, .f32⟩
  | .hbm, ⟨4, _⟩ => ⟨S1x8x128x128, .f32⟩
  | .hbm, ⟨5, _⟩ => ⟨S8x128x128, .f32⟩
  | .hbm, ⟨6, _⟩ => ⟨S8x32x32, .f32⟩
  | .hbm, ⟨7, _⟩ => ⟨S1x8x1x32x1x32, .f32⟩
  | .hbm, ⟨8, _⟩ => ⟨S1x8x4x32x4x32, .f32⟩
  | .hbm, ⟨9, _⟩ => ⟨S8x128x128, .f32⟩
  | .hbm, ⟨10, _⟩ => ⟨S1x8x128, .f32⟩
  | .hbm, ⟨11, _⟩ => ⟨S8x128, .f32⟩
  | .hbm, ⟨12, _⟩ => ⟨S128x8, .f32⟩
  | .hbm, ⟨13, _⟩ => ⟨S128x8x128, .f32⟩
  | .hbm, ⟨14, _⟩ => ⟨S128x1024, .f32⟩
  | .hbm, ⟨15, _⟩ => ⟨S32x1024, .f32⟩
  | .hbm, ⟨16, _⟩ => ⟨S1x32x1x1024, .f32⟩
  | .hbm, ⟨17, _⟩ => ⟨S4x32x1x1024, .f32⟩
  | .hbm, ⟨18, _⟩ => ⟨S128x1024, .f32⟩
  | .hbm, ⟨19, _⟩ => ⟨S1x8x128x128, .f32⟩
  | .hbm, ⟨20, _⟩ => ⟨S1x8x128x128, .f32⟩
  | .hbm, ⟨21, _⟩ => ⟨S2x8x128x128, .f32⟩
  | .hbm, ⟨22, _⟩ => ⟨S1x128x1024, .f32⟩
  | .hbm, ⟨23, _⟩ => ⟨S1x128x1024, .f32⟩
  | .hbm, ⟨24, _⟩ => ⟨S2x128x1024, .f32⟩
  | .hbm, ⟨25, _⟩ => ⟨S8704x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x8x128x128, .f32⟩
  | .local _ .vmem, ⟨5, _⟩ => ⟨S1x8x128x128, .f32⟩
  | .local _ .vmem, ⟨6, _⟩ => ⟨S1x128x1024, .f32⟩
  | .local _ .vmem, ⟨7, _⟩ => ⟨S1x128x1024, .f32⟩
  | .local _ .vmem, ⟨8, _⟩ => ⟨S512x1024, .bf16⟩
  | .local _ .vmem, ⟨9, _⟩ => ⟨S512x1024, .bf16⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c16_i32 : BitVec 32 := 16#32
  let v0 : BitVec 1 := Scalar.cmpi .eq arg0 c16_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_3 (i : grid0.Coords) : Fin 3 → Nat :=
  let arg0 : BitVec 32 := BitVec.ofNat 32 (i 0).val
  let c16_i32 : BitVec 32 := 16#32
  let v0 : BitVec 1 := Scalar.cmpi .eq arg0 c16_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GmlpMixRefIdeal.lean ====
abbrev S8704x1024 : Shape := ⟨2, ![8704, 1024]⟩
abbrev S4x8x128x128 : Shape := ⟨4, ![4, 8, 128, 128]⟩
abbrev S4x8x128 : Shape := ⟨3, ![4, 8, 128]⟩
abbrev S8192x1024 : Shape := ⟨2, ![8192, 1024]⟩
abbrev S2x4096x8x128 : Shape := ⟨4, ![2, 4096, 8, 128]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S_ : Shape := ⟨0, ![]⟩
abbrev S2x32x128x8x128 : Shape := ⟨5, ![2, 32, 128, 8, 128]⟩
abbrev S128x128 : Shape := ⟨2, ![128, 128]⟩
abbrev S1x128x128 : Shape := ⟨3, ![1, 128, 128]⟩
abbrev S8x2x32x128x128 : Shape := ⟨5, ![8, 2, 32, 128, 128]⟩
abbrev S128x8 : Shape := ⟨2, ![128, 8]⟩
abbrev S1x1x128x8x1 : Shape := ⟨5, ![1, 1, 128, 8, 1]⟩
abbrev S2x4096x1024 : Shape := ⟨3, ![2, 4096, 1024]⟩
abbrev S512x1024 : Shape := ⟨2, ![512, 1024]⟩
abbrev S16x32x8x128 : Shape := ⟨4, ![16, 32, 8, 128]⟩
abbrev S16x128x8x128 : Shape := ⟨4, ![16, 128, 8, 128]⟩
abbrev S16x1x128x8x128 : Shape := ⟨5, ![16, 1, 128, 8, 128]⟩
abbrev S8x16x1x128x128 : Shape := ⟨5, ![8, 16, 1, 128, 128]⟩
abbrev S16x128x1024 : Shape := ⟨3, ![16, 128, 1024]⟩
abbrev S16x32x1024 : Shape := ⟨3, ![16, 32, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .f32⟩
  | .hbm, ⟨2, _⟩ => ⟨S4x8x128x128, .f32⟩
  | .hbm, ⟨3, _⟩ => ⟨S4x8x128, .f32⟩
  | .hbm, ⟨4, _⟩ => ⟨S8192x1024, .f32⟩
  | .hbm, ⟨5, _⟩ => ⟨S2x4096x8x128, .f32⟩
  | .hbm, ⟨6, _⟩ => ⟨S1x8x128x128, .f32⟩
  | .hbm, ⟨7, _⟩ => ⟨S8x128x128, .f32⟩
  | .hbm, ⟨8, _⟩ => ⟨S1x8x128, .f32⟩
  | .hbm, ⟨9, _⟩ => ⟨S8x128, .f32⟩
  | .hbm, ⟨10, _⟩ => ⟨S_, .i32⟩
  | .hbm, ⟨11, _⟩ => ⟨S_, .f32⟩
  | .hbm, ⟨12, _⟩ => ⟨S2x4096x8x128, .f32⟩
  | .hbm, ⟨13, _⟩ => ⟨S2x32x128x8x128, .f32⟩
  | .hbm, ⟨14, _⟩ => ⟨S_, .i1⟩
  | .hbm, ⟨15, _⟩ => ⟨S128x128, .i1⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i32⟩
  | .hbm, ⟨20, _⟩ => ⟨S128x128, .i32⟩
  | .hbm, ⟨21, _⟩ => ⟨S128x128, .i1⟩
  | .hbm, ⟨22, _⟩ => ⟨S_, .i1⟩
  | .hbm, ⟨23, _⟩ => ⟨S128x128, .i1⟩
  | .hbm, ⟨24, _⟩ => ⟨S128x128, .i1⟩
  | .hbm, ⟨25, _⟩ => ⟨S1x128x128, .i1⟩
  | .hbm, ⟨26, _⟩ => ⟨S_, .i32⟩
  | .hbm, ⟨27, _⟩ => ⟨S_, .f32⟩
  | .hbm, ⟨28, _⟩ => ⟨S8x128x128, .i1⟩
  | .hbm, ⟨29, _⟩ => ⟨S8x128x128, .f32⟩
  | .hbm, ⟨30, _⟩ => ⟨S8x128x128, .f32⟩
  | .hbm, ⟨31, _⟩ => ⟨S8x2x32x128x128, .f32⟩
  | .hbm, ⟨32, _⟩ => ⟨S2x32x128x8x128, .f32⟩
  | .hbm, ⟨33, _⟩ => ⟨S128x8, .f32⟩
  | .hbm, ⟨34, _⟩ => ⟨S1x1x128x8x1, .f32⟩
  | .hbm, ⟨35, _⟩ => ⟨S2x32x128x8x128, .f32⟩
  | .hbm, ⟨36, _⟩ => ⟨S2x32x128x8x128, .f32⟩
  | .hbm, ⟨37, _⟩ => ⟨S2x4096x1024, .f32⟩
  | .hbm, ⟨38, _⟩ => ⟨S8192x1024, .f32⟩
  | .hbm, ⟨39, _⟩ => ⟨S512x1024, .f32⟩
  | .hbm, ⟨40, _⟩ => ⟨S16x32x8x128, .f32⟩
  | .hbm, ⟨41, _⟩ => ⟨S1x8x128x128, .f32⟩
  | .hbm, ⟨42, _⟩ => ⟨S8x128x128, .f32⟩
  | .hbm, ⟨43, _⟩ => ⟨S1x8x128, .f32⟩
  | .hbm, ⟨44, _⟩ => ⟨S8x128, .f32⟩
  | .hbm, ⟨45, _⟩ => ⟨S_, .i32⟩
  | .hbm, ⟨46, _⟩ => ⟨S_, .f32⟩
  | .hbm, ⟨47, _⟩ => ⟨S16x128x8x128, .f32⟩
  | .hbm, ⟨48, _⟩ => ⟨S16x1x128x8x128, .f32⟩
  | .hbm, ⟨49, _⟩ => ⟨S_, .i1⟩
  | .hbm, ⟨50, _⟩ => ⟨S128x128, .i1⟩
  | .hbm, ⟨51, _⟩ => ⟨S128x128, .i32⟩
  | .hbm, ⟨52, _⟩ => ⟨S_, .i32⟩
  | .hbm, ⟨53, _⟩ => ⟨S128x128, .i32⟩
  | .hbm, ⟨54, _⟩ => ⟨S128x128, .i32⟩
  | .hbm, ⟨55, _⟩ => ⟨S128x128, .i32⟩
  | .hbm, ⟨56, _⟩ => ⟨S128x128, .i1⟩
  | .hbm, ⟨57, _⟩ => ⟨S_, .i1⟩
  | .hbm, ⟨58, _⟩ => ⟨S128x128, .i1⟩
  | .hbm, ⟨59, _⟩ => ⟨S128x128, .i1⟩
  | .hbm, ⟨60, _⟩ => ⟨S1x128x128, .i1⟩
  | .hbm, ⟨61, _⟩ => ⟨S_, .i32⟩
  | .hbm, ⟨62, _⟩ => ⟨S_, .f32⟩
  | .hbm, ⟨63, _⟩ => ⟨S8x128x128, .i1⟩
  | .hbm, ⟨64, _⟩ => ⟨S8x128x128, .f32⟩
  | .hbm, ⟨65, _⟩ => ⟨S8x128x128, .f32⟩
  | .hbm, ⟨66, _⟩ => ⟨S8x16x1x128x128, .f32⟩
  | .hbm, ⟨67, _⟩ => ⟨S16x1x128x8x128, .f32⟩
  | .hbm, ⟨68, _⟩ => ⟨S128x8, .f32⟩
  | .hbm, ⟨69, _⟩ => ⟨S1x1x128x8x1, .f32⟩
  | .hbm, ⟨70, _⟩ => ⟨S16x1x128x8x128, .f32⟩
  | .hbm, ⟨71, _⟩ => ⟨S16x1x128x8x128, .f32⟩
  | .hbm, ⟨72, _⟩ => ⟨S16x128x1024, .f32⟩
  | .hbm, ⟨73, _⟩ => ⟨S16x32x1024, .f32⟩
  | .hbm, ⟨74, _⟩ => ⟨S512x1024, .f32⟩
  | .hbm, ⟨75, _⟩ => ⟨S8704x1024, .f32⟩
  | .hbm, ⟨76, _⟩ => ⟨S8704x1024, .f32⟩
  | .hbm, ⟨77, _⟩ => ⟨S8704x1024, .f32⟩
  | .hbm, ⟨78, _⟩ => ⟨S8704x1024, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_call1_v0 : Ref sig .tc := ⟨.hbm, 16, rfl⟩
abbrev main_call1_c : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_c_0 : Ref sig .tc := ⟨.hbm, 22, rfl⟩
abbrev main_call1_v5 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_2 : Ref sig .tc := ⟨.hbm, 45, rfl⟩
abbrev main_call3_v0 : Ref sig .tc := ⟨.hbm, 46, rfl⟩
abbrev main_v26 : Ref sig .tc := ⟨.hbm, 47, rfl⟩
abbrev main_v27 : Ref sig .tc := ⟨.hbm, 48, rfl⟩
abbrev main_c_3 : Ref sig .tc := ⟨.hbm, 49, rfl⟩
abbrev main_v28 : Ref sig .tc := ⟨.hbm, 50, rfl⟩
abbrev main_call4_v0 : Ref sig .tc := ⟨.hbm, 51, rfl⟩
abbrev main_call4_c : Ref sig .tc := ⟨.hbm, 52, rfl⟩
abbrev main_call4_v1 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_call4_c_0 : Ref sig .tc := ⟨.hbm, 57, rfl⟩
abbrev main_call4_v5 : Ref sig .tc := ⟨.hbm, 58, rfl⟩
abbrev main_v29 : Ref sig .tc := ⟨.hbm, 59, rfl⟩
abbrev main_v30 : Ref sig .tc := ⟨.hbm, 60, rfl⟩
abbrev main_c_4 : Ref sig .tc := ⟨.hbm, 61, rfl⟩
abbrev main_call5_v0 : Ref sig .tc := ⟨.hbm, 62, rfl⟩
abbrev main_call5_v1 : Ref sig .tc := ⟨.hbm, 63, rfl⟩
abbrev main_call5_v2 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩

abbrev nD : Nat := 1
abbrev τ : Topo := Topo.v7x

variable {F : FTy → Type} [FloatOps F]
-- ==== Proof.AttnPHead.lean ====
/- The banded attention over the prompt, one head of one grid point: what the kernel computes for 256 queries from the
   three key blocks its window reaches. At query `r` and column `d` of the head it is
     (∑ c, e₀[c]·v₀[c,d] + ∑ c, e₁[c]·v₁[c,d] + ∑ c, e₂[c]·v₂[c,d]) · (1 / (∑ e₀ + ∑ e₁ + ∑ e₂))
   with `eₛ[c] = exp (sₛ[c] - max)` and the score `sₛ[c] = (∑ d, q[r,d]·kₛ[c,d])·scale + biasₛ[r,c] + penₛ`. The
   eight heads of the body are this one function at eight column blocks. -/
module

public import proofs.«01_k».proof.Proof.Gen.AttnPIdeal.Value
public import Idealize.ShloMosaic.Lib.Pointwise
public import Idealize.ShloMosaic.Lib.StableHlo.ReadAt
public import Idealize.ShloMosaic.Lib.Pipeline.ValueKit.Tiles

@[expose] public section

set_option maxRecDepth 16384

noncomputable section

namespace Cert.Proof.AttnP

open Idealize.ShloMosaic Idealize.ShloMosaic.TcCoe Idealize.SL.Sem
open Cert.AttnPIdeal Cert.AttnPIdeal.Gen

/-- The scale of the scores. -/
abbrev scale : EReal := Scalar.ofBits (F := Ideal) .f32 0x3DB504F3#32

/-- One head of the body, as the third head's stores spell it. -/
def headV (p0 p1 p2 : EReal) (q k0 k1 k2 v0 v1 v2 : Vec Ideal S256x128 .bf16) (b0 b1 b2 : Vec Ideal S1x256x256 .f32) :
    Vec Ideal S256x128 .bf16 :=
  k0_pay33 (F := Ideal) (k0_pay32 p2 (k0_pay29 p0 q k0 b0) (k0_pay30 p1 q k1 b1) (k0_pay31 q k2) b2 v0 v1 v2)

/-- A score of one query and one key of a block. -/
def sc (p : EReal) (q k : S256x128.Idx → EReal) (b : S1x256x256.Idx → EReal) (r c : Fin 256) : EReal :=
  (∑ d : Fin 128, q (ix2 r d) * k (ix2 c d)) * scale + b (ix3 0 r c) + p

/-- The scores of the first key block. -/
theorem pay29_apply (p : EReal) (q k : Vec Ideal S256x128 .bf16) (b : Vec Ideal S1x256x256 .f32) (r c : Fin 256) :
    k0_pay29 (F := Ideal) p q k b (ix2 r c) = sc p q k b r c := by
  unfold sc
  pointwise [k0_pay29]

/-- The scores of the second key block. -/
theorem pay30_apply (p : EReal) (q k : Vec Ideal S256x128 .bf16) (b : Vec Ideal S1x256x256 .f32) (r c : Fin 256) :
    k0_pay30 (F := Ideal) p q k b (ix2 r c) = sc p q k b r c := by
  unfold sc
  pointwise [k0_pay30]

/-- The scores of the third key block before bias and penalty. -/
theorem pay31_apply (q k : Vec Ideal S256x128 .bf16) (r c : Fin 256) :
    k0_pay31 (F := Ideal) q k (ix2 r c) = (∑ d : Fin 128, q (ix2 r d) * k (ix2 c d)) * scale := by
  pointwise [k0_pay31]

/-- The greatest of the scores of a query over the three blocks. -/
def mx (s0 s1 s2 : Fin 256 → EReal) : EReal :=
  max (max (Finset.univ.fold max (Ideal.ofBits .f32 4286578688#32) s0) (Finset.univ.fold max (Ideal.ofBits .f32 4286578688#32) s1))
    (Finset.univ.fold max (Ideal.ofBits .f32 4286578688#32) s2)

/-- The result of one query at one column from its scores and the column of the values. -/
def headAt (s0 s1 s2 v0 v1 v2 : Fin 256 → EReal) : EReal :=
  ((∑ c, Ideal.exp (s0 c - mx s0 s1 s2) * v0 c + ∑ c, Ideal.exp (s1 c - mx s0 s1 s2) * v1 c)
      + ∑ c, Ideal.exp (s2 c - mx s0 s1 s2) * v2 c)
    * Ideal.div 1 ((∑ c, Ideal.exp (s0 c - mx s0 s1 s2) + ∑ c, Ideal.exp (s1 c - mx s0 s1 s2))
      + ∑ c, Ideal.exp (s2 c - mx s0 s1 s2))

/-- The weighted values of one head, normalised, from its scores. -/
theorem pay32_apply (p2 : EReal) (s0 s1 t2 : Vec Ideal S256x256 .f32) (b2 : Vec Ideal S1x256x256 .f32)
    (v0 v1 v2 : Vec Ideal S256x128 .bf16) (r : Fin 256) (d : Fin 128) :
    k0_pay33 (F := Ideal) (k0_pay32 p2 s0 s1 t2 b2 v0 v1 v2) (ix2 r d)
      = headAt (fun c => s0 (ix2 r c)) (fun c => s1 (ix2 r c)) (fun c => t2 (ix2 r c) + b2 (ix3 0 r c) + p2)
          (fun c => v0 (ix2 c d)) (fun c => v1 (ix2 c d)) (fun c => v2 (ix2 c d)) := by
  unfold headAt mx
  pointwise [k0_pay33, k0_pay32]

/-- The output block of one grid point: eight heads, each stored in its column block. -/
theorem out_heads (i : grid0.Coords) (x0 x1 x2 x3 x4 x5 x6 : Vec Ideal S256x1024 .bf16) (x7 : Vec Ideal S8x256x768 .f32) :
    out0_8 (F := Ideal) i x0 x1 x2 x3 x4 x5 x6 x7 = View.canon [
      ⟨r0_28, headV (k0_pay2 (F := Ideal) i) (k0_pay3 (F := Ideal) i) (k0_pay4 (F := Ideal) i) (View.ld x0 r0_28) (View.ld x1 r0_28) (View.ld x2 r0_28) (View.ld x3 r0_28)
        (View.ld x4 r0_28) (View.ld x5 r0_28) (View.ld x6 r0_28) (View.ld x7 r0_29) (View.ld x7 r0_30) (View.ld x7 r0_31)⟩,
      ⟨r0_24, headV (k0_pay2 (F := Ideal) i) (k0_pay3 (F := Ideal) i) (k0_pay4 (F := Ideal) i) (View.ld x0 r0_24) (View.ld x1 r0_24) (View.ld x2 r0_24) (View.ld x3 r0_24)
        (View.ld x4 r0_24) (View.ld x5 r0_24) (View.ld x6 r0_24) (View.ld x7 r0_25) (View.ld x7 r0_26) (View.ld x7 r0_27)⟩,
      ⟨r0_20, headV (k0_pay2 (F := Ideal) i) (k0_pay3 (F := Ideal) i) (k0_pay4 (F := Ideal) i) (View.ld x0 r0_20) (View.ld x1 r0_20) (View.ld x2 r0_20) (View.ld x3 r0_20)
        (View.ld x4 r0_20) (View.ld x5 r0_20) (View.ld x6 r0_20) (View.ld x7 r0_21) (View.ld x7 r0_22) (View.ld x7 r0_23)⟩,
      ⟨r0_16, headV (k0_pay2 (F := Ideal) i) (k0_pay3 (F := Ideal) i) (k0_pay4 (F := Ideal) i) (View.ld x0 r0_16) (View.ld x1 r0_16) (View.ld x2 r0_16) (View.ld x3 r0_16)
        (View.ld x4 r0_16) (View.ld x5 r0_16) (View.ld x6 r0_16) (View.ld x7 r0_17) (View.ld x7 r0_18) (View.ld x7 r0_19)⟩,
      ⟨r0_12, headV (k0_pay2 (F := Ideal) i) (k0_pay3 (F := Ideal) i) (k0_pay4 (F := Ideal) i) (View.ld x0 r0_12) (View.ld x1 r0_12) (View.ld x2 r0_12) (View.ld x3 r0_12)
        (View.ld x4 r0_12) (View.ld x5 r0_12) (View.ld x6 r0_12) (View.ld x7 r0_13) (View.ld x7 r0_14) (View.ld x7 r0_15)⟩,
      ⟨r0_8, headV (k0_pay2 (F := Ideal) i) (k0_pay3 (F := Ideal) i) (k0_pay4 (F := Ideal) i) (View.ld x0 r0_8) (View.ld x1 r0_8) (View.ld x2 r0_8) (View.ld x3 r0_8)
        (View.ld x4 r0_8) (View.ld x5 r0_8) (View.ld x6 r0_8) (View.ld x7 r0_9) (View.ld x7 r0_10) (View.ld x7 r0_11)⟩,
      ⟨r0_4, headV (k0_pay2 (F := Ideal) i) (k0_pay3 (F := Ideal) i) (k0_pay4 (F := Ideal) i) (View.ld x0 r0_4) (View.ld x1 r0_4) (View.ld x2 r0_4) (View.ld x3 r0_4)
        (View.ld x4 r0_4) (View.ld x5 r0_4) (View.ld x6 r0_4) (View.ld x7 r0_5) (View.ld x7 r0_6) (View.ld x7 r0_7)⟩,
      ⟨r0_0, headV (k0_pay2 (F := Ideal) i) (k0_pay3 (F := Ideal) i) (k0_pay4 (F := Ideal) i) (View.ld x0 r0_0) (View.ld x1 r0_0) (View.ld x2 r0_0) (View.ld x3 r0_0)
        (View.ld x4 r0_0) (View.ld x5 r0_0) (View.ld x6 r0_0) (View.ld x7 r0_1) (View.ld x7 r0_2) (View.ld x7 r0_3)⟩] := rfl

end Cert.Proof.AttnP
-- ==== Proof.AttnPBias.lean ====
/- The bias of the banded attention over the prompt as the host prepares it for the kernel: of head `h`, query `r` of a
   block of 256 and key `j` of the 768 keys its window reaches, it is the relative position table's entry at the clipped
   distance where the key lies in the query's band of nine chunks of 64, and -∞ elsewhere. The query stands at place
   `r + 512` of the window, so the distance is `r + 512 - j`, clipped to [-128, 128] and read from place 0 on. -/
module

public import proofs.«01_k».proof.Proof.AttnPHead

@[expose] public section

set_option maxRecDepth 16384

noncomputable section

namespace Cert.Proof.AttnP

open Idealize.ShloMosaic Idealize.ShloMosaic.TcCoe Idealize.SL.Sem
open Cert.AttnPIdeal Cert.AttnPIdeal.Gen

/-! ## A table's columns gathered at an array of column numbers -/

/-- The dimension numbers of `table[:, idx]` for a table `[H, N]` and indices `[R, C]`. -/
abbrev colsDims (H N R C : Nat)
    (wf : GatherDims.WF ⟨2, ![H, N]⟩ ⟨3, ![R, C, 1]⟩ ⟨3, ![H, R, C]⟩ [0] [1] [] [1] [] 2 ![H, 1]) :
    GatherDims ⟨2, ![H, N]⟩ ⟨3, ![R, C, 1]⟩ ⟨3, ![H, R, C]⟩ where
  offsetDims := [0]
  collapsedSliceDims := [1]
  operandBatchingDims := []
  startIndicesBatchingDims := []
  startIndexMap := [1]
  indexVectorDim := 2
  sliceSizes := ![H, 1]
  wf := wf

/-- The gather at `(h, r, c)`: the table's row `h` at the column number `idx[r, c]`, clamped into the table. -/
theorem gather_cols_apply {α : Type} {H N R C w : Nat} (hN : 0 < N)
    (wf : GatherDims.WF ⟨2, ![H, N]⟩ ⟨3, ![R, C, 1]⟩ ⟨3, ![H, R, C]⟩ [0] [1] [] [1] [] 2 ![H, 1])
    (x : (⟨2, ![H, N]⟩ : Shape).Idx → α) (idx : IVec ⟨3, ![R, C, 1]⟩ w) (h : Fin H) (r : Fin R) (c : Fin C) :
    Host.gather (colsDims H N R C wf) x idx (ix3 h r c)
      = x (ix2 h ⟨min (idx (ix3 r c 0)).toInt.toNat (N - 1), by omega⟩) := by
  unfold Host.gather
  congr 1
  funext a
  refine Fin.ext ?_
  show (colsDims H N R C wf).start (ix3 h r c) idx a + (colsDims H N R C wf).batchCoord (ix3 h r c) a
      + (colsDims H N R C wf).offCoord (ix3 h r c) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil]
    unfold GatherDims.start
    rw [dif_neg (fun h => by simp at h)]
    simp only [Nat.zero_add]
    unfold GatherDims.offCoord
    rw [dif_pos ((GatherDims.mem_sKept _ _).mpr ⟨fun h => by simp at h, List.not_mem_nil⟩)]
    rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims H N R C wf).startIndexMap from List.mem_singleton.mpr rfl)]
    have hsi : (colsDims H N R C wf).siIdx (ix3 h r c) ⟨List.idxOf (1 : Fin 2) (colsDims H N R C wf).startIndexMap,
        List.idxOf_lt_length_iff.2 (List.mem_singleton.mpr rfl)⟩ = ix3 r c 0 := by
      funext b; refine Fin.ext ?_
      match b with
      | ⟨0, _⟩ => rfl
      | ⟨1, _⟩ => rfl
      | ⟨2, _⟩ => rfl
    rw [hsi]
    rfl

/-! ## The index arithmetic -/

/-- The table's column for a query `a` and a key `b` of the window, as the programs compute it: clip the distance,
    move it to start at 0, and wrap a negative number. -/
def clipSel (d : BitVec 32) : BitVec 32 :=
  Scalar.select (IntOp.cmpi .slt (IntOp.addi (IntOp.minsi 128#32 (IntOp.maxsi 4294967168#32 d)) 128#32) 0#32)
    (IntOp.addi (IntOp.addi (IntOp.minsi 128#32 (IntOp.maxsi 4294967168#32 d)) 128#32) 257#32)
    (IntOp.addi (IntOp.minsi 128#32 (IntOp.maxsi 4294967168#32 d)) 128#32)

/-- The distance of query `a` from key `b`. -/
def dist (a b : ℕ) : BitVec 32 := IntOp.subi (BitVec.ofNat 32 a) (IntOp.subi (BitVec.ofNat 32 b) 512#32)

theorem clipSel_table : ∀ x : Fin 1024, min (clipSel (BitVec.ofNat 32 x.val - 256#32)).toInt.toNat 256 = min (x.val - 128) 256 := by
  decide +kernel

theorem dist_eq (a b : ℕ) (hb : b < 768) : dist a b = BitVec.ofNat 32 (a + 768 - b) - 256#32 := by
  have e : BitVec.ofNat 32 a + 768#32 = BitVec.ofNat 32 (a + 768 - b) + BitVec.ofNat 32 b := by
    rw [← BitVec.ofNat_add, ← BitVec.ofNat_add, show a + 768 - b + b = a + 768 by omega]
  show BitVec.ofNat 32 a - (BitVec.ofNat 32 b - 512#32) = _
  revert e
  generalize BitVec.ofNat 32 (a + 768 - b) = X
  generalize BitVec.ofNat 32 b = B
  generalize BitVec.ofNat 32 a = A
  intro e
  bv_omega

/-- The table's column as a number. -/
theorem clip_idx (a b : ℕ) (ha : a < 256) (hb : b < 768) :
    min (clipSel (dist a b)).toInt.toNat 256 = min (a + 640 - b) 256 := by
  rw [dist_eq a b hb]
  refine (clipSel_table ⟨a + 768 - b, by omega⟩).trans ?_
  show min (a + 768 - b - 128) 256 = _
  rw [show a + 768 - b - 128 = a + 640 - b by omega]

/-- Division by 64 rounding down, as the host computes it. -/
def fdiv (x : BitVec 32) : BitVec 32 :=
  Scalar.select
    (IntOp.andi
      (IntOp.cmpi CmpIPredicate.ne (if x = 0 then 0 else if x.msb = true then -1 else 1)
        (if (64#32 : BitVec 32) = 0 then 0 else if BitVec.msb 64#32 = true then -1 else (1 : BitVec 32)))
      (IntOp.cmpi CmpIPredicate.ne (IntOp.remsi ArithUnit.host x 64#32) 0#32))
    (IntOp.subi (IntOp.divsi ArithUnit.host x 64#32) 1#32)
    (IntOp.divsi ArithUnit.host x 64#32)

theorem fdiv_eq : ∀ x : Fin 768, fdiv (BitVec.ofNat 32 x.val) = BitVec.ofNat 32 (x.val / 64) := by decide +kernel

theorem band_eq : ∀ (a : Fin 4) (b : Fin 12),
    IntOp.andi (IntOp.cmpi .sge (IntOp.subi (BitVec.ofNat 32 b.val) 8#32) (IntOp.subi (BitVec.ofNat 32 a.val) 8#32))
      (IntOp.cmpi .sle (IntOp.subi (BitVec.ofNat 32 b.val) 8#32) (BitVec.ofNat 32 a.val))
      = if a.val ≤ b.val ∧ b.val ≤ a.val + 8 then 1#1 else 0#1 := by decide +kernel

theorem ninf : Ideal.ofBits .f32 4286578688#32 = ⊥ := by simp [Ideal.ofBits, Ideal.ieee]

/-- The table's entry for query `a` and key `b` of the window. -/
def tabAt (tab : S8x257.Idx → EReal) (h : Fin 8) (a b : ℕ) : EReal := tab (ix2 h ⟨min (a + 640 - b) 256, by omega⟩)

theorem gather_tab {R C : ℕ} (wf : GatherDims.WF ⟨2, ![8, 257]⟩ ⟨3, ![R, C, 1]⟩ ⟨3, ![8, R, C]⟩ [0] [1] [] [1] [] 2 ![8, 1])
    (tab : S8x257.Idx → EReal) (idx : IVec ⟨3, ![R, C, 1]⟩ 32) (h : Fin 8) (r : Fin R) (c : Fin C)
    (hr : r.val < 256) (hc : c.val < 768) (e : idx (ix3 r c 0) = clipSel (dist r.val c.val)) :
    Host.gather (colsDims 8 257 R C wf) tab idx (ix3 h r c) = tabAt tab h r.val c.val := by
  rw [gather_cols_apply (by decide)]
  unfold tabAt
  refine congrArg tab (congrArg (ix2 h) (Fin.ext ?_))
  show min (idx (ix3 r c 0)).toInt.toNat 256 = _
  rw [e, clip_idx _ _ hr hc]

/-- The array of column numbers, as the host computes it. -/
def idxV : IVec S256x768x1 32 :=
  let d := addi (minsi (broadcastInDim S256x768 ![] bcast_S_S256x768 (id (constantI S_ 32 128#32)))
      (maxsi (broadcastInDim S256x768 ![] bcast_S_S256x768 (id (constantI S_ 32 4294967168#32)))
        (subi (broadcastInDim S256x768 ![0, 1] bcast_S256x1_S256x768_0_1
            (broadcastInDim S256x1 ![0] bcast_S256_S256x1_0 (iotaInDim S256 32 0)))
          (broadcastInDim S256x768 ![0, 1] bcast_S1x768_S256x768_0_1
            (subi (broadcastInDim S1x768 ![1] bcast_S768_S1x768_1 (iotaInDim S768 32 0))
              (broadcastInDim S1x768 ![] bcast_S_S1x768 (constantI S_ 32 512#32)))))))
    (broadcastInDim S256x768 ![] bcast_S_S256x768 (constantI S_ 32 128#32))
  broadcastInDim S256x768x1 ![0, 1] bcast_S256x768_S256x768x1_0_1
    (select (cmpi CmpIPredicate.slt d (broadcastInDim S256x768 ![] bcast_S_S256x768 (constantI S_ 32 0#32)))
      (addi d (broadcastInDim S256x768 ![] bcast_S_S256x768 (constantI S_ 32 257#32))) d)

/-- A column number of the array. -/
theorem idxV_apply (r : Fin 256) (j : Fin 768) : idxV (ix3 r j 0) = clipSel (dist r.val j.val) := by
  unfold clipSel dist
  pointwise [idxV]
  rfl

variable (m : (ℓ : Loc nD τ sig) → Buf (Elt Ideal) ℓ)

/-- The bias as the launch finds it. -/
theorem V_bias (c : Dev nD) (h : Fin 8) (r : Fin 256) (j : Fin 768) :
    V m c main_v33 (ix3 h r j)
      = if r.val / 64 ≤ j.val / 64 ∧ j.val / 64 ≤ r.val / 64 + 8
        then tabAt (m ((c : Thread nD τ).loc main_arg3)) h r.val j.val else ⊥ := by
  unfold V
  simp only [List.flatten]
  unfold hostOps0 hostOps0_1 hostOps0_2 hostOps0_3 hostOps0_4 hostOps0_5 hostOps0_6 hostOps0_7
  after_reads_at
  refine (congrArg₂ (fun p q => Scalar.select p _ q) (?_ : _ = if r.val / 64 ≤ j.val / 64 ∧ j.val / 64 ≤ r.val / 64 + 8 then 1#1 else 0#1)
    (ninf : _ = (⊥ : EReal))).trans ?_
  · show IntOp.andi
        (IntOp.cmpi .sge (IntOp.subi (fdiv (BitVec.ofNat 32 j.val)) 8#32) (IntOp.subi (fdiv (BitVec.ofNat 32 r.val)) 8#32))
        (IntOp.cmpi .sle (IntOp.subi (fdiv (BitVec.ofNat 32 j.val)) 8#32) (fdiv (BitVec.ofNat 32 r.val))) = _
    rw [fdiv_eq j, fdiv_eq ⟨r.val, by omega⟩]
    exact band_eq ⟨r.val / 64, by omega⟩ ⟨j.val / 64, by omega⟩
  · refine (congrArg (fun p => Scalar.select _ p ⊥) (?_ : _ = tabAt (m ((c : Thread nD τ).loc main_arg3)) h r.val j.val)).trans ?_
    · exact gather_tab (R := 256) (C := 768) gather_S8x257_S256x768x1_S8x256x768_0_1_n_n_1_2_81.wf
        (m ((c : Thread nD τ).loc main_arg3)) idxV h r j r.isLt j.isLt (idxV_apply r j)
    · split
      · exact rfl
      · exact rfl

end Cert.Proof.AttnP
-- ==== Proof.AttnPSum.lean ====
/- The softmax-weighted sum over a window of 768 keys in three blocks of 256, and over the 576 keys of the band alone:
   they agree when the scores outside the band are -∞, the band's scores are not +∞ and one of them is not -∞. The one
   side multiplies the weighted sum by the reciprocal of the weights' sum, the other divides every weight by it. -/
module

public import proofs.«01_k».proof.Proof.AttnPHead

@[expose] public section

set_option maxRecDepth 16384

noncomputable section

namespace Cert.Proof.AttnP

open Idealize.ShloMosaic

theorem exp_nonneg (x : EReal) : 0 ≤ Ideal.exp x := by
  induction x with
  | bot => simp
  | top => simp
  | coe r => simp only [Ideal.exp_coe]; exact_mod_cast (Real.exp_pos r).le

/-- A sum times a nonnegative real, term by term. -/
theorem sum_mul_right {ι : Type} (s : Finset ι) (f : ι → EReal) (x : EReal) (h0 : 0 ≤ x) (ht : x ≠ ⊤) :
    (∑ i ∈ s, f i) * x = ∑ i ∈ s, f i * x := by
  classical
  induction s using Finset.induction_on with
  | empty => simp
  | insert a s ha ih => rw [Finset.sum_insert ha, Finset.sum_insert ha, EReal.right_distrib_of_nonneg_of_ne_top h0 ht, ih]

/-- The place of the band's key `t` in the window, for queries of chunk `qc`. -/
def at576 (qc : Fin 4) (t : Fin 576) : Fin 768 := ⟨64 * qc.val + t.val, by omega⟩

/-- Three blocks of a function on the window, added. -/
theorem sum_blocks (F : Fin 768 → EReal) :
    (∑ c : Fin 256, F ⟨c.val, by omega⟩ + ∑ c : Fin 256, F ⟨256 + c.val, by omega⟩) + ∑ c : Fin 256, F ⟨512 + c.val, by omega⟩
      = ∑ j : Fin 768, F j := by
  have h1 := Fin.sum_univ_add (M := EReal) (a := 512) (b := 256) F
  have h2 := Fin.sum_univ_add (M := EReal) (a := 256) (b := 256) (fun i => F (Fin.castAdd 256 i))
  exact (congrArg (· + ∑ c : Fin 256, F ⟨512 + c.val, by omega⟩) h2.symm).trans h1.symm

/-- A function that is zero outside the band, summed over the window and over the band. -/
theorem sum_band (qc : Fin 4) (F : Fin 768 → EReal) (G : Fin 576 → EReal) (hin : ∀ t, G t = F (at576 qc t))
    (hout : ∀ j : Fin 768, ¬ (64 * qc.val ≤ j.val ∧ j.val < 64 * qc.val + 576) → F j = 0) :
    ∑ j, F j = ∑ t, G t := by
  refine (Finset.sum_of_injOn (at576 qc) ?_ ?_ ?_ ?_).symm
  · intro a _ b _ h
    have := congrArg Fin.val h
    unfold at576 at this
    simp only at this
    exact Fin.ext (by omega)
  · intro a _; exact Finset.mem_coe.mpr (Finset.mem_univ _)
  · intro j _ hj
    refine hout j fun hb => hj ?_
    exact ⟨⟨j.val - 64 * qc.val, by omega⟩, Finset.mem_coe.mpr (Finset.mem_univ _), Fin.ext (by unfold at576; simp only; omega)⟩
  · intro t _; exact hin t

/-- The greatest of finitely many, from -∞ on. -/
def top {n : ℕ} (T : Fin n → EReal) : EReal := Finset.univ.fold max ⊥ T

theorem le_top {n : ℕ} (T : Fin n → EReal) (i : Fin n) : T i ≤ top T :=
  Finset.le_sup (f := T) (Finset.mem_univ i)

theorem top_le {n : ℕ} (T : Fin n → EReal) (x : EReal) (h : ∀ i, T i ≤ x) : top T ≤ x :=
  Finset.sup_le (f := T) fun i _ => h i

theorem top_mem {n : ℕ} (T : Fin n → EReal) (i0 : Fin n) : ∃ i, T i = top T := by
  obtain ⟨i, -, h⟩ := Finset.exists_mem_eq_sup Finset.univ ⟨i0, Finset.mem_univ _⟩ T
  exact ⟨i, h.symm⟩

/-- The greatest score of the window is the band's. -/
theorem mx_band (qc : Fin 4) (S : Fin 768 → EReal) (T : Fin 576 → EReal) (hin : ∀ t, S (at576 qc t) = T t)
    (hout : ∀ j : Fin 768, ¬ (64 * qc.val ≤ j.val ∧ j.val < 64 * qc.val + 576) → S j = ⊥) :
    mx (fun c => S ⟨c.val, by omega⟩) (fun c => S ⟨256 + c.val, by omega⟩) (fun c => S ⟨512 + c.val, by omega⟩) = top T := by
  have hle : ∀ j, S j ≤ top T := by
    intro j
    by_cases hb : 64 * qc.val ≤ j.val ∧ j.val < 64 * qc.val + 576
    · have := hin ⟨j.val - 64 * qc.val, by omega⟩
      have e : at576 qc ⟨j.val - 64 * qc.val, by omega⟩ = j := Fin.ext (by unfold at576; simp only; omega)
      rw [e] at this
      rw [this]; exact le_top T _
    · rw [hout j hb]; exact bot_le
  have hn : Ideal.ofBits .f32 4286578688#32 = ⊥ := by simp [Ideal.ofBits, Ideal.ieee]
  unfold mx
  rw [hn]
  refine le_antisymm (max_le (max_le ?_ ?_) ?_) ?_
  · exact top_le _ _ fun c => hle _
  · exact top_le _ _ fun c => hle _
  · exact top_le _ _ fun c => hle _
  · refine top_le _ _ fun t => ?_
    rw [← hin t]
    by_cases h1 : (at576 qc t).val < 256
    · exact le_trans (le_top (fun c : Fin 256 => S ⟨c.val, by omega⟩) ⟨(at576 qc t).val, h1⟩) (le_trans (le_max_left _ _) (le_max_left _ _))
    by_cases h2 : (at576 qc t).val < 512
    · have e : (⟨256 + ((at576 qc t).val - 256), by omega⟩ : Fin 768) = at576 qc t := Fin.ext (by simp only; omega)
      have := le_top (fun c : Fin 256 => S ⟨256 + c.val, by omega⟩) ⟨(at576 qc t).val - 256, by omega⟩
      simp only at this
      rw [e] at this
      exact le_trans this (le_trans (le_max_right _ _) (le_max_left _ _))
    · have e : (⟨512 + ((at576 qc t).val - 512), by omega⟩ : Fin 768) = at576 qc t := Fin.ext (by simp only; omega)
      have := le_top (fun c : Fin 256 => S ⟨512 + c.val, by omega⟩) ⟨(at576 qc t).val - 512, by omega⟩
      simp only at this
      rw [e] at this
      exact le_trans this (le_max_right _ _)

/-- The sum of the band's weights is at least one. -/
theorem den_ne_zero (T : Fin 576 → EReal) (hT : ∀ t, T t ≠ ⊤) (t0 : Fin 576) (h0 : T t0 ≠ ⊥) :
    ∑ t, Ideal.exp (T t - top T) ≠ 0 := by
  obtain ⟨i, hi⟩ := top_mem T t0
  have hb : T i ≠ ⊥ := fun h => h0 (le_bot_iff.mp (h ▸ hi ▸ le_top T t0))
  have e1 : Ideal.exp (T i - top T) = 1 := by
    rw [← hi]
    lift T i to ℝ using ⟨hT i, hb⟩ with x
    rw [← EReal.coe_sub, sub_self, Ideal.exp_coe, Real.exp_zero]
    rfl
  have := Finset.single_le_sum (f := fun t => Ideal.exp (T t - top T)) (fun t _ => exp_nonneg _) (Finset.mem_univ i)
  intro hz
  rw [hz] at this
  simp only [e1] at this
  exact absurd this (by norm_num)

theorem inv_nonneg_ne_top (x : EReal) (h0 : 0 ≤ x) (hx : x ≠ 0) : 0 ≤ x⁻¹ ∧ x⁻¹ ≠ ⊤ := by
  induction x with
  | bot => simp at h0
  | top => simp
  | coe r =>
    have hr : 0 ≤ r := by exact_mod_cast h0
    rw [← EReal.coe_inv]
    exact ⟨by exact_mod_cast inv_nonneg.mpr hr, EReal.coe_ne_top _⟩

theorem bot_sub' (x : EReal) : (⊥ : EReal) - x = ⊥ := by rw [sub_eq_add_neg]; exact EReal.bot_add _

/-- One query and one column: the kernel's three blocks against the band. -/
theorem headAt_band (qc : Fin 4) (S W : Fin 768 → EReal) (T U : Fin 576 → EReal) (hin : ∀ t, S (at576 qc t) = T t)
    (hout : ∀ j : Fin 768, ¬ (64 * qc.val ≤ j.val ∧ j.val < 64 * qc.val + 576) → S j = ⊥)
    (hv : ∀ t, T t ≠ ⊥ → W (at576 qc t) = U t) (hT : ∀ t, T t ≠ ⊤) (t0 : Fin 576) (h0 : T t0 ≠ ⊥) :
    headAt (fun c => S ⟨c.val, by omega⟩) (fun c => S ⟨256 + c.val, by omega⟩) (fun c => S ⟨512 + c.val, by omega⟩)
        (fun c => W ⟨c.val, by omega⟩) (fun c => W ⟨256 + c.val, by omega⟩) (fun c => W ⟨512 + c.val, by omega⟩)
      = ∑ t, U t * Ideal.div (Ideal.exp (T t - top T)) (∑ t, Ideal.exp (T t - top T)) := by
  unfold headAt
  rw [mx_band qc S T hin hout]
  have hd := (sum_blocks fun j => Ideal.exp (S j - top T)).trans
    (sum_band qc (fun j => Ideal.exp (S j - top T)) (fun t => Ideal.exp (T t - top T)) (fun t => by rw [hin t])
      (fun j hj => by simp only [hout j hj, bot_sub', Ideal.exp_bot]))
  have hn := (sum_blocks fun j => Ideal.exp (S j - top T) * W j).trans
    (sum_band qc (fun j => Ideal.exp (S j - top T) * W j) (fun t => Ideal.exp (T t - top T) * U t)
      (fun t => by
        by_cases hb : T t = ⊥
        · simp only [hin t, hb, bot_sub', Ideal.exp_bot, zero_mul]
        · simp only [hin t, hv t hb])
      (fun j hj => by simp only [hout j hj, bot_sub', Ideal.exp_bot, zero_mul]))
  have hz := den_ne_zero T hT t0 h0
  have hp : 0 ≤ ∑ t, Ideal.exp (T t - top T) := Finset.sum_nonneg fun t _ => exp_nonneg _
  refine (congrArg₂ (fun a b => a * Ideal.div 1 b) hn hd).trans ?_
  generalize (∑ t, Ideal.exp (T t - top T)) = D at hz hp
  have hdiv : ∀ x, Ideal.div x D = x * D⁻¹ := fun x => by unfold Ideal.div; rw [if_neg hz]
  obtain ⟨i0, it⟩ := inv_nonneg_ne_top D hp hz
  simp only [hdiv, one_mul]
  rw [sum_mul_right _ _ _ i0 it]
  exact Finset.sum_congr rfl fun t _ => by rw [mul_comm (U t), mul_right_comm]

end Cert.Proof.AttnP
-- ==== Proof.AttnPBlock.lean ====
/- The banded attention over the prompt, what the kernel leaves in its result: the eight heads of a grid point's block,
   and the array they tile. Grid point `t` is block `t % 16` of 256 queries of sequence `t / 16`; the three key blocks are
   the queries' own and the two before it, a block before the sequence's first being held at block 0 and left out by its
   penalty. -/
module

public import proofs.«01_k».proof.Proof.AttnPHead
public import proofs.«01_k».proof.Proof.AttnPBias
public import proofs.«01_k».proof.Proof.AttnPSum

@[expose] public section

set_option maxRecDepth 16384

noncomputable section

namespace Cert.Proof.AttnP

open Idealize.ShloMosaic Idealize.ShloMosaic.TcCoe Idealize.SL.Sem
open Cert.AttnPIdeal Cert.AttnPIdeal.Gen

/-- Column `d` of head `h`. -/
def col (h : Fin 8) (d : Fin 128) : Fin 1024 := ⟨128 * h.val + d.val, by omega⟩

/-- One head at a query and a column. -/
theorem headV_apply (p0 p1 p2 : EReal) (q k0 k1 k2 v0 v1 v2 : Vec Ideal S256x128 .bf16) (b0 b1 b2 : Vec Ideal S1x256x256 .f32)
    (r : Fin 256) (d : Fin 128) :
    headV p0 p1 p2 q k0 k1 k2 v0 v1 v2 b0 b1 b2 (ix2 r d)
      = headAt (sc p0 q k0 b0 r) (sc p1 q k1 b1 r) (sc p2 q k2 b2 r)
          (fun c => v0 (ix2 c d)) (fun c => v1 (ix2 c d)) (fun c => v2 (ix2 c d)) := by
  unfold headV
  rw [pay32_apply]
  congr 1
  · funext c; exact pay29_apply p0 q k0 b0 r c
  · funext c; exact pay30_apply p1 q k1 b1 r c
  · funext c; rw [pay31_apply]; rfl

/-- A score read from the blocks of a grid point. -/
def bsc (p : EReal) (x k : S256x1024.Idx → EReal) (b : S8x256x768.Idx → EReal) (h : Fin 8) (r c : Fin 256) (j : Fin 768) : EReal :=
  (∑ d : Fin 128, x (ix2 r (col h d)) * k (ix2 c (col h d))) * scale + b (ix3 h r j) + p

/-- The result of a grid point at query `r` and column `d` of head `h`, from its blocks. -/
def blockAt (p0 p1 p2 : EReal) (x0 x1 x2 x3 x4 x5 x6 : S256x1024.Idx → EReal) (x7 : S8x256x768.Idx → EReal)
    (r : Fin 256) (h : Fin 8) (d : Fin 128) : EReal :=
  headAt (fun c => bsc p0 x0 x1 x7 h r c ⟨c.val, by omega⟩) (fun c => bsc p1 x0 x2 x7 h r c ⟨256 + c.val, by omega⟩)
    (fun c => bsc p2 x0 x3 x7 h r c ⟨512 + c.val, by omega⟩)
    (fun c => x4 (ix2 c (col h d))) (fun c => x5 (ix2 c (col h d))) (fun c => x6 (ix2 c (col h d)))

/-- A head's columns of a block. -/
theorem ld_cols (x : Vec Ideal S256x1024 .bf16) (off : ℕ) (inb : ∀ a, (![0, off] : Fin 2 → ℕ) a + S256x128.size a ≤ S256x1024.size a)
    (h : Fin 8) (ho : off = 128 * h.val) (r : Fin 256) (d : Fin 128) :
    View.ld (Val := Elt Ideal) (e' := .bf16) x (Rect.unit (s := S256x1024) ![0, off] S256x128.size inb) (ix2 r d) = x (ix2 r (col h d)) := by
  refine View.ld_unit_apply_of (S := S256x1024) x ![0, off] S256x128.size inb (ix2 r d) (ix2 r (col h d)) fun a => ?_
  match a with
  | ⟨0, _⟩ => show r.val = 0 + r.val; omega
  | ⟨1, _⟩ => show 128 * h.val + d.val = off + d.val; omega

/-- A head's bias for one key block. -/
theorem ld_bias (x : Vec Ideal S8x256x768 .f32) (g off : ℕ) (inb : ∀ a, (![g, 0, off] : Fin 3 → ℕ) a + S1x256x256.size a ≤ S8x256x768.size a)
    (h : Fin 8) (hg : g = h.val) (r c : Fin 256) (j : Fin 768) (hj : j.val = off + c.val) :
    View.ld (Val := Elt Ideal) (e' := .f32) x (Rect.unit (s := S8x256x768) ![g, 0, off] S1x256x256.size inb) (ix3 0 r c) = x (ix3 h r j) := by
  refine View.ld_unit_apply_of (S := S8x256x768) x ![g, 0, off] S1x256x256.size inb (ix3 0 r c) (ix3 h r j) fun a => ?_
  match a with
  | ⟨0, _⟩ => show h.val = g + 0; omega
  | ⟨1, _⟩ => show r.val = 0 + r.val; omega
  | ⟨2, _⟩ => exact hj

/-- One head from the blocks' columns of that head. -/
theorem headV_block (p0 p1 p2 : EReal) (x0 x1 x2 x3 x4 x5 x6 : Vec Ideal S256x1024 .bf16) (x7 : Vec Ideal S8x256x768 .f32)
    (h : Fin 8) (g off : ℕ) (ho : off = 128 * h.val) (hg : g = h.val)
    (inb : ∀ a, (![0, off] : Fin 2 → ℕ) a + S256x128.size a ≤ S256x1024.size a)
    (i0 : ∀ a, (![g, 0, 0] : Fin 3 → ℕ) a + S1x256x256.size a ≤ S8x256x768.size a)
    (i1 : ∀ a, (![g, 0, 256] : Fin 3 → ℕ) a + S1x256x256.size a ≤ S8x256x768.size a)
    (i2 : ∀ a, (![g, 0, 512] : Fin 3 → ℕ) a + S1x256x256.size a ≤ S8x256x768.size a) (r : Fin 256) (d : Fin 128) :
    headV p0 p1 p2 (View.ld (Val := Elt Ideal) (e' := .bf16) x0 (Rect.unit (s := S256x1024) ![0, off] S256x128.size inb))
        (View.ld (Val := Elt Ideal) (e' := .bf16) x1 (Rect.unit (s := S256x1024) ![0, off] S256x128.size inb))
        (View.ld (Val := Elt Ideal) (e' := .bf16) x2 (Rect.unit (s := S256x1024) ![0, off] S256x128.size inb))
        (View.ld (Val := Elt Ideal) (e' := .bf16) x3 (Rect.unit (s := S256x1024) ![0, off] S256x128.size inb))
        (View.ld (Val := Elt Ideal) (e' := .bf16) x4 (Rect.unit (s := S256x1024) ![0, off] S256x128.size inb))
        (View.ld (Val := Elt Ideal) (e' := .bf16) x5 (Rect.unit (s := S256x1024) ![0, off] S256x128.size inb))
        (View.ld (Val := Elt Ideal) (e' := .bf16) x6 (Rect.unit (s := S256x1024) ![0, off] S256x128.size inb))
        (View.ld (Val := Elt Ideal) (e' := .f32) x7 (Rect.unit (s := S8x256x768) ![g, 0, 0] S1x256x256.size i0))
        (View.ld (Val := Elt Ideal) (e' := .f32) x7 (Rect.unit (s := S8x256x768) ![g, 0, 256] S1x256x256.size i1))
        (View.ld (Val := Elt Ideal) (e' := .f32) x7 (Rect.unit (s := S8x256x768) ![g, 0, 512] S1x256x256.size i2)) (ix2 r d)
      = blockAt p0 p1 p2 x0 x1 x2 x3 x4 x5 x6 x7 r h d := by
  rw [headV_apply]
  unfold blockAt
  congr 1
  · funext c
    unfold sc bsc
    rw [ld_bias x7 g 0 i0 h hg r c ⟨c.val, by omega⟩ (by show c.val = 0 + c.val; omega)]
    refine congrArg (fun z => z * scale + _ + _) (Finset.sum_congr rfl fun e _ => ?_)
    rw [ld_cols x0 off inb h ho, ld_cols x1 off inb h ho]
  · funext c
    unfold sc bsc
    rw [ld_bias x7 g 256 i1 h hg r c ⟨256 + c.val, by omega⟩ rfl]
    refine congrArg (fun z => z * scale + _ + _) (Finset.sum_congr rfl fun e _ => ?_)
    rw [ld_cols x0 off inb h ho, ld_cols x2 off inb h ho]
  · funext c
    unfold sc bsc
    rw [ld_bias x7 g 512 i2 h hg r c ⟨512 + c.val, by omega⟩ rfl]
    refine congrArg (fun z => z * scale + _ + _) (Finset.sum_congr rfl fun e _ => ?_)
    rw [ld_cols x0 off inb h ho, ld_cols x3 off inb h ho]
  · funext c; exact ld_cols x4 off inb h ho c d
  · funext c; exact ld_cols x5 off inb h ho c d
  · funext c; exact ld_cols x6 off inb h ho c d

/-- A head's payload, stored from its column on, has at every place of the result the value of that place. -/
theorem tile (h : Fin 8) (off : ℕ) (ho : off = 128 * h.val) (p : Vec Ideal S256x128 .bf16) (G : Fin 256 → Fin 8 → Fin 128 → EReal)
    (hp : ∀ r d, p (ix2 r d) = G r h d) (r : Fin 256) (j : Fin 1024) :
    View.TileAt (S := S256x1024) (Val := Elt Ideal) (e := .bf16) (ix2 r j) ![0, off] S256x128.size p
      (G r ⟨j.val / 128, by omega⟩ ⟨j.val % 128, Nat.mod_lt _ (by decide)⟩) := by
  intro x hx
  have h0 : r.val = 0 + (x 0).val := hx 0
  have h1 : j.val = off + (x 1).val := hx 1
  have hx1 : (x 1).val < 128 := (x 1).isLt
  have hr : (x 0 : Fin 256) = r := Fin.ext (by omega)
  have e : x = ix2 (x 0) (x 1) := eq_ix2 x
  rw [e]
  refine (hp (x 0) (x 1)).trans ?_
  rw [hr]
  have e1 : (⟨j.val / 128, by omega⟩ : Fin 8) = h := Fin.ext (by simp only; omega)
  have e2 : (⟨j.val % 128, Nat.mod_lt _ (by decide)⟩ : Fin 128) = x 1 := Fin.ext (by show j.val % 128 = (x 1).val; omega)
  rw [e1, e2]

/-- The output block of one grid point. -/
theorem out_block (i : grid0.Coords) (x0 x1 x2 x3 x4 x5 x6 : Vec Ideal S256x1024 .bf16) (x7 : Vec Ideal S8x256x768 .f32)
    (r : Fin 256) (j : Fin 1024) :
    out0_8 (F := Ideal) i x0 x1 x2 x3 x4 x5 x6 x7 (ix2 r j)
      = blockAt (k0_pay2 (F := Ideal) i) (k0_pay3 (F := Ideal) i) (k0_pay4 (F := Ideal) i) x0 x1 x2 x3 x4 x5 x6 x7 r
          ⟨j.val / 128, by omega⟩ ⟨j.val % 128, Nat.mod_lt _ (by decide)⟩ := by
  rw [out_heads]
  refine View.canon_eq_of_allAt _ _ _ (cover0_8 _ _ _ _ _ _ _ _ _) ?_
  refine View.allAt_cons_unit _ _ _ _ _ (tile 7 896 rfl _ _ (headV_block _ _ _ x0 x1 x2 x3 x4 x5 x6 x7 7 7 896 rfl rfl _ _ _ _) r j) ?_
  refine View.allAt_cons_unit _ _ _ _ _ (tile 6 768 rfl _ _ (headV_block _ _ _ x0 x1 x2 x3 x4 x5 x6 x7 6 6 768 rfl rfl _ _ _ _) r j) ?_
  refine View.allAt_cons_unit _ _ _ _ _ (tile 5 640 rfl _ _ (headV_block _ _ _ x0 x1 x2 x3 x4 x5 x6 x7 5 5 640 rfl rfl _ _ _ _) r j) ?_
  refine View.allAt_cons_unit _ _ _ _ _ (tile 4 512 rfl _ _ (headV_block _ _ _ x0 x1 x2 x3 x4 x5 x6 x7 4 4 512 rfl rfl _ _ _ _) r j) ?_
  refine View.allAt_cons_unit _ _ _ _ _ (tile 3 384 rfl _ _ (headV_block _ _ _ x0 x1 x2 x3 x4 x5 x6 x7 3 3 384 rfl rfl _ _ _ _) r j) ?_
  refine View.allAt_cons_unit _ _ _ _ _ (tile 2 256 rfl _ _ (headV_block _ _ _ x0 x1 x2 x3 x4 x5 x6 x7 2 2 256 rfl rfl _ _ _ _) r j) ?_
  refine View.allAt_cons_unit _ _ _ _ _ (tile 1 128 rfl _ _ (headV_block _ _ _ x0 x1 x2 x3 x4 x5 x6 x7 1 1 128 rfl rfl _ _ _ _) r j) ?_
  refine View.allAt_cons_unit _ _ _ _ _ (tile 0 0 rfl _ _ (headV_block _ _ _ x0 x1 x2 x3 x4 x5 x6 x7 0 0 0 rfl rfl _ _ _ _) r j) ?_
  exact View.allAt_nil _ _

end Cert.Proof.AttnP
-- ==== Proof.AttnPMix.lean ====
/- The banded attention over the prompt, the kernel's result row by row. A query of a sequence attends the 512 positions
   before its own chunk of 64 and that chunk, 576 positions in all, those before the sequence's first left out; the
   kernel's three blocks of 256 keys hold these 576 among 768, and the others weigh nothing. -/
module

public import proofs.«01_k».proof.Proof.AttnPBlock

@[expose] public section

set_option maxRecDepth 16384

noncomputable section

namespace Cert.Proof.AttnP

open Idealize.ShloMosaic Idealize.ShloMosaic.TcCoe Idealize.SL.Sem
open Cert.AttnPIdeal Cert.AttnPIdeal.Gen

/-! ## The attention of one query -/

/-- Position `t` of the window of row `R` lies in the sequence. -/
abbrev inSeq (R : Fin 8704) (t : Fin 576) : Prop := 512 ≤ 64 * (R.val % 4096 / 64) + t.val

/-- The row of position `t` of the window of row `R`. -/
def keyRow (R : Fin 8704) (t : Fin 576) : Fin 8704 :=
  ⟨min (4096 * (R.val / 4096) + 64 * (R.val % 4096 / 64) + t.val - 512) 8703, by omega⟩

/-- The scaled product of query row `R` and key row `K` in head `h`. -/
def qk (q k : S8704x1024.Idx → EReal) (R K : Fin 8704) (h : Fin 8) : EReal :=
  (∑ d : Fin 128, q (ix2 R (col h d)) * k (ix2 K (col h d))) * scale

/-- The score of row `R` with position `t` of its window. -/
def score (q k : S8704x1024.Idx → EReal) (tab : S8x257.Idx → EReal) (R : Fin 8704) (h : Fin 8) (t : Fin 576) : EReal :=
  if inSeq R t then qk q k R (keyRow R t) h + tabAt tab h (R.val % 64) t.val else ⊥

/-- The value at position `t` of the window of row `R`. -/
def value (v : S8704x1024.Idx → EReal) (R : Fin 8704) (h : Fin 8) (d : Fin 128) (t : Fin 576) : EReal :=
  if inSeq R t then v (ix2 (keyRow R t) (col h d)) else 0

/-- The attention's result at row `R`, column `d` of head `h`. -/
def att (q k v : S8704x1024.Idx → EReal) (tab : S8x257.Idx → EReal) (R : Fin 8704) (h : Fin 8) (d : Fin 128) : EReal :=
  ∑ t, value v R h d t * Ideal.div (Ideal.exp (score q k tab R h t - top (score q k tab R h)))
    (∑ t, Ideal.exp (score q k tab R h t - top (score q k tab R h)))

/-! ## Finite scores -/

/-- Every entry is a real number. -/
def AllReal {S : Shape} (x : S.Idx → EReal) : Prop := ∀ i, x i ≠ ⊤ ∧ x i ≠ ⊥

theorem scale_real : ∃ x : ℝ, scale = (x : EReal) := by
  show ∃ x : ℝ, Ideal.ofBits .f32 0x3DB504F3#32 = (x : EReal)
  simp [Ideal.ofBits, Ideal.ieee, -EReal.coe_mul]

theorem real_of {x : EReal} (h : x ≠ ⊤ ∧ x ≠ ⊥) : ∃ y : ℝ, x = (y : EReal) := ⟨x.toReal, (EReal.coe_toReal h.1 h.2).symm⟩

theorem sum_real {n : ℕ} (f : Fin n → EReal) (h : ∀ i, ∃ y : ℝ, f i = (y : EReal)) : ∃ y : ℝ, ∑ i, f i = (y : EReal) :=
  Finset.sum_induction f (fun x => ∃ y : ℝ, x = (y : EReal))
    (fun _ _ ⟨x, hx⟩ ⟨y, hy⟩ => ⟨x + y, by rw [hx, hy, EReal.coe_add]⟩) ⟨0, rfl⟩ (fun i _ => h i)

variable (q k v : S8704x1024.Idx → EReal) (tab : S8x257.Idx → EReal)

theorem qk_real (hq : AllReal q) (hk : AllReal k) (R K : Fin 8704) (h : Fin 8) :
    ∃ y : ℝ, qk q k R K h = (y : EReal) := by
  obtain ⟨s, hs⟩ := scale_real
  obtain ⟨y, hy⟩ := sum_real (fun d : Fin 128 => q (ix2 R (col h d)) * k (ix2 K (col h d))) fun d => by
    obtain ⟨a, ha⟩ := real_of (hq (ix2 R (col h d)))
    obtain ⟨b, hb⟩ := real_of (hk (ix2 K (col h d)))
    exact ⟨a * b, by rw [ha, hb, EReal.coe_mul]⟩
  exact ⟨y * s, by unfold qk; rw [hy, hs, EReal.coe_mul]⟩

theorem score_ne_top (hq : AllReal q) (hk : AllReal k) (ht : AllReal tab)
    (R : Fin 8704) (h : Fin 8) (t : Fin 576) : score q k tab R h t ≠ ⊤ := by
  unfold score
  split
  · obtain ⟨a, ha⟩ := qk_real q k hq hk R (keyRow R t) h
    obtain ⟨b, hb⟩ := real_of (ht (ix2 h ⟨min (R.val % 64 + 640 - t.val) 256, by omega⟩))
    rw [ha]
    unfold tabAt
    rw [hb, ← EReal.coe_add]
    exact EReal.coe_ne_top _
  · exact bot_ne_top

theorem score_ne_bot (hq : AllReal q) (hk : AllReal k) (ht : AllReal tab)
    (R : Fin 8704) (h : Fin 8) (t : Fin 576) (hin : inSeq R t) : score q k tab R h t ≠ ⊥ := by
  unfold score
  rw [if_pos hin]
  obtain ⟨a, ha⟩ := qk_real q k hq hk R (keyRow R t) h
  obtain ⟨b, hb⟩ := real_of (ht (ix2 h ⟨min (R.val % 64 + 640 - t.val) 256, by omega⟩))
  rw [ha]
  unfold tabAt
  rw [hb, ← EReal.coe_add]
  exact EReal.coe_ne_bot _

/-! ## The kernel's 768 positions -/

/-- The row of position `j` of the kernel's three blocks, a block before the sequence's first held at block 0. -/
def krow (R : Fin 8704) (j : Fin 768) : Fin 8704 :=
  ⟨min (256 * (16 * (R.val / 4096) + (R.val % 4096 / 256 + j.val / 256 - 2)) + j.val % 256) 8703, by omega⟩

/-- The penalty of block `s` for block `b` of the queries. -/
def pen (b s : ℕ) : EReal := if 2 ≤ b + s then 0 else ⊥

/-- The kernel's score. -/
def kscore (bias : S8x256x768.Idx → EReal) (R : Fin 8704) (h : Fin 8) (j : Fin 768) : EReal :=
  qk q k R (krow R j) h + bias (ix3 h ⟨R.val % 256, Nat.mod_lt _ (by decide)⟩ j) + pen (R.val % 4096 / 256) (j.val / 256)

/-- The kernel's weighing of its 768 positions is the attention of the 576. -/
theorem headAt_att (bias : S8x256x768.Idx → EReal)
    (hb : ∀ h r j, bias (ix3 h r j) = if r.val / 64 ≤ j.val / 64 ∧ j.val / 64 ≤ r.val / 64 + 8 then tabAt tab h r.val j.val else ⊥)
    (hq : AllReal q) (hk : AllReal k) (ht : AllReal tab)
    (R : Fin 8704) (hR : R.val < 8192) (h : Fin 8) (d : Fin 128) :
    headAt (fun c => kscore q k bias R h ⟨c.val, by omega⟩) (fun c => kscore q k bias R h ⟨256 + c.val, by omega⟩)
        (fun c => kscore q k bias R h ⟨512 + c.val, by omega⟩)
        (fun c => v (ix2 (krow R ⟨c.val, by omega⟩) (col h d))) (fun c => v (ix2 (krow R ⟨256 + c.val, by omega⟩) (col h d)))
        (fun c => v (ix2 (krow R ⟨512 + c.val, by omega⟩) (col h d)))
      = att q k v tab R h d := by
  have hrow : ∀ t : Fin 576, inSeq R t → krow R (at576 ⟨R.val % 256 / 64, by omega⟩ t) = keyRow R t := by
    intro t hin
    have ht := t.isLt
    unfold inSeq at hin
    unfold krow keyRow at576
    apply Fin.ext
    simp only
    omega
  refine headAt_band ⟨R.val % 256 / 64, by omega⟩ (fun j => kscore q k bias R h j) (fun j => v (ix2 (krow R j) (col h d)))
    (score q k tab R h) (value v R h d) (fun t => ?_) (fun j hj => ?_) (fun t hT => ?_)
    (score_ne_top q k tab hq hk ht R h) ⟨512 + R.val % 64, by omega⟩ (score_ne_bot q k tab hq hk ht R h _ (by unfold inSeq; simp only; omega))
  · have htl := t.isLt
    show kscore q k bias R h _ = _
    unfold kscore score
    rw [hb, if_pos (by unfold at576; simp only; constructor <;> omega)]
    by_cases hin : inSeq R t
    · rw [if_pos hin, hrow t hin]
      have hp : pen (R.val % 4096 / 256) ((at576 ⟨R.val % 256 / 64, by omega⟩ t).val / 256) = 0 := by
        unfold pen
        refine if_pos ?_
        unfold inSeq at hin
        unfold at576
        simp only
        omega
      rw [hp, add_zero]
      congr 1
      unfold tabAt
      refine congrArg tab ?_
      refine congrArg (ix2 h) (Fin.ext ?_)
      unfold at576
      simp only
      omega
    · rw [if_neg hin]
      have hp : pen (R.val % 4096 / 256) ((at576 ⟨R.val % 256 / 64, by omega⟩ t).val / 256) = ⊥ := by
        unfold pen
        refine if_neg ?_
        unfold inSeq at hin
        unfold at576
        simp only
        omega
      rw [hp, EReal.add_bot]
  · show kscore q k bias R h j = ⊥
    unfold kscore
    have hjl := j.isLt
    rw [hb, if_neg (by simp only at hj ⊢; omega), EReal.add_bot, EReal.bot_add]
  · have hin : inSeq R t := by
      by_contra hc
      exact hT (by unfold score; exact if_neg hc)
    show v (ix2 (krow R _) (col h d)) = _
    rw [hrow t hin]
    unfold value
    rw [if_pos hin]

/-- The block of a query row and the three blocks of keys and values give the attention of that row. -/
theorem blockAt_att (bias : S8x256x768.Idx → EReal)
    (hb : ∀ h r j, bias (ix3 h r j) = if r.val / 64 ≤ j.val / 64 ∧ j.val / 64 ≤ r.val / 64 + 8 then tabAt tab h r.val j.val else ⊥)
    (hq : AllReal q) (hk : AllReal k) (ht : AllReal tab) (R : Fin 8704) (hR : R.val < 8192) (h : Fin 8) (d : Fin 128)
    (x0 x1 x2 x3 x4 x5 x6 : S256x1024.Idx → EReal) (x7 : S8x256x768.Idx → EReal) (b : ℕ) (eb : b = R.val % 4096 / 256)
    (h0 : ∀ j, x0 (ix2 ⟨R.val % 256, Nat.mod_lt _ (by decide)⟩ j) = q (ix2 R j))
    (h1 : ∀ (c : Fin 256) (j : Fin 1024) (K : Fin 8704), K.val = 256 * (16 * (R.val / 4096) + (R.val % 4096 / 256 + 0 - 2)) + c.val → x1 (ix2 c j) = k (ix2 K j))
    (h2 : ∀ (c : Fin 256) (j : Fin 1024) (K : Fin 8704), K.val = 256 * (16 * (R.val / 4096) + (R.val % 4096 / 256 + 1 - 2)) + c.val → x2 (ix2 c j) = k (ix2 K j))
    (h3 : ∀ (c : Fin 256) (j : Fin 1024) (K : Fin 8704), K.val = 256 * (16 * (R.val / 4096) + (R.val % 4096 / 256 + 2 - 2)) + c.val → x3 (ix2 c j) = k (ix2 K j))
    (h4 : ∀ (c : Fin 256) (j : Fin 1024) (K : Fin 8704), K.val = 256 * (16 * (R.val / 4096) + (R.val % 4096 / 256 + 0 - 2)) + c.val → x4 (ix2 c j) = v (ix2 K j))
    (h5 : ∀ (c : Fin 256) (j : Fin 1024) (K : Fin 8704), K.val = 256 * (16 * (R.val / 4096) + (R.val % 4096 / 256 + 1 - 2)) + c.val → x5 (ix2 c j) = v (ix2 K j))
    (h6 : ∀ (c : Fin 256) (j : Fin 1024) (K : Fin 8704), K.val = 256 * (16 * (R.val / 4096) + (R.val % 4096 / 256 + 2 - 2)) + c.val → x6 (ix2 c j) = v (ix2 K j))
    (h7 : ∀ g r j, x7 (ix3 g r j) = bias (ix3 g r j)) :
    blockAt (pen b 0) (pen b 1) (pen b 2) x0 x1 x2 x3 x4 x5 x6 x7 ⟨R.val % 256, Nat.mod_lt _ (by decide)⟩ h d = att q k v tab R h d := by
  refine Eq.trans ?_ (headAt_att q k v tab bias hb hq hk ht R hR h d)
  subst eb
  unfold blockAt
  congr 1
  · funext c
    have hp : (c.val) / 256 = 0 := by omega
    unfold bsc kscore qk
    rw [h7]
    simp only [hp]
    refine congrArg (fun z => z * scale + _ + _) (Finset.sum_congr rfl fun e _ => ?_)
    rw [h0, h1 c (col h e) (krow R ⟨c.val, by omega⟩) (by unfold krow; simp only; omega)]
  · funext c
    have hp : (256 + c.val) / 256 = 1 := by omega
    unfold bsc kscore qk
    rw [h7]
    simp only [hp]
    refine congrArg (fun z => z * scale + _ + _) (Finset.sum_congr rfl fun e _ => ?_)
    rw [h0, h2 c (col h e) (krow R ⟨256 + c.val, by omega⟩) (by unfold krow; simp only; omega)]
  · funext c
    have hp : (512 + c.val) / 256 = 2 := by omega
    unfold bsc kscore qk
    rw [h7]
    simp only [hp]
    refine congrArg (fun z => z * scale + _ + _) (Finset.sum_congr rfl fun e _ => ?_)
    rw [h0, h3 c (col h e) (krow R ⟨512 + c.val, by omega⟩) (by unfold krow; simp only; omega)]
  · funext c
    exact h4 c (col h d) (krow R ⟨c.val, by omega⟩) (by unfold krow; simp only; omega)
  · funext c
    exact h5 c (col h d) (krow R ⟨256 + c.val, by omega⟩) (by unfold krow; simp only; omega)
  · funext c
    exact h6 c (col h d) (krow R ⟨512 + c.val, by omega⟩) (by unfold krow; simp only; omega)

/-! ## The blocks of a grid point -/

theorem coords1 : ∀ t : Fin cfg0.N, ((grid0.coords t) 1).val = t.val % 16 := (by decide +kernel : ∀ t : Fin grid0.N, _)

theorem pen2 : ∀ b : Fin 16, Scalar.cmpi .sge (Scalar.addi (Scalar.subi (BitVec.ofNat 32 b.val) 2#32) 0#32) 0#32 = if 2 ≤ b.val + 0 then 1#1 else 0#1 := by
  decide +kernel

theorem pen3 : ∀ b : Fin 16, Scalar.cmpi .sge (Scalar.addi (Scalar.subi (BitVec.ofNat 32 b.val) 2#32) 1#32) 0#32 = if 2 ≤ b.val + 1 then 1#1 else 0#1 := by
  decide +kernel

theorem pen4 : ∀ b : Fin 16, Scalar.cmpi .sge (Scalar.addi (Scalar.subi (BitVec.ofNat 32 b.val) 2#32) 2#32) 0#32 = if 2 ≤ b.val + 2 then 1#1 else 0#1 := by
  decide +kernel

theorem select_pen (b s : ℕ) : Scalar.select (if 2 ≤ b + s then 1#1 else 0#1) (Scalar.ofBits (F := Ideal) .f32 0x00000000#32)
    (Named.named (F := Ideal) (φ := .f32) κ "mask" 0xF149F2CA#32) = pen b s := by
  unfold pen
  split
  · show Ideal.ofBits .f32 0x00000000#32 = 0
    simp [Ideal.ofBits, Ideal.ieee]
  · rfl

theorem pay2_pen (t : Fin cfg0.N) : k0_pay2 (F := Ideal) (grid0.coords t) = pen (t.val % 16) 0 := by
  have e := pen2 ⟨t.val % 16, Nat.mod_lt _ (by decide)⟩
  show Scalar.select (Scalar.cmpi .sge (Scalar.addi (Scalar.subi (BitVec.ofNat 32 ((grid0.coords t) 1).val) 2#32) 0#32) 0#32) _ _ = _
  rw [coords1 t]
  exact (congrArg (fun z => Scalar.select z _ _) e).trans (select_pen _ _)

theorem pay3_pen (t : Fin cfg0.N) : k0_pay3 (F := Ideal) (grid0.coords t) = pen (t.val % 16) 1 := by
  have e := pen3 ⟨t.val % 16, Nat.mod_lt _ (by decide)⟩
  show Scalar.select (Scalar.cmpi .sge (Scalar.addi (Scalar.subi (BitVec.ofNat 32 ((grid0.coords t) 1).val) 2#32) 1#32) 0#32) _ _ = _
  rw [coords1 t]
  exact (congrArg (fun z => Scalar.select z _ _) e).trans (select_pen _ _)

theorem pay4_pen (t : Fin cfg0.N) : k0_pay4 (F := Ideal) (grid0.coords t) = pen (t.val % 16) 2 := by
  have e := pen4 ⟨t.val % 16, Nat.mod_lt _ (by decide)⟩
  show Scalar.select (Scalar.cmpi .sge (Scalar.addi (Scalar.subi (BitVec.ofNat 32 ((grid0.coords t) 1).val) 2#32) 2#32) 0#32) _ _ = _
  rw [coords1 t]
  exact (congrArg (fun z => Scalar.select z _ _) e).trans (select_pen _ _)

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 16 * (t.val / 16) + (t.val % 16 + 0 - 2) ∧ win0_1.index t (1 : Fin 2) = 0 := (by decide +kernel : ∀ t : Fin grid0.N, _)
theorem idx2 : ∀ t : Fin cfg0.N, win0_2.index t (0 : Fin 2) = 16 * (t.val / 16) + (t.val % 16 + 1 - 2) ∧ win0_2.index t (1 : Fin 2) = 0 := (by decide +kernel : ∀ t : Fin grid0.N, _)
theorem idx3 : ∀ t : Fin cfg0.N, win0_3.index t (0 : Fin 2) = 16 * (t.val / 16) + (t.val % 16 + 2 - 2) ∧ win0_3.index t (1 : Fin 2) = 0 := (by decide +kernel : ∀ t : Fin grid0.N, _)
theorem idx4 : ∀ t : Fin cfg0.N, win0_4.index t (0 : Fin 2) = 16 * (t.val / 16) + (t.val % 16 + 0 - 2) ∧ win0_4.index t (1 : Fin 2) = 0 := (by decide +kernel : ∀ t : Fin grid0.N, _)
theorem idx5 : ∀ t : Fin cfg0.N, win0_5.index t (0 : Fin 2) = 16 * (t.val / 16) + (t.val % 16 + 1 - 2) ∧ win0_5.index t (1 : Fin 2) = 0 := (by decide +kernel : ∀ t : Fin grid0.N, _)
theorem idx6 : ∀ t : Fin cfg0.N, win0_6.index t (0 : Fin 2) = 16 * (t.val / 16) + (t.val % 16 + 2 - 2) ∧ win0_6.index t (1 : Fin 2) = 0 := (by decide +kernel : ∀ t : Fin grid0.N, _)
theorem idx7 : ∀ t : Fin cfg0.N, win0_7.index t (0 : Fin 3) = 0 ∧ win0_7.index t (1 : Fin 3) = 0 ∧ win0_7.index t (2 : Fin 3) = 0 := (by decide +kernel : ∀ t : Fin grid0.N, _)
theorem idx8 : ∀ t : Fin cfg0.N, win0_8.index t (0 : Fin 2) = t.val ∧ win0_8.index t (1 : Fin 2) = 0 ∧ (cfg0.win 8).flush t = true := (by decide +kernel : ∀ t : Fin grid0.N, _)

variable (m : (ℓ : Loc nD τ sig) → Buf (Elt Ideal) ℓ)

theorem blk0 (c : Dev nD) (t : Fin cfg0.N) (r : Fin 256) (j : Fin 1024) (R : Fin 8704) (hR : R.val = 256 * t.val + r.val) :
    iblk m c 0 t (ix2 r j) = m ((c : Thread nD τ).loc main_arg0) (ix2 R j) := by
  rw [← V_main_arg0 m c]
  show V m c main_arg0 (((cfg0.win 0).blk t).view.emb (ix2 r j)) = _
  obtain ⟨e0, e1⟩ := idx0 t
  refine congrArg (V m c main_arg0) (funext fun a => Fin.ext ?_)
  match a with
  | ⟨0, _⟩ => show win0_0.index t (0 : Fin 2) * 256 + 1 * r.val = R.val; omega
  | ⟨1, _⟩ => show win0_0.index t (1 : Fin 2) * 1024 + 1 * j.val = j.val; omega

theorem blk1 (c : Dev nD) (t : Fin cfg0.N) (r : Fin 256) (j : Fin 1024) (R : Fin 8704)
    (hR : R.val = 256 * (16 * (t.val / 16) + (t.val % 16 + 0 - 2)) + r.val) :
    iblk m c 1 t (ix2 r j) = m ((c : Thread nD τ).loc main_arg1) (ix2 R j) := by
  rw [← V_main_arg1 m c]
  show V m c main_arg1 (((cfg0.win 1).blk t).view.emb (ix2 r j)) = _
  obtain ⟨e0, e1⟩ := idx1 t
  refine congrArg (V m c main_arg1) (funext fun a => Fin.ext ?_)
  match a with
  | ⟨0, _⟩ => show win0_1.index t (0 : Fin 2) * 256 + 1 * r.val = R.val; rw [e0]; omega
  | ⟨1, _⟩ => show win0_1.index t (1 : Fin 2) * 1024 + 1 * j.val = j.val; omega

theorem blk2 (c : Dev nD) (t : Fin cfg0.N) (r : Fin 256) (j : Fin 1024) (R : Fin 8704)
    (hR : R.val = 256 * (16 * (t.val / 16) + (t.val % 16 + 1 - 2)) + r.val) :
    iblk m c 2 t (ix2 r j) = m ((c : Thread nD τ).loc main_arg1) (ix2 R j) := by
  rw [← V_main_arg1 m c]
  show V m c main_arg1 (((cfg0.win 2).blk t).view.emb (ix2 r j)) = _
  obtain ⟨e0, e1⟩ := idx2 t
  refine congrArg (V m c main_arg1) (funext fun a => Fin.ext ?_)
  match a with
  | ⟨0, _⟩ => show win0_2.index t (0 : Fin 2) * 256 + 1 * r.val = R.val; rw [e0]; omega
  | ⟨1, _⟩ => show win0_2.index t (1 : Fin 2) * 1024 + 1 * j.val = j.val; omega

theorem blk3 (c : Dev nD) (t : Fin cfg0.N) (r : Fin 256) (j : Fin 1024) (R : Fin 8704)
    (hR : R.val = 256 * (16 * (t.val / 16) + (t.val % 16 + 2 - 2)) + r.val) :
    iblk m c 3 t (ix2 r j) = m ((c : Thread nD τ).loc main_arg1) (ix2 R j) := by
  rw [← V_main_arg1 m c]
  show V m c main_arg1 (((cfg0.win 3).blk t).view.emb (ix2 r j)) = _
  obtain ⟨e0, e1⟩ := idx3 t
  refine congrArg (V m c main_arg1) (funext fun a => Fin.ext ?_)
  match a with
  | ⟨0, _⟩ => show win0_3.index t (0 : Fin 2) * 256 + 1 * r.val = R.val; rw [e0]; omega
  | ⟨1, _⟩ => show win0_3.index t (1 : Fin 2) * 1024 + 1 * j.val = j.val; omega

theorem blk4 (c : Dev nD) (t : Fin cfg0.N) (r : Fin 256) (j : Fin 1024) (R : Fin 8704)
    (hR : R.val = 256 * (16 * (t.val / 16) + (t.val % 16 + 0 - 2)) + r.val) :
    iblk m c 4 t (ix2 r j) = m ((c : Thread nD τ).loc main_arg2) (ix2 R j) := by
  rw [← V_main_arg2 m c]
  show V m c main_arg2 (((cfg0.win 4).blk t).view.emb (ix2 r j)) = _
  obtain ⟨e0, e1⟩ := idx4 t
  refine congrArg (V m c main_arg2) (funext fun a => Fin.ext ?_)
  match a with
  | ⟨0, _⟩ => show win0_4.index t (0 : Fin 2) * 256 + 1 * r.val = R.val; rw [e0]; omega
  | ⟨1, _⟩ => show win0_4.index t (1 : Fin 2) * 1024 + 1 * j.val = j.val; omega

theorem blk5 (c : Dev nD) (t : Fin cfg0.N) (r : Fin 256) (j : Fin 1024) (R : Fin 8704)
    (hR : R.val = 256 * (16 * (t.val / 16) + (t.val % 16 + 1 - 2)) + r.val) :
    iblk m c 5 t (ix2 r j) = m ((c : Thread nD τ).loc main_arg2) (ix2 R j) := by
  rw [← V_main_arg2 m c]
  show V m c main_arg2 (((cfg0.win 5).blk t).view.emb (ix2 r j)) = _
  obtain ⟨e0, e1⟩ := idx5 t
  refine congrArg (V m c main_arg2) (funext fun a => Fin.ext ?_)
  match a with
  | ⟨0, _⟩ => show win0_5.index t (0 : Fin 2) * 256 + 1 * r.val = R.val; rw [e0]; omega
  | ⟨1, _⟩ => show win0_5.index t (1 : Fin 2) * 1024 + 1 * j.val = j.val; omega

theorem blk6 (c : Dev nD) (t : Fin cfg0.N) (r : Fin 256) (j : Fin 1024) (R : Fin 8704)
    (hR : R.val = 256 * (16 * (t.val / 16) + (t.val % 16 + 2 - 2)) + r.val) :
    iblk m c 6 t (ix2 r j) = m ((c : Thread nD τ).loc main_arg2) (ix2 R j) := by
  rw [← V_main_arg2 m c]
  show V m c main_arg2 (((cfg0.win 6).blk t).view.emb (ix2 r j)) = _
  obtain ⟨e0, e1⟩ := idx6 t
  refine congrArg (V m c main_arg2) (funext fun a => Fin.ext ?_)
  match a with
  | ⟨0, _⟩ => show win0_6.index t (0 : Fin 2) * 256 + 1 * r.val = R.val; rw [e0]; omega
  | ⟨1, _⟩ => show win0_6.index t (1 : Fin 2) * 1024 + 1 * j.val = j.val; omega

theorem blk7 (c : Dev nD) (t : Fin cfg0.N) (h : Fin 8) (r : Fin 256) (j : Fin 768) :
    iblk m c 7 t (ix3 h r j) = V m c main_v33 (ix3 h r j) := by
  show V m c main_v33 (((cfg0.win 7).blk t).view.emb (ix3 h r j)) = _
  obtain ⟨e0, e1, e2⟩ := idx7 t
  refine congrArg (V m c main_v33) (funext fun a => Fin.ext ?_)
  match a with
  | ⟨0, _⟩ => show win0_7.index t (0 : Fin 3) * 8 + 1 * h.val = h.val; omega
  | ⟨1, _⟩ => show win0_7.index t (1 : Fin 3) * 256 + 1 * r.val = r.val; omega
  | ⟨2, _⟩ => show win0_7.index t (2 : Fin 3) * 768 + 1 * j.val = j.val; omega

/-! ## The result -/

/-- THE KERNEL'S RESULT at a row of the prompt. -/
theorem out_apply (c : Dev nD) (hq : AllReal (S := S8704x1024) (m ((c : Thread nD τ).loc main_arg0)))
    (hk : AllReal (S := S8704x1024) (m ((c : Thread nD τ).loc main_arg1)))
    (ht : AllReal (S := S8x257) (m ((c : Thread nD τ).loc main_arg3)))
    (R : Fin 8704) (hR : R.val < 8192) (n : Fin 1024) :
    (dats m 0 c).arrAt 8 cfg0.N (ix2 R n)
      = att (m ((c : Thread nD τ).loc main_arg0)) (m ((c : Thread nD τ).loc main_arg1)) (m ((c : Thread nD τ).loc main_arg2))
          (m ((c : Thread nD τ).loc main_arg3)) R ⟨n.val / 128, by omega⟩ ⟨n.val % 128, Nat.mod_lt _ (by decide)⟩ := by
  have hN : cfg0.N = 32 := N_0
  have htN : R.val / 256 < cfg0.N := by rw [hN]; omega
  obtain ⟨e0, e1, hf⟩ := idx8 ⟨R.val / 256, htN⟩
  have key := congrFun (Value.blocks8 m c ⟨R.val / 256, htN⟩ hf) (ix2 (⟨R.val % 256, Nat.mod_lt _ (by decide)⟩ : Fin 256) n)
  rw [Value.flushed8] at key
  have hemb : ((cfg0.win 8).blk ⟨R.val / 256, htN⟩).view.emb (ix2 (⟨R.val % 256, Nat.mod_lt _ (by decide)⟩ : Fin 256) n) = ix2 R n := by
    funext a; apply Fin.ext
    match a with
    | ⟨0, _⟩ => show win0_8.index ⟨R.val / 256, htN⟩ (0 : Fin 2) * 256 + 1 * (R.val % 256) = R.val; rw [e0]; show R.val / 256 * 256 + _ = _; omega
    | ⟨1, _⟩ => show win0_8.index ⟨R.val / 256, htN⟩ (1 : Fin 2) * 1024 + 1 * n.val = n.val; omega
  refine (congrArg ((dats m 0 c).arrAt 8 cfg0.N) hemb.symm).trans (key.trans ?_)
  refine (out_block (grid0.coords ⟨R.val / 256, htN⟩) (iblk m c 0 ⟨R.val / 256, htN⟩) (iblk m c 1 ⟨R.val / 256, htN⟩)
    (iblk m c 2 ⟨R.val / 256, htN⟩) (iblk m c 3 ⟨R.val / 256, htN⟩) (iblk m c 4 ⟨R.val / 256, htN⟩) (iblk m c 5 ⟨R.val / 256, htN⟩)
    (iblk m c 6 ⟨R.val / 256, htN⟩) (iblk m c 7 ⟨R.val / 256, htN⟩) (⟨R.val % 256, Nat.mod_lt _ (by decide)⟩ : Fin 256) n).trans ?_
  rw [pay2_pen, pay3_pen, pay4_pen]
  exact blockAt_att _ _ _ _ (V m c main_v33) (V_bias m c) hq hk ht R hR ⟨n.val / 128, by omega⟩ ⟨n.val % 128, Nat.mod_lt _ (by decide)⟩ _ _ _ _ _ _ _ _
    (R.val / 256 % 16) (by omega)
    (fun j => blk0 m c _ _ j R (by simp only; omega))
    (fun c' j K hK => blk1 m c _ c' j K (by simp only; omega))
    (fun c' j K hK => blk2 m c _ c' j K (by simp only; omega))
    (fun c' j K hK => blk3 m c _ c' j K (by simp only; omega))
    (fun c' j K hK => blk4 m c _ c' j K (by simp only; omega))
    (fun c' j K hK => blk5 m c _ c' j K (by simp only; omega))
    (fun c' j K hK => blk6 m c _ c' j K (by simp only; omega))
    (fun h r j => blk7 m c _ h r j)

end Cert.Proof.AttnP
-- ==== Proof.AttnPRef.lean ====
/- The banded attention over the prompt, the reference's result row by row: its window of 576 positions is nine chunks of
   the keys padded by 512 zeros at the front, a padded position's score being set to minus infinity. -/
module

public import proofs.«01_k».proof.Proof.AttnPMix
public import proofs.«01_k».proof.Proof.Gen.AttnPRefIdeal.Read
public import Idealize.ShloMosaic.Lib.KernelVsHost

@[expose] public section

set_option maxRecDepth 16384

noncomputable section

namespace Cert.Proof.AttnP.Ref

open Idealize.ShloMosaic Idealize.ShloMosaic.TcCoe Idealize.SL.Sem
open Cert.AttnPRefIdeal Cert.AttnPRefIdeal.Gen Cert.AttnPRefIdeal.Read

/-! ## The window of keys or values -/

/-- The nine chunks: chunk `k` of window `n` is chunk `n + k` of the padded sequence. -/
abbrev chunks (z : S2x72x64x8x128.Idx → EReal) : List ((s : Shape) × (s.Idx → EReal)) := [
      ⟨S2x64x64x8x128, extractStridedSlice S2x64x64x8x128 ![0, 0, 0, 0, 0] z slices_S2x72x64x8x128_S2x64x64x8x128_0_0_0_0_0⟩,
      ⟨S2x64x64x8x128, extractStridedSlice S2x64x64x8x128 ![0, 1, 0, 0, 0] z slices_S2x72x64x8x128_S2x64x64x8x128_0_1_0_0_0⟩,
      ⟨S2x64x64x8x128, extractStridedSlice S2x64x64x8x128 ![0, 2, 0, 0, 0] z slices_S2x72x64x8x128_S2x64x64x8x128_0_2_0_0_0⟩,
      ⟨S2x64x64x8x128, extractStridedSlice S2x64x64x8x128 ![0, 3, 0, 0, 0] z slices_S2x72x64x8x128_S2x64x64x8x128_0_3_0_0_0⟩,
      ⟨S2x64x64x8x128, extractStridedSlice S2x64x64x8x128 ![0, 4, 0, 0, 0] z slices_S2x72x64x8x128_S2x64x64x8x128_0_4_0_0_0⟩,
      ⟨S2x64x64x8x128, extractStridedSlice S2x64x64x8x128 ![0, 5, 0, 0, 0] z slices_S2x72x64x8x128_S2x64x64x8x128_0_5_0_0_0⟩,
      ⟨S2x64x64x8x128, extractStridedSlice S2x64x64x8x128 ![0, 6, 0, 0, 0] z slices_S2x72x64x8x128_S2x64x64x8x128_0_6_0_0_0⟩,
      ⟨S2x64x64x8x128, extractStridedSlice S2x64x64x8x128 ![0, 7, 0, 0, 0] z slices_S2x72x64x8x128_S2x64x64x8x128_0_7_0_0_0⟩,
      ⟨S2x64x64x8x128, extractStridedSlice S2x64x64x8x128 ![0, 8, 0, 0, 0] z slices_S2x72x64x8x128_S2x64x64x8x128_0_8_0_0_0⟩]

/-- The nine chunks read at a position. -/
theorem cat_apply (z : S2x72x64x8x128.Idx → EReal)
    (hc : Shape.Concatenates [S2x64x64x8x128, S2x64x64x8x128, S2x64x64x8x128, S2x64x64x8x128, S2x64x64x8x128, S2x64x64x8x128, S2x64x64x8x128, S2x64x64x8x128, S2x64x64x8x128] S2x64x576x8x128 2)
    (b : Fin 2) (n : Fin 64) (t : Fin 576) (h : Fin 8) (d : Fin 128) :
    concatenate S2x64x576x8x128 2 (chunks z) hc (ix5 b n t h d)
      = z (ix5 b ⟨n.val + t.val / 64, by omega⟩ ⟨t.val % 64, Nat.mod_lt _ (by decide)⟩ h d) := by
  have ht := t.isLt
  by_cases h0 : t.val / 64 = 0
  · refine (concatenate_apply_piece (t := S2x64x576x8x128) 2 (chunks z) hc (ix5 b n t h d) 0 (by simp) S2x64x64x8x128 _ rfl rfl 0 rfl
      (ix5 b n ⟨t.val % 64, Nat.mod_lt _ (by decide)⟩ h d) (fun a ha => ?_) (by show 0 + t.val % 64 = t.val; omega)).trans ?_
    · match a with
      | ⟨0, _⟩ => rfl
      | ⟨1, _⟩ => rfl
      | ⟨2, _⟩ => exact absurd rfl ha
      | ⟨3, _⟩ => rfl
      | ⟨4, _⟩ => rfl
    · exact extractStridedSlice_apply ![0, 0, 0, 0, 0] z slices_S2x72x64x8x128_S2x64x64x8x128_0_0_0_0_0 _ _ (fun a => match a with
        | ⟨0, _⟩ => by show b.val = 0 + b.val; omega
        | ⟨1, _⟩ => by show n.val + t.val / 64 = 0 + n.val; omega
        | ⟨2, _⟩ => by show t.val % 64 = 0 + t.val % 64; omega
        | ⟨3, _⟩ => by show h.val = 0 + h.val; omega
        | ⟨4, _⟩ => by show d.val = 0 + d.val; omega)
  by_cases h1 : t.val / 64 = 1
  · refine (concatenate_apply_piece (t := S2x64x576x8x128) 2 (chunks z) hc (ix5 b n t h d) 1 (by simp) S2x64x64x8x128 _ rfl rfl 64 rfl
      (ix5 b n ⟨t.val % 64, Nat.mod_lt _ (by decide)⟩ h d) (fun a ha => ?_) (by show 64 + t.val % 64 = t.val; omega)).trans ?_
    · match a with
      | ⟨0, _⟩ => rfl
      | ⟨1, _⟩ => rfl
      | ⟨2, _⟩ => exact absurd rfl ha
      | ⟨3, _⟩ => rfl
      | ⟨4, _⟩ => rfl
    · exact extractStridedSlice_apply ![0, 1, 0, 0, 0] z slices_S2x72x64x8x128_S2x64x64x8x128_0_1_0_0_0 _ _ (fun a => match a with
        | ⟨0, _⟩ => by show b.val = 0 + b.val; omega
        | ⟨1, _⟩ => by show n.val + t.val / 64 = 1 + n.val; omega
        | ⟨2, _⟩ => by show t.val % 64 = 0 + t.val % 64; omega
        | ⟨3, _⟩ => by show h.val = 0 + h.val; omega
        | ⟨4, _⟩ => by show d.val = 0 + d.val; omega)
  by_cases h2 : t.val / 64 = 2
  · refine (concatenate_apply_piece (t := S2x64x576x8x128) 2 (chunks z) hc (ix5 b n t h d) 2 (by simp) S2x64x64x8x128 _ rfl rfl 128 rfl
      (ix5 b n ⟨t.val % 64, Nat.mod_lt _ (by decide)⟩ h d) (fun a ha => ?_) (by show 128 + t.val % 64 = t.val; omega)).trans ?_
    · match a with
      | ⟨0, _⟩ => rfl
      | ⟨1, _⟩ => rfl
      | ⟨2, _⟩ => exact absurd rfl ha
      | ⟨3, _⟩ => rfl
      | ⟨4, _⟩ => rfl
    · exact extractStridedSlice_apply ![0, 2, 0, 0, 0] z slices_S2x72x64x8x128_S2x64x64x8x128_0_2_0_0_0 _ _ (fun a => match a with
        | ⟨0, _⟩ => by show b.val = 0 + b.val; omega
        | ⟨1, _⟩ => by show n.val + t.val / 64 = 2 + n.val; omega
        | ⟨2, _⟩ => by show t.val % 64 = 0 + t.val % 64; omega
        | ⟨3, _⟩ => by show h.val = 0 + h.val; omega
        | ⟨4, _⟩ => by show d.val = 0 + d.val; omega)
  by_cases h3 : t.val / 64 = 3
  · refine (concatenate_apply_piece (t := S2x64x576x8x128) 2 (chunks z) hc (ix5 b n t h d) 3 (by simp) S2x64x64x8x128 _ rfl rfl 192 rfl
      (ix5 b n ⟨t.val % 64, Nat.mod_lt _ (by decide)⟩ h d) (fun a ha => ?_) (by show 192 + t.val % 64 = t.val; omega)).trans ?_
    · match a with
      | ⟨0, _⟩ => rfl
      | ⟨1, _⟩ => rfl
      | ⟨2, _⟩ => exact absurd rfl ha
      | ⟨3, _⟩ => rfl
      | ⟨4, _⟩ => rfl
    · exact extractStridedSlice_apply ![0, 3, 0, 0, 0] z slices_S2x72x64x8x128_S2x64x64x8x128_0_3_0_0_0 _ _ (fun a => match a with
        | ⟨0, _⟩ => by show b.val = 0 + b.val; omega
        | ⟨1, _⟩ => by show n.val + t.val / 64 = 3 + n.val; omega
        | ⟨2, _⟩ => by show t.val % 64 = 0 + t.val % 64; omega
        | ⟨3, _⟩ => by show h.val = 0 + h.val; omega
        | ⟨4, _⟩ => by show d.val = 0 + d.val; omega)
  by_cases h4 : t.val / 64 = 4
  · refine (concatenate_apply_piece (t := S2x64x576x8x128) 2 (chunks z) hc (ix5 b n t h d) 4 (by simp) S2x64x64x8x128 _ rfl rfl 256 rfl
      (ix5 b n ⟨t.val % 64, Nat.mod_lt _ (by decide)⟩ h d) (fun a ha => ?_) (by show 256 + t.val % 64 = t.val; omega)).trans ?_
    · match a with
      | ⟨0, _⟩ => rfl
      | ⟨1, _⟩ => rfl
      | ⟨2, _⟩ => exact absurd rfl ha
      | ⟨3, _⟩ => rfl
      | ⟨4, _⟩ => rfl
    · exact extractStridedSlice_apply ![0, 4, 0, 0, 0] z slices_S2x72x64x8x128_S2x64x64x8x128_0_4_0_0_0 _ _ (fun a => match a with
        | ⟨0, _⟩ => by show b.val = 0 + b.val; omega
        | ⟨1, _⟩ => by show n.val + t.val / 64 = 4 + n.val; omega
        | ⟨2, _⟩ => by show t.val % 64 = 0 + t.val % 64; omega
        | ⟨3, _⟩ => by show h.val = 0 + h.val; omega
        | ⟨4, _⟩ => by show d.val = 0 + d.val; omega)
  by_cases h5 : t.val / 64 = 5
  · refine (concatenate_apply_piece (t := S2x64x576x8x128) 2 (chunks z) hc (ix5 b n t h d) 5 (by simp) S2x64x64x8x128 _ rfl rfl 320 rfl
      (ix5 b n ⟨t.val % 64, Nat.mod_lt _ (by decide)⟩ h d) (fun a ha => ?_) (by show 320 + t.val % 64 = t.val; omega)).trans ?_
    · match a with
      | ⟨0, _⟩ => rfl
      | ⟨1, _⟩ => rfl
      | ⟨2, _⟩ => exact absurd rfl ha
      | ⟨3, _⟩ => rfl
      | ⟨4, _⟩ => rfl
    · exact extractStridedSlice_apply ![0, 5, 0, 0, 0] z slices_S2x72x64x8x128_S2x64x64x8x128_0_5_0_0_0 _ _ (fun a => match a with
        | ⟨0, _⟩ => by show b.val = 0 + b.val; omega
        | ⟨1, _⟩ => by show n.val + t.val / 64 = 5 + n.val; omega
        | ⟨2, _⟩ => by show t.val % 64 = 0 + t.val % 64; omega
        | ⟨3, _⟩ => by show h.val = 0 + h.val; omega
        | ⟨4, _⟩ => by show d.val = 0 + d.val; omega)
  by_cases h6 : t.val / 64 = 6
  · refine (concatenate_apply_piece (t := S2x64x576x8x128) 2 (chunks z) hc (ix5 b n t h d) 6 (by simp) S2x64x64x8x128 _ rfl rfl 384 rfl
      (ix5 b n ⟨t.val % 64, Nat.mod_lt _ (by decide)⟩ h d) (fun a ha => ?_) (by show 384 + t.val % 64 = t.val; omega)).trans ?_
    · match a with
      | ⟨0, _⟩ => rfl
      | ⟨1, _⟩ => rfl
      | ⟨2, _⟩ => exact absurd rfl ha
      | ⟨3, _⟩ => rfl
      | ⟨4, _⟩ => rfl
    · exact extractStridedSlice_apply ![0, 6, 0, 0, 0] z slices_S2x72x64x8x128_S2x64x64x8x128_0_6_0_0_0 _ _ (fun a => match a with
        | ⟨0, _⟩ => by show b.val = 0 + b.val; omega
        | ⟨1, _⟩ => by show n.val + t.val / 64 = 6 + n.val; omega
        | ⟨2, _⟩ => by show t.val % 64 = 0 + t.val % 64; omega
        | ⟨3, _⟩ => by show h.val = 0 + h.val; omega
        | ⟨4, _⟩ => by show d.val = 0 + d.val; omega)
  by_cases h7 : t.val / 64 = 7
  · refine (concatenate_apply_piece (t := S2x64x576x8x128) 2 (chunks z) hc (ix5 b n t h d) 7 (by simp) S2x64x64x8x128 _ rfl rfl 448 rfl
      (ix5 b n ⟨t.val % 64, Nat.mod_lt _ (by decide)⟩ h d) (fun a ha => ?_) (by show 448 + t.val % 64 = t.val; omega)).trans ?_
    · match a with
      | ⟨0, _⟩ => rfl
      | ⟨1, _⟩ => rfl
      | ⟨2, _⟩ => exact absurd rfl ha
      | ⟨3, _⟩ => rfl
      | ⟨4, _⟩ => rfl
    · exact extractStridedSlice_apply ![0, 7, 0, 0, 0] z slices_S2x72x64x8x128_S2x64x64x8x128_0_7_0_0_0 _ _ (fun a => match a with
        | ⟨0, _⟩ => by show b.val = 0 + b.val; omega
        | ⟨1, _⟩ => by show n.val + t.val / 64 = 7 + n.val; omega
        | ⟨2, _⟩ => by show t.val % 64 = 0 + t.val % 64; omega
        | ⟨3, _⟩ => by show h.val = 0 + h.val; omega
        | ⟨4, _⟩ => by show d.val = 0 + d.val; omega)
  by_cases h8 : t.val / 64 = 8
  · refine (concatenate_apply_piece (t := S2x64x576x8x128) 2 (chunks z) hc (ix5 b n t h d) 8 (by simp) S2x64x64x8x128 _ rfl rfl 512 rfl
      (ix5 b n ⟨t.val % 64, Nat.mod_lt _ (by decide)⟩ h d) (fun a ha => ?_) (by show 512 + t.val % 64 = t.val; omega)).trans ?_
    · match a with
      | ⟨0, _⟩ => rfl
      | ⟨1, _⟩ => rfl
      | ⟨2, _⟩ => exact absurd rfl ha
      | ⟨3, _⟩ => rfl
      | ⟨4, _⟩ => rfl
    · exact extractStridedSlice_apply ![0, 8, 0, 0, 0] z slices_S2x72x64x8x128_S2x64x64x8x128_0_8_0_0_0 _ _ (fun a => match a with
        | ⟨0, _⟩ => by show b.val = 0 + b.val; omega
        | ⟨1, _⟩ => by show n.val + t.val / 64 = 8 + n.val; omega
        | ⟨2, _⟩ => by show t.val % 64 = 0 + t.val % 64; omega
        | ⟨3, _⟩ => by show h.val = 0 + h.val; omega
        | ⟨4, _⟩ => by show d.val = 0 + d.val; omega)
  omega

/-- The rows of the prompt as sequences, positions, heads and columns. -/
theorem seq_apply (x : S8704x1024.Idx → EReal) (i : S2x4096x8x128.Idx) (b : Fin 2) (p : Fin 4096) (h : Fin 8) (d : Fin 128)
    (hi : i = ix4 b p h d) :
    x (idx_main_v0 (idx_main_v2 i)) = x (ix2 ⟨4096 * b.val + p.val, by omega⟩ (col h d)) := by
  subst hi
  refine congrArg x (funext fun a => Fin.ext ?_)
  match a with
  | ⟨0, _⟩ => show (((b.val * 4096 + p.val) * 8 + h.val) * 128 + d.val) / 1024 = 4096 * b.val + p.val; omega
  | ⟨1, _⟩ => show (((b.val * 4096 + p.val) * 8 + h.val) * 128 + d.val) % 1024 = 128 * h.val + d.val; omega

/-- The padded positions. -/
theorem pad_front (y : S2x4096x8x128.Idx → EReal) (v : S_.Idx → EReal) (hv : ∀ i, v i = 0) (b : Fin 2) (p : Fin 4608) (h : Fin 8) (d : Fin 128) :
    pad S2x4608x8x128 ![0, 512, 0, 0] ![0, 0, 0, 0] ![0, 0, 0, 0] y v pads_S2x4096x8x128_S2x4608x8x128_000_51200_000_000 h_S_ (ix4 b p h d)
      = if hp : 512 ≤ p.val then y (ix4 b ⟨p.val - 512, by omega⟩ h d) else 0 := by
  split
  · rename_i hp
    refine pad_apply_of_inside _ _ _ y v _ _ _ _ fun a => ?_
    match a with
    | ⟨0, _⟩ => show b.val = 0 + b.val * (0 + 1); omega
    | ⟨1, _⟩ => show p.val = 512 + (p.val - 512) * (0 + 1); omega
    | ⟨2, _⟩ => show h.val = 0 + h.val * (0 + 1); omega
    | ⟨3, _⟩ => show d.val = 0 + d.val * (0 + 1); omega
  · rename_i hp
    rw [pad_apply_of_not_inside _ _ _ y v _ _ _ (1 : Fin 4) (fun hc => hp hc.1)]
    exact hv _

variable (x0 x1 x2 : S8704x1024.Idx → EReal) (x3 : S8x257.Idx → EReal)

theorem keys_zero (i : S_.Idx) : val_main_call0_v0 (F := Ideal) i = 0 := by
  rw [val_main_call0_v0_apply, val_main_c_apply]
  show (((((0#32 : BitVec 32).toInt : ℤ) : ℝ)) : EReal) = 0
  simp

theorem values_zero (i : S_.Idx) : val_main_call1_v0 (F := Ideal) i = 0 := by
  rw [val_main_call1_v0_apply, val_main_c_0_apply]
  show (((((0#32 : BitVec 32).toInt : ℤ) : ℝ)) : EReal) = 0
  simp

/-- The window of keys. -/
theorem keys_apply (b : Fin 2) (n : Fin 64) (t : Fin 576) (h : Fin 8) (d : Fin 128) (R : Fin 8704) (hR : R.val / 64 = 64 * b.val + n.val) :
    val_main_v22 (F := Ideal) x1 (ix5 b n t h d) = if inSeq R t then x1 (ix2 (keyRow R t) (col h d)) else 0 := by
  have htl := t.isLt
  unfold val_main_v22 val_main_v13 val_main_v14 val_main_v15 val_main_v16 val_main_v17 val_main_v18 val_main_v19 val_main_v20 val_main_v21
  refine (cat_apply (val_main_v10 (F := Ideal) x1) _ b n t h d).trans ?_
  rw [val_main_v10_apply]
  have e : idx_main_v10 (ix5 b ⟨n.val + t.val / 64, by omega⟩ ⟨t.val % 64, Nat.mod_lt _ (by decide)⟩ h d) = ix4 b ⟨64 * n.val + t.val, by omega⟩ h d := by
    funext a; apply Fin.ext
    match a with
    | ⟨0, _⟩ => show ((((b.val * 72 + (n.val + t.val / 64)) * 64 + t.val % 64) * 8 + h.val) * 128 + d.val) / 4718592 = b.val; omega
    | ⟨1, _⟩ => show ((((b.val * 72 + (n.val + t.val / 64)) * 64 + t.val % 64) * 8 + h.val) * 128 + d.val) / 1024 % 4608 = 64 * n.val + t.val; omega
    | ⟨2, _⟩ => show ((((b.val * 72 + (n.val + t.val / 64)) * 64 + t.val % 64) * 8 + h.val) * 128 + d.val) / 128 % 8 = h.val; omega
    | ⟨3, _⟩ => show ((((b.val * 72 + (n.val + t.val / 64)) * 64 + t.val % 64) * 8 + h.val) * 128 + d.val) % 128 = d.val; omega
  rw [e]
  unfold val_main_v9
  rw [pad_front _ _ (keys_zero)]
  by_cases hin : inSeq R t
  · have hp : 512 ≤ 64 * n.val + t.val := by unfold inSeq at hin; omega
    rw [if_pos hin, dif_pos hp]
    rw [val_main_v5_apply, val_main_v4_apply, val_main_v3_apply]
    refine (seq_apply x1 _ b ⟨64 * n.val + t.val - 512, by omega⟩ h d rfl).trans ?_
    refine congrArg (fun K => x1 (ix2 K (col h d))) (Fin.ext ?_)
    unfold keyRow
    simp only
    omega
  · have hp : ¬ 512 ≤ 64 * n.val + t.val := by unfold inSeq at hin; omega
    rw [if_neg hin, dif_neg hp]

/-- The window of values. -/
theorem values_apply (b : Fin 2) (n : Fin 64) (t : Fin 576) (h : Fin 8) (d : Fin 128) (R : Fin 8704) (hR : R.val / 64 = 64 * b.val + n.val) :
    val_main_v32 (F := Ideal) x2 (ix5 b n t h d) = if inSeq R t then x2 (ix2 (keyRow R t) (col h d)) else 0 := by
  have htl := t.isLt
  unfold val_main_v32 val_main_v23 val_main_v24 val_main_v25 val_main_v26 val_main_v27 val_main_v28 val_main_v29 val_main_v30 val_main_v31
  refine (cat_apply (val_main_v12 (F := Ideal) x2) _ b n t h d).trans ?_
  rw [val_main_v12_apply]
  have e : idx_main_v12 (ix5 b ⟨n.val + t.val / 64, by omega⟩ ⟨t.val % 64, Nat.mod_lt _ (by decide)⟩ h d) = ix4 b ⟨64 * n.val + t.val, by omega⟩ h d := by
    funext a; apply Fin.ext
    match a with
    | ⟨0, _⟩ => show ((((b.val * 72 + (n.val + t.val / 64)) * 64 + t.val % 64) * 8 + h.val) * 128 + d.val) / 4718592 = b.val; omega
    | ⟨1, _⟩ => show ((((b.val * 72 + (n.val + t.val / 64)) * 64 + t.val % 64) * 8 + h.val) * 128 + d.val) / 1024 % 4608 = 64 * n.val + t.val; omega
    | ⟨2, _⟩ => show ((((b.val * 72 + (n.val + t.val / 64)) * 64 + t.val % 64) * 8 + h.val) * 128 + d.val) / 128 % 8 = h.val; omega
    | ⟨3, _⟩ => show ((((b.val * 72 + (n.val + t.val / 64)) * 64 + t.val % 64) * 8 + h.val) * 128 + d.val) % 128 = d.val; omega
  rw [e]
  unfold val_main_v11
  rw [pad_front _ _ (values_zero)]
  by_cases hin : inSeq R t
  · have hp : 512 ≤ 64 * n.val + t.val := by unfold inSeq at hin; omega
    rw [if_pos hin, dif_pos hp]
    rw [val_main_v8_apply, val_main_v7_apply, val_main_v6_apply]
    refine (seq_apply x2 _ b ⟨64 * n.val + t.val - 512, by omega⟩ h d rfl).trans ?_
    refine congrArg (fun K => x2 (ix2 K (col h d))) (Fin.ext ?_)
    unfold keyRow
    simp only
    omega
  · have hp : ¬ 512 ≤ 64 * n.val + t.val := by unfold inSeq at hin; omega
    rw [if_neg hin, dif_neg hp]

/-- The queries. -/
theorem queries_apply (b : Fin 2) (n r : Fin 64) (h : Fin 8) (d : Fin 128) (R : Fin 8704) (hR : R.val = 4096 * b.val + 64 * n.val + r.val) :
    val_main_v33 (F := Ideal) x0 (ix5 b n r h d) = x0 (ix2 R (col h d)) := by
  rw [val_main_v33_apply]
  have e : idx_main_v33 (ix5 b n r h d) = ix4 b ⟨64 * n.val + r.val, by omega⟩ h d := by
    funext a; apply Fin.ext
    match a with
    | ⟨0, _⟩ => show ((((b.val * 64 + n.val) * 64 + r.val) * 8 + h.val) * 128 + d.val) / 4194304 = b.val; omega
    | ⟨1, _⟩ => show ((((b.val * 64 + n.val) * 64 + r.val) * 8 + h.val) * 128 + d.val) / 1024 % 4096 = 64 * n.val + r.val; omega
    | ⟨2, _⟩ => show ((((b.val * 64 + n.val) * 64 + r.val) * 8 + h.val) * 128 + d.val) / 128 % 8 = h.val; omega
    | ⟨3, _⟩ => show ((((b.val * 64 + n.val) * 64 + r.val) * 8 + h.val) * 128 + d.val) % 128 = d.val; omega
  rw [e, val_main_v2_apply, val_main_v1_apply, val_main_v0_apply]
  refine (seq_apply x0 _ b ⟨64 * n.val + r.val, by omega⟩ h d rfl).trans ?_
  refine congrArg (fun K => x0 (ix2 K (col h d))) (Fin.ext ?_)
  show 4096 * b.val + (64 * n.val + r.val) = R.val
  omega

/-! ## The scores -/

/-- The table's entry. -/
theorem table_apply (h : Fin 8) (r : Fin 64) (t : Fin 576) :
    val_main_v55 (F := Ideal) x3 (ix3 h r t) = tabAt x3 h r.val t.val := by
  unfold val_main_v55
  exact gather_tab (R := 64) (C := 576) gather_S8x257_S64x576x1_S8x64x576_0_1_n_n_1_2_81.wf x3 (val_main_v54 (F := Ideal)) h r t
    (by omega) (by omega) rfl

/-- The position before the sequence's first. -/
theorem before_tab : ∀ n : Fin 64, ∀ t : Fin 576, IntOp.cmpi .sge (IntOp.addi (IntOp.muli (BitVec.ofNat 32 n.val) 64#32) (IntOp.subi (BitVec.ofNat 32 t.val) 512#32)) 0#32
    = if 512 ≤ 64 * n.val + t.val then 1#1 else 0#1 := by
  intro n t
  have e : IntOp.addi (IntOp.muli (BitVec.ofNat 32 n.val) 64#32) (IntOp.subi (BitVec.ofNat 32 t.val) 512#32)
      = IntOp.subi (BitVec.ofNat 32 (64 * n.val + t.val)) 512#32 := by
    show BitVec.ofNat 32 n.val * 64#32 + (BitVec.ofNat 32 t.val - 512#32) = BitVec.ofNat 32 (64 * n.val + t.val) - 512#32
    have h1 : BitVec.ofNat 32 (64 * n.val + t.val) = BitVec.ofNat 32 n.val * 64#32 + BitVec.ofNat 32 t.val := by
      rw [BitVec.ofNat_add, BitVec.ofNat_mul, BitVec.mul_comm]
    rw [h1]
    generalize BitVec.ofNat 32 n.val * 64#32 = X
    generalize BitVec.ofNat 32 t.val = B
    bv_omega
  rw [e]
  exact (by decide +kernel : ∀ x : Fin 4608, IntOp.cmpi .sge (IntOp.subi (BitVec.ofNat 32 x.val) 512#32) 0#32 = if 512 ≤ x.val then 1#1 else 0#1)
    ⟨64 * n.val + t.val, by omega⟩

theorem mask_apply (b : Fin 2) (n : Fin 64) (h : Fin 8) (r : Fin 64) (t : Fin 576) :
    val_main_call3_v1 (F := Ideal) (ix5 b n h r t) = if 512 ≤ 64 * n.val + t.val then 1#1 else 0#1 := by
  rw [val_main_call3_v1_apply, val_main_v69_apply, ← before_tab n t]
  rfl

/-- The masked score of a query and a position of its window. -/
theorem score_apply (b : Fin 2) (n : Fin 64) (h : Fin 8) (r : Fin 64) (t : Fin 576) (R : Fin 8704) (hR : R.val = 4096 * b.val + 64 * n.val + r.val) :
    val_main_v70 (F := Ideal) x0 x1 x3 (ix5 b n h r t) = score x0 x1 x3 R h t := by
  rw [val_main_v70_apply, mask_apply]
  unfold score
  by_cases hin : inSeq R t
  · have hp : 512 ≤ 64 * n.val + t.val := by unfold inSeq at hin; omega
    rw [if_pos hin, if_pos hp]
    show val_main_v58 (F := Ideal) x0 x1 x3 (ix5 b n h r t) = _
    rw [val_main_v58_apply, val_main_v36_apply, val_main_v34_apply, val_main_v57_apply, val_main_v56_apply]
    have e1 : idx_main_v56 (idx_main_v57 (ix5 b n h r t)) = ix3 h r t := by
      funext a; match a with
      | ⟨0, _⟩ => rfl
      | ⟨1, _⟩ => rfl
      | ⟨2, _⟩ => rfl
    rw [e1, table_apply, show R.val % 64 = r.val by omega]
    refine congrArg (fun z => z * scale + tabAt x3 h r.val t.val) (Finset.sum_congr rfl fun d _ => ?_)
    have e2 : lidx_main_v34 (ix5 b n h r t) d = ix5 b n r h d := by
      funext a; match a with
      | ⟨0, _⟩ => rfl
      | ⟨1, _⟩ => rfl
      | ⟨2, _⟩ => rfl
      | ⟨3, _⟩ => rfl
      | ⟨4, _⟩ => rfl
    have e3 : ridx_main_v34 (ix5 b n h r t) d = ix5 b n t h d := by
      funext a; match a with
      | ⟨0, _⟩ => rfl
      | ⟨1, _⟩ => rfl
      | ⟨2, _⟩ => rfl
      | ⟨3, _⟩ => rfl
      | ⟨4, _⟩ => rfl
    rw [e2, e3, queries_apply x0 b n r h d R hR, keys_apply x1 b n t h d R (by omega), if_pos hin]
  · have hp : ¬ 512 ≤ 64 * n.val + t.val := by unfold inSeq at hin; omega
    rw [if_neg hin, if_neg hp]
    show Ideal.ofBits .f32 0xFF800000#32 = ⊥
    simp [Ideal.ofBits, Ideal.ieee]

/-- The host's maximum over the positions of a window. -/
theorem reduce_max (y : S2x64x8x64x576.Idx → EReal) (v : S_.Idx → EReal) (b : Fin 2) (n : Fin 64) (h : Fin 8) (r : Fin 64) :
    Host.reduce (FloatOps.maximumf (F := Ideal) (φ := .f32)) y v reducesTo_S2x64x8x64x576_S2x64x8x64_d4 h_S_ (ix4 b n h r)
      = Finset.univ.fold max (v (Shape.Idx.first h_S_)) fun t : Fin 576 => y (ix5 b n h r t) := by
  have hr : S2x64x8x64x576.Reduces [4] S2x64x8x64 := by decide
  rw [Host.reduce_eq_fold_single (FloatOps.maximumf (F := Ideal) (φ := .f32)) y v reducesTo_S2x64x8x64x576_S2x64x8x64_d4 hr h_S_]
  have hf : (y ∘ hr.lift (ix4 b n h r)) = fun t : Fin 576 => y (ix5 b n h r t) := funext fun t =>
    congrArg y (funext fun a => Fin.ext (by match a with | ⟨0, _⟩ => rfl | ⟨1, _⟩ => rfl | ⟨2, _⟩ => rfl | ⟨3, _⟩ => rfl | ⟨4, _⟩ => rfl))
  exact congrArg (fun f => Finset.fold max (v (Shape.Idx.first h_S_)) f (Finset.univ : Finset (Fin 576))) hf

/-- The greatest score of a window. -/
theorem max_apply (b : Fin 2) (n : Fin 64) (h : Fin 8) (r : Fin 64) (R : Fin 8704) (hR : R.val = 4096 * b.val + 64 * n.val + r.val) :
    val_main_v73 (F := Ideal) x0 x1 x3 (ix4 b n h r) = top (score x0 x1 x3 R h) := by
  have hb : Ideal.ofBits .f32 0xFF800000#32 = ⊥ := by simp [Ideal.ofBits, Ideal.ieee]
  have hf : (fun t : Fin 576 => val_main_v70 (F := Ideal) x0 x1 x3 (ix5 b n h r t)) = score x0 x1 x3 R h :=
    funext fun t => score_apply x0 x1 x3 b n h r t R hR
  have e : val_main_v71 (F := Ideal) x0 x1 x3 (ix4 b n h r) = top (score x0 x1 x3 R h) := by
    unfold val_main_v71
    rw [reduce_max, hf]
    unfold top
    refine congrArg (fun z => Finset.fold max z (score x0 x1 x3 R h) Finset.univ) ?_
    exact hb
  rw [val_main_v73_apply, val_main_v72_apply, val_main_cst_11_apply, e]
  show max (Ideal.ofBits .f32 0xFF800000#32) _ = _
  rw [hb]
  exact max_eq_right bot_le

/-- A window's weights before their division. -/
theorem exp_apply (b : Fin 2) (n : Fin 64) (h : Fin 8) (r : Fin 64) (t : Fin 576) (R : Fin 8704) (hR : R.val = 4096 * b.val + 64 * n.val + r.val) :
    val_main_v77 (F := Ideal) x0 x1 x3 (ix5 b n h r t) = Ideal.exp (score x0 x1 x3 R h t - top (score x0 x1 x3 R h)) := by
  rw [val_main_v77_apply, val_main_v76_apply, score_apply x0 x1 x3 b n h r t R hR, val_main_v75_apply, val_main_v74_apply]
  have e : idx_main_v74 (idx_main_v75 (ix5 b n h r t)) = ix4 b n h r := by
    funext a; match a with
    | ⟨0, _⟩ => rfl
    | ⟨1, _⟩ => rfl
    | ⟨2, _⟩ => rfl
    | ⟨3, _⟩ => rfl
  rw [e, max_apply x0 x1 x3 b n h r R hR]
  rfl

/-- Their sum. -/
theorem den_apply (b : Fin 2) (n : Fin 64) (h : Fin 8) (r : Fin 64) (t : Fin 576) (R : Fin 8704) (hR : R.val = 4096 * b.val + 64 * n.val + r.val) :
    val_main_v80 (F := Ideal) x0 x1 x3 (ix5 b n h r t) = ∑ t, Ideal.exp (score x0 x1 x3 R h t - top (score x0 x1 x3 R h)) := by
  rw [val_main_v80_apply, val_main_v79_apply, val_main_v78_apply]
  have e0 : val_main_cst_12 (F := Ideal) (Shape.Idx.first h_S_) = 0 := by
    show Ideal.ofBits .f32 0x00000000#32 = 0
    simp [Ideal.ofBits, Ideal.ieee]
  rw [e0, zero_add]
  refine Finset.sum_congr rfl fun t' _ => ?_
  have e : idx_main_v78 (idx_main_v79 (idx_main_v80 (ix5 b n h r t))) t' = ix5 b n h r t' := by
    funext a; match a with
    | ⟨0, _⟩ => rfl
    | ⟨1, _⟩ => rfl
    | ⟨2, _⟩ => rfl
    | ⟨3, _⟩ => rfl
    | ⟨4, _⟩ => rfl
  rw [e, exp_apply x0 x1 x3 b n h r t' R hR]

/-- THE REFERENCE'S RESULT at a row of the prompt. -/
theorem ref_apply (R : Fin 8704) (hR : R.val < 8192) (j : Fin 1024) :
    val_main_v86 (F := Ideal) x0 x1 x2 x3 (ix2 R j)
      = att x0 x1 x2 x3 R ⟨j.val / 128, by omega⟩ ⟨j.val % 128, Nat.mod_lt _ (by decide)⟩ := by
  rw [val_main_v86_apply]
  show val_main_v85 (F := Ideal) x0 x1 x2 x3 (ix2 R j) = _
  unfold val_main_v85
  rw [pad_apply_of_inside (s := S8192x1024) (t := S8704x1024) _ _ _ (val_main_v84 (F := Ideal) x0 x1 x2 x3) _ _ _ _ (ix2 (⟨R.val, hR⟩ : Fin 8192) j) (fun a => by
    match a with
    | ⟨0, _⟩ => show R.val = 0 + R.val * (0 + 1); omega
    | ⟨1, _⟩ => show j.val = 0 + j.val * (0 + 1); omega)]
  rw [val_main_v84_apply, val_main_v83_apply, val_main_v82_apply]
  unfold att
  refine Finset.sum_congr rfl fun t _ => ?_
  have e1 : lidx_main_v82 (idx_main_v83 (idx_main_v84 (ix2 (⟨R.val, hR⟩ : Fin 8192) j))) t
      = ix5 (⟨R.val / 4096, by omega⟩ : Fin 2) (⟨R.val % 4096 / 64, by omega⟩ : Fin 64) t (⟨j.val / 128, by omega⟩ : Fin 8) (⟨j.val % 128, Nat.mod_lt _ (by decide)⟩ : Fin 128) := by
    have hj := j.isLt
    funext a; apply Fin.ext; match a with
    | ⟨0, _⟩ => show (R.val * 1024 + j.val) / 4194304 = R.val / 4096; omega
    | ⟨1, _⟩ => show (R.val * 1024 + j.val) / 65536 % 64 = R.val % 4096 / 64; omega
    | ⟨2, _⟩ => rfl
    | ⟨3, _⟩ => show (R.val * 1024 + j.val) / 128 % 8 = j.val / 128; omega
    | ⟨4, _⟩ => show (R.val * 1024 + j.val) % 128 = j.val % 128; omega
  have e2 : ridx_main_v82 (idx_main_v83 (idx_main_v84 (ix2 (⟨R.val, hR⟩ : Fin 8192) j))) t
      = ix5 (⟨R.val / 4096, by omega⟩ : Fin 2) (⟨R.val % 4096 / 64, by omega⟩ : Fin 64) (⟨j.val / 128, by omega⟩ : Fin 8) (⟨R.val % 64, Nat.mod_lt _ (by decide)⟩ : Fin 64) t := by
    have hj := j.isLt
    funext a; apply Fin.ext; match a with
    | ⟨0, _⟩ => show (R.val * 1024 + j.val) / 4194304 = R.val / 4096; omega
    | ⟨1, _⟩ => show (R.val * 1024 + j.val) / 65536 % 64 = R.val % 4096 / 64; omega
    | ⟨2, _⟩ => show (R.val * 1024 + j.val) / 128 % 8 = j.val / 128; omega
    | ⟨3, _⟩ => show (R.val * 1024 + j.val) / 1024 % 64 = R.val % 64; omega
    | ⟨4, _⟩ => rfl
  rw [e1, e2, values_apply x2 _ _ t _ _ R (by simp only; omega), val_main_v81_apply,
    exp_apply x0 x1 x3 _ _ _ _ t R (by simp only; omega), den_apply x0 x1 x3 _ _ _ _ t R (by simp only; omega)]
  rfl

end Cert.Proof.AttnP.Ref
-- ==== Proof.AttnPClaim.lean ====
/- The claims of the attention over the prompt: the reference's frame and the kernel's equality with it on the prompt's
   rows, of finite queries, keys and table. -/
module

public import proofs.«01_k».proof.Defs
public import proofs.«01_k».proof.Proof.AttnPRef
public import proofs.«01_k».proof.Proof.Gen.AttnPRefIdeal.Run
public import Idealize.ShloMosaic.Lib.Quiescent
public import Idealize.ShloMosaic.Lib.ReduceAll

@[expose] public section

set_option maxRecDepth 16384

noncomputable section

namespace Cert.Proof.AttnP

open Idealize.ShloMosaic Idealize.ShloMosaic.TcCoe Idealize.SL.Sem

/-- The side conditions of the selecting function. -/
instance promptFacts : Cert.On_prompt_rows.Facts := ⟨by decide⟩

/-- The side conditions of the precondition. -/
instance finiteFacts : Cert.Pre_finite_attn.Facts := ⟨by decide, by decide, by decide, by decide, by decide, by decide⟩

/-- The reference's run ends with its arguments as they were and every semaphore counter at zero. -/
theorem frame_ref : Cert.quiescent_AttnPRefIdeal := fun m ρ _ =>
  (θ_run Cert.AttnPRefIdeal.defs _ _).mono (fun r h => ⟨fun c => (h c).2, Idealize.ShloMosaic.sem_eq_zero_of_no_sems (by decide) r.2⟩)
    (Cert.AttnPRefIdeal.Value.run (F := Ideal) m ρ)

/-- The same of arguments that meet the precondition. -/
theorem frame_ref_pre : Cert.quiescent_AttnPRefIdeal_pre_finite_attn := fun m ρ _ => frame_ref m ρ trivial

/-- The rows that the claim selects are the first 8192. -/
theorem row_lt : ∀ r : Fin 8704, IntOp.cmpi .slt (BitVec.ofNat 32 r.val) 8192#32 = 1#1 → r.val < 8192 := by
  decide +kernel

theorem prompt_lt (q k v : FVec Ideal Cert.On_prompt_rows.S8704x1024 .bf16) (tab : FVec Ideal Cert.On_prompt_rows.S8x257 .f32)
    (i : Cert.On_prompt_rows.S8704x1024.Idx) (h : Cert.On_prompt_rows.fn (F := Ideal) q k v tab i = 1#1) : (i 0).val < 8192 :=
  row_lt (i 0) h

/-- A magnitude below infinity is a real number's. -/
theorem real_of_abs_lt (x : EReal) (h : Ideal.cmp .olt (max x (-x)) (Ideal.ofBits .f32 0x7F800000#32) = 1#1) : x ≠ ⊤ ∧ x ≠ ⊥ := by
  have ht : Ideal.ofBits .f32 0x7F800000#32 = ⊤ := by simp [Ideal.ofBits, Ideal.ieee]
  rw [ht] at h
  constructor <;> rintro rfl <;> simp [Ideal.cmp] at h

/-- The precondition read: queries, keys and table are real numbers. -/
theorem finite_real (q k v : FVec Ideal Cert.Pre_finite_attn.S8704x1024 .bf16) (tab : FVec Ideal Cert.Pre_finite_attn.S8x257 .f32)
    (h : Cert.Pre_finite_attn.fn (F := Ideal) q k v tab = fun _ => 1#1) :
    AllReal (S := Cert.Pre_finite_attn.S8704x1024) q ∧ AllReal (S := Cert.Pre_finite_attn.S8704x1024) k ∧ AllReal (S := Cert.Pre_finite_attn.S8x257) tab := by
  have h0 := congrFun h ix0
  unfold Cert.Pre_finite_attn.fn at h0
  obtain ⟨h1, h4⟩ := IntOp.andi_eq_one.1 h0
  obtain ⟨h2, h3⟩ := IntOp.andi_eq_one.1 h1
  have : Subsingleton Cert.Pre_finite_attn.S_.Idx := ⟨fun a b => funext fun i => i.elim0⟩
  exact ⟨fun i => real_of_abs_lt _ (Host.reduce_andi_all _ _ _ _ _ h2 i), fun i => real_of_abs_lt _ (Host.reduce_andi_all _ _ _ _ _ h3 i),
    fun i => real_of_abs_lt _ (Host.reduce_andi_all _ _ _ _ _ h4 i)⟩

/-- At the ideal instance the kernel's result is the reference's on the prompt's rows, of the same arguments. -/
theorem algebraic : Cert.algebraic_AttnPIdeal_AttnPRefIdeal_on_prompt_rows_pre_finite_attn := by
  intro m ρ m' ρ' hpre hag
  refine ⟨fun c => (Cert.AttnPIdeal.Gen.dats m 0 c).arrAt 8 Cert.AttnPIdeal.cfg0.N,
    (θ_run Cert.AttnPIdeal.defs _ _).mono (fun r h c => ?_) (Cert.AttnPIdeal.Value.run_blocks (F := Ideal) m ρ), ?_⟩
  · obtain ⟨h0, hk⟩ := h c
    exact ⟨fun i _ => congrFun h0 i, hk⟩
  refine (θ_run Cert.AttnPRefIdeal.defs _ _).mono (fun r h c => ?_) (Cert.AttnPRefIdeal.Value.run (F := Ideal) m' ρ')
  obtain ⟨e0, e1, e2, e3⟩ := hag c
  obtain ⟨h0, hk⟩ := h c
  obtain ⟨hq, hkr, ht⟩ := finite_real _ _ _ _ (hpre c)
  refine ⟨fun i hi => ?_, hk⟩
  have hlt : (i 0).val < 8192 := prompt_lt _ _ _ _ i hi
  refine (congrFun (h0.trans (Cert.AttnPRefIdeal.Read.val_main_v86_eq _ _)) i).trans ?_
  rw [e0, e1, e2, e3, eq_ix2 i]
  exact (AttnP.Ref.ref_apply _ _ _ _ (i 0) hlt (i 1)).trans (AttnP.out_apply m c hq hkr ht (i 0) hlt (i 1)).symm

end Cert.Proof.AttnP

end
-- ==== Proof.FfnMix.lean ====
/- The channel mixer: what the kernel's accumulated sum over the column blocks of the hidden layer is, and that the
   reference computes the same. Both are, at row `r` and column `n`,
     h[r,n] + ∑ f, max(∑ d, x[r,d]·w₁[0,d,f], 0)² · w₂[0,f,n]
   the kernel's with the sum over `f` cut into eight blocks of 1024, which extended-real addition lets one join. -/
module

public import proofs.«01_k».proof.Proof.Gen.FfnIdeal.Value
public import proofs.«01_k».proof.Proof.Gen.FfnRefIdeal.Read
public import Idealize.ShloMosaic.Lib.Pointwise
public import Idealize.ShloMosaic.Lib.StableHlo.ReadAt

@[expose] public section

set_option maxRecDepth 16384

noncomputable section

namespace Cert.Proof.Ffn

open Idealize.ShloMosaic Idealize.ShloMosaic.TcCoe Idealize.SL.Sem
open Cert.FfnIdeal Cert.FfnIdeal.Gen

/-- The squared rectified hidden unit `f` of row `r`. -/
def hid (x : S8704x2048.Idx → EReal) (w1 : S4x2048x8192.Idx → EReal) (r : Fin 8704) (f : Fin 8192) : EReal :=
  max (∑ d : Fin 2048, x (ix2 r d) * w1 (ix3 0 d f)) 0 * max (∑ d : Fin 2048, x (ix2 r d) * w1 (ix3 0 d f)) 0

/-- The mixer's result at row `r`, column `n`. -/
def mix (x : S8704x2048.Idx → EReal) (h : S8704x2048.Idx → EReal) (w1 : S4x2048x8192.Idx → EReal)
    (w2 : S4x8192x2048.Idx → EReal) (r : Fin 8704) (n : Fin 2048) : EReal :=
  h (ix2 r n) + ∑ f : Fin 8192, hid x w1 r f * w2 (ix3 0 f n)

/-- One grid point's body at an index: the accumulator plus the block's part of the sum. -/
theorem pay_apply (v3 : Vec Ideal S512x2048 .bf16) (v4 : Vec Ideal S1x2048x1024 .bf16) (v11 : Vec Ideal S512x2048 .f32)
    (v13 : Vec Ideal S1x1024x2048 .bf16) (r : Fin 512) (n : Fin 2048) :
    k0_pay1 (F := Ideal) v3 v4 v11 v13 (ix2 r n) = v11 (ix2 r n) + ∑ f : Fin 1024,
      (max (∑ d : Fin 2048, v3 (ix2 r d) * v4 (ix3 0 d f)) 0 * max (∑ d : Fin 2048, v3 (ix2 r d) * v4 (ix3 0 d f)) 0)
        * v13 (ix3 0 f n) := by
  pointwise [k0_pay1]

variable (m : (ℓ : Loc nD τ sig) → Buf (Elt Ideal) ℓ)

/-- The printed index maps over the grid: row blocks by `t / 8`, hidden blocks by `t % 8`. -/
theorem idx_facts : ∀ t : Fin cfg0.N,
    win0_0.index t (0 : Fin 2) = t.val / 8 ∧ win0_0.index t (1 : Fin 2) = 0
    ∧ win0_1.index t (0 : Fin 3) = 0 ∧ win0_1.index t (1 : Fin 3) = 0 ∧ win0_1.index t (2 : Fin 3) = t.val % 8
    ∧ win0_2.index t (0 : Fin 3) = 0 ∧ win0_2.index t (1 : Fin 3) = t.val % 8 ∧ win0_2.index t (2 : Fin 3) = 0
    ∧ win0_3.index t (0 : Fin 2) = t.val / 8 ∧ win0_3.index t (1 : Fin 2) = 0 :=
  (by decide +kernel : ∀ t : Fin grid0.N, _)

/-- The row block of the normed activations at point `t`. -/
theorem blk0 (c : Dev nD) (t : Fin cfg0.N) (r : Fin 512) (d : Fin 2048) (R : Fin 8704) (hR : R.val = 512 * (t.val / 8) + r.val) :
    iblk m c 0 t (ix2 r d) = m ((c : Thread nD τ).loc main_arg0) (ix2 R d) := by
  rw [← V_main_arg0 m c]
  show V m c main_arg0 (((cfg0.win 0).blk t).view.emb (ix2 r d)) = _
  obtain ⟨e0, e1, -⟩ := idx_facts t
  refine congrArg (V m c main_arg0) (funext fun a => Fin.ext ?_)
  match a with
  | ⟨0, _⟩ => show win0_0.index t (0 : Fin 2) * 512 + 1 * r.val = R.val; omega
  | ⟨1, _⟩ => show win0_0.index t (1 : Fin 2) * 2048 + 1 * d.val = d.val; omega

/-- The row block of the residual at point `t`. -/
theorem blk3 (c : Dev nD) (t : Fin cfg0.N) (r : Fin 512) (d : Fin 2048) (R : Fin 8704) (hR : R.val = 512 * (t.val / 8) + r.val) :
    iblk m c 3 t (ix2 r d) = m ((c : Thread nD τ).loc main_arg1) (ix2 R d) := by
  rw [← V_main_arg1 m c]
  show V m c main_arg1 (((cfg0.win 3).blk t).view.emb (ix2 r d)) = _
  obtain ⟨-, -, -, -, -, -, -, -, e0, e1⟩ := idx_facts t
  refine congrArg (V m c main_arg1) (funext fun a => Fin.ext ?_)
  match a with
  | ⟨0, _⟩ => show win0_3.index t (0 : Fin 2) * 512 + 1 * r.val = R.val; omega
  | ⟨1, _⟩ => show win0_3.index t (1 : Fin 2) * 2048 + 1 * d.val = d.val; omega

/-- The first weights as the launch finds them: the argument, its format change the identity. -/
theorem V_w1 (c : Dev nD) (i : S4x2048x8192.Idx) : V m c main_v0 i = m ((c : Thread nD τ).loc main_arg2) i := by
  unfold V hostOps0
  after_reads_at

/-- The second weights as the launch finds them. -/
theorem V_w2 (c : Dev nD) (i : S4x8192x2048.Idx) : V m c main_v1 i = m ((c : Thread nD τ).loc main_arg3) i := by
  unfold V hostOps0
  after_reads_at

/-- The column block of the first weights at point `t`. -/
theorem blk1 (c : Dev nD) (t : Fin cfg0.N) (d : Fin 2048) (f : Fin 1024) (f' : Fin 8192) (hf : f'.val = 1024 * (t.val % 8) + f.val) :
    iblk m c 1 t (ix3 0 d f) = m ((c : Thread nD τ).loc main_arg2) (ix3 0 d f') := by
  rw [← V_w1 m c]
  show V m c main_v0 (((cfg0.win 1).blk t).view.emb (ix3 0 d f)) = _
  obtain ⟨-, -, e0, e1, e2, -⟩ := idx_facts t
  refine congrArg (V m c main_v0) (funext fun a => Fin.ext ?_)
  match a with
  | ⟨0, _⟩ => show win0_1.index t (0 : Fin 3) * 1 + 1 * 0 = 0; omega
  | ⟨1, _⟩ => show win0_1.index t (1 : Fin 3) * 2048 + 1 * d.val = d.val; omega
  | ⟨2, _⟩ => show win0_1.index t (2 : Fin 3) * 1024 + 1 * f.val = f'.val; omega

/-- The row block of the second weights at point `t`. -/
theorem blk2 (c : Dev nD) (t : Fin cfg0.N) (f : Fin 1024) (n : Fin 2048) (f' : Fin 8192) (hf : f'.val = 1024 * (t.val % 8) + f.val) :
    iblk m c 2 t (ix3 0 f n) = m ((c : Thread nD τ).loc main_arg3) (ix3 0 f' n) := by
  rw [← V_w2 m c]
  show V m c main_v1 (((cfg0.win 2).blk t).view.emb (ix3 0 f n)) = _
  obtain ⟨-, -, -, -, -, e0, e1, e2, -⟩ := idx_facts t
  refine congrArg (V m c main_v1) (funext fun a => Fin.ext ?_)
  match a with
  | ⟨0, _⟩ => show win0_2.index t (0 : Fin 3) * 1 + 1 * 0 = 0; omega
  | ⟨1, _⟩ => show win0_2.index t (1 : Fin 3) * 1024 + 1 * f.val = f'.val; omega
  | ⟨2, _⟩ => show win0_2.index t (2 : Fin 3) * 2048 + 1 * n.val = n.val; omega

/-- The part of the sum over the hidden units that block `j` holds, for row `R`. -/
def part (c : Dev nD) (R : Fin 8704) (n : Fin 2048) (j : Fin 8) : EReal :=
  ∑ f : Fin 1024, hid (m ((c : Thread nD τ).loc main_arg0)) (m ((c : Thread nD τ).loc main_arg2)) R ⟨j.val * 1024 + f.val, by omega⟩
    * m ((c : Thread nD τ).loc main_arg3) (ix3 0 ⟨j.val * 1024 + f.val, by omega⟩ n)

/-- One grid point's body over its blocks. -/
theorem point_apply (c : Dev nD) (t : Fin cfg0.N) (acc : Vec Ideal S512x2048 .f32) (r : Fin 512) (n : Fin 2048) (R : Fin 8704)
    (hR : R.val = 512 * (t.val / 8) + r.val) (j : Fin 8) (hj : j.val = t.val % 8) :
    k0_pay1 (F := Ideal) (iblk m c 0 t) (iblk m c 1 t) acc (iblk m c 2 t) (ix2 r n) = acc (ix2 r n) + part m c R n j := by
  rw [pay_apply]
  refine congrArg (acc (ix2 r n) + ·) (Finset.sum_congr rfl fun f _ => ?_)
  simp only [fun d => blk0 m c t r d R hR,
    fun d => blk1 m c t d f ⟨j.val * 1024 + f.val, by omega⟩ (by show j.val * 1024 + f.val = _; omega),
    blk2 m c t f n ⟨j.val * 1024 + f.val, by omega⟩ (by show j.val * 1024 + f.val = _; omega)]
  rfl

/-- The residual argument, as extended reals. -/
abbrev resid (c : Dev nD) : S8704x2048.Idx → EReal := m ((c : Thread nD τ).loc main_arg1)

/-- What point `s` adds to the accumulator: its body over a zero accumulator (nothing past the grid). -/
def add (c : Dev nD) (s : ℕ) (i : S512x2048.Idx) : EReal :=
  if h : s < cfg0.N then
    k0_pay1 (F := Ideal) (iblk m c 0 ⟨s, h⟩) (iblk m c 1 ⟨s, h⟩) (fun _ => 0) (iblk m c 2 ⟨s, h⟩) i
  else 0

/-- A point's body over any accumulator is the accumulator plus the point's addend. -/
theorem pay_add (c : Dev nD) (s : ℕ) (h : s < cfg0.N) (acc : Vec Ideal S512x2048 .f32) (i : S512x2048.Idx) :
    k0_pay1 (F := Ideal) (iblk m c 0 ⟨s, h⟩) (iblk m c 1 ⟨s, h⟩) acc (iblk m c 2 ⟨s, h⟩) i = acc i + add m c s i := by
  obtain ⟨a, b, rfl⟩ : ∃ (a : Fin 512) (b : Fin 2048), i = ix2 a b := ⟨i 0, i 1, eq_ix2 i⟩
  unfold add
  rw [dif_pos h, pay_apply, pay_apply, zero_add]

/-- Point `8q + j` adds block `j`'s part of the sum. -/
theorem add_apply (c : Dev nD) (q : ℕ) (hq : q < 17) (j : Fin 8) (r : Fin 512) (n : Fin 2048) (R : Fin 8704)
    (hR : R.val = 512 * q + r.val) : add m c (8 * q + j.val) (ix2 r n) = part m c R n j := by
  have hN : cfg0.N = 136 := N_0
  have hj := j.isLt
  have h : 8 * q + j.val < cfg0.N := by rw [hN]; omega
  have e := point_apply m c ⟨8 * q + j.val, h⟩ (fun _ => 0) r n R
    (by show R.val = 512 * ((8 * q + j.val) / 8) + r.val; omega) j (by show j.val = (8 * q + j.val) % 8; omega)
  rw [zero_add] at e
  unfold add
  rw [dif_pos h]
  exact e

/-- The accumulated block of row block `q` at an index. -/
theorem run_apply (c : Dev nD) (q : ℕ) (hq : q < 17) (h : 8 * q + 7 < cfg0.N) (r : Fin 512) (n : Fin 2048) (R : Fin 8704)
    (hR : R.val = 512 * q + r.val) :
    Pipeline.accAt (Value.reset4 (F := Ideal) m c) (Value.step4 m c) (8 * q) 7 h (ix2 r n)
      = resid m c (ix2 R n) + ∑ j : Fin 8, part m c R n j := by
  have hN : cfg0.N = 136 := N_0
  have h0 : 8 * q < cfg0.N := by rw [hN]; omega
  have key := Pipeline.accAt_add_apply (N := cfg0.N) (Value.reset4 (F := Ideal) m c) (Value.step4 m c)
    (fun i => iblk m c 3 ⟨8 * q, h0⟩ i) (add m c) (8 * q) 7
    (fun h i => pay_add m c (8 * q) h (iblk m c 3 ⟨8 * q, h⟩) i)
    (fun s h acc i _ _ => pay_add m c s h acc i) 7 le_rfl h (ix2 r n)
  rw [key, Finset.sum_range]
  rw [blk3 m c ⟨8 * q, h0⟩ r n R (by show R.val = 512 * (8 * q / 8) + r.val; omega)]
  exact congrArg (resid m c (ix2 R n) + ·)
    (Finset.sum_congr rfl fun j _ => add_apply m c q hq j r n R hR)

/-- THE KERNEL'S RESULT: the accumulated array at row `R`, column `n` is the mixer's value. -/
theorem G_apply (c : Dev nD) (R : Fin 8704) (n : Fin 2048) :
    Value.G4 (F := Ideal) m c (ix2 R n) = mix (m ((c : Thread nD τ).loc main_arg0)) (m ((c : Thread nD τ).loc main_arg1))
      (m ((c : Thread nD τ).loc main_arg2)) (m ((c : Thread nD τ).loc main_arg3)) R n := by
  have hN : cfg0.N = 136 := N_0
  have hR := R.isLt
  have hrun : Value.run4Of (ix2 R n) = R.val / 512 := by
    show 1 * (R.val / 512 - 0) + 1 * (n.val / 2048 - 0) = _
    have := n.isLt; omega
  have hloc : Value.loc4Of (ix2 R n) = ix2 (⟨R.val % 512, Nat.mod_lt _ (by decide)⟩ : Fin 512) n := by
    funext a; apply Fin.ext
    match a with
    | ⟨0, _⟩ => rfl
    | ⟨1, _⟩ => exact Nat.mod_eq_of_lt n.isLt
  have hb : 8 * Value.run4Of (ix2 R n) + 7 < cfg0.N := by rw [hrun, hN]; omega
  have e := run_apply m c (Value.run4Of (ix2 R n)) (by rw [hrun]; omega) hb (⟨R.val % 512, Nat.mod_lt _ (by decide)⟩ : Fin 512) n R
    (by rw [hrun]; show R.val = 512 * (R.val / 512) + R.val % 512; omega)
  unfold Value.G4
  rw [dif_pos hb, hloc, e]
  unfold mix
  rw [Fin.sum_univ_tiles (N := 8192) 8 1024 (by norm_num)]
  rfl

/-- THE REFERENCE'S RESULT at row `R`, column `n`. -/
theorem ref_apply (x : S8704x2048.Idx → EReal) (h : S8704x2048.Idx → EReal) (w1 : S4x2048x8192.Idx → EReal)
    (w2 : S4x8192x2048.Idx → EReal) (R : Fin 8704) (n : Fin 2048) :
    Cert.FfnRefIdeal.Read.val_main_v9 (F := Ideal) x h w1 w2 (ix2 R n) = mix x h w1 w2 R n := by
  unfold mix hid
  pointwise [Cert.FfnRefIdeal.Read.val_main_v9, Cert.FfnRefIdeal.Read.val_main_v8, Cert.FfnRefIdeal.Read.val_main_v7,
    Cert.FfnRefIdeal.Read.val_main_v6, Cert.FfnRefIdeal.Read.val_main_v5, Cert.FfnRefIdeal.Read.val_main_v4,
    Cert.FfnRefIdeal.Read.val_main_call0_v0, Cert.FfnRefIdeal.Read.val_main_call0_cst, Cert.FfnRefIdeal.Read.val_main_v3,
    Cert.FfnRefIdeal.Read.val_main_v2, Cert.FfnRefIdeal.Read.val_main_v1, Cert.FfnRefIdeal.Read.val_main_v0]

end Cert.Proof.Ffn

end
-- ==== Proof.FfnClaim.lean ====
/- The claims of the feed-forward block: the reference's frame and the kernel's equality with it. -/
module

public import proofs.«01_k».proof.Defs
public import proofs.«01_k».proof.Proof.FfnMix
public import proofs.«01_k».proof.Proof.Gen.FfnRefIdeal.Run
public import Idealize.ShloMosaic.Lib.Quiescent

@[expose] public section

set_option maxRecDepth 16384

noncomputable section

namespace Cert.Proof.Ffn

open Idealize.ShloMosaic Idealize.ShloMosaic.TcCoe Idealize.SL.Sem

/-- The reference's run ends with its arguments as they were and every semaphore counter at zero. -/
theorem frame_ref : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)

/-- At the ideal instance the kernel's results are the reference's, of the same arguments. -/
theorem algebraic : Cert.algebraic_FfnIdeal_FfnRefIdeal := by
  intro m ρ m' ρ' _ hag
  refine ⟨fun c => Cert.FfnIdeal.Value.G4 (F := Ideal) m c, Cert.FfnIdeal.Value.run (F := Ideal) m ρ, ?_⟩
  refine (θ_run Cert.FfnRefIdeal.defs _ _).mono (fun r h c => ?_) (Cert.FfnRefIdeal.Value.run (F := Ideal) m' ρ')
  obtain ⟨e0, e1, e2, e3⟩ := hag c
  refine ⟨(h c).1.trans ?_, (h c).2⟩
  · refine (Cert.FfnRefIdeal.Read.val_main_v9_eq _ _ _ _).trans ?_
    rw [e0, e1, e2, e3]
    funext i
    rw [eq_ix2 i]
    exact (Ffn.ref_apply _ _ _ _ (i 0) (i 1)).trans (Ffn.G_apply m c (i 0) (i 1)).symm

end Cert.Proof.Ffn

end
-- ==== Proof.GatesMix.lean ====
/- The merge gates: what the kernel leaves in its result, and that the reference computes the same. Both are, at row
   `r` and column `j`,
     σ(∑ d, x[r,d]·w[0,d,7168+j])
   the kernel's from one row block of 512 and six column blocks of the weights per grid point, each giving 1024
   columns of the result, the reference's as a slice of the whole projection. -/
module

public import proofs.«01_k».proof.Proof.Gen.GatesIdeal.Value
public import proofs.«01_k».proof.Proof.Gen.GatesRefIdeal.Read
public import Idealize.ShloMosaic.Lib.Pointwise
public import Idealize.ShloMosaic.Lib.StableHlo.ReadAt
public import Idealize.ShloMosaic.Lib.Pipeline.ValueKit.Tiles

@[expose] public section

set_option maxRecDepth 16384

noncomputable section

namespace Cert.Proof.Gates

open Idealize.ShloMosaic Idealize.ShloMosaic.TcCoe Idealize.SL.Sem
open Cert.GatesIdeal Cert.GatesIdeal.Gen

/-- The gate at row `r`, column `j`. -/
def gate (x : S8704x2048.Idx → EReal) (w : S4x2048x13312.Idx → EReal) (r : Fin 8704) (j : Fin 6144) : EReal :=
  Ideal.logistic (∑ d : Fin 2048, x (ix2 r d) * w (ix3 0 d ⟨7168 + j.val, by omega⟩))

/-- The gates of one column block at an index. -/
theorem pay1_apply (v0 : Vec Ideal S512x2048 .bf16) (v1 : Vec Ideal S1x2048x1024 .bf16) (r : Fin 512) (n : Fin 1024) :
    k0_pay1 (F := Ideal) v0 v1 (ix2 r n) = Ideal.logistic (∑ d : Fin 2048, v0 (ix2 r d) * v1 (ix3 0 d n)) := by
  pointwise [k0_pay1]

/-- The gates of one column block at an index. -/
theorem pay2_apply (v0 : Vec Ideal S512x2048 .bf16) (v1 : Vec Ideal S1x2048x1024 .bf16) (r : Fin 512) (n : Fin 1024) :
    k0_pay2 (F := Ideal) v0 v1 (ix2 r n) = Ideal.logistic (∑ d : Fin 2048, v0 (ix2 r d) * v1 (ix3 0 d n)) := by
  pointwise [k0_pay2]

/-- The gates of one column block at an index. -/
theorem pay3_apply (v0 : Vec Ideal S512x2048 .bf16) (v1 : Vec Ideal S1x2048x1024 .bf16) (r : Fin 512) (n : Fin 1024) :
    k0_pay3 (F := Ideal) v0 v1 (ix2 r n) = Ideal.logistic (∑ d : Fin 2048, v0 (ix2 r d) * v1 (ix3 0 d n)) := by
  pointwise [k0_pay3]

/-- The gates of one column block at an index. -/
theorem pay4_apply (v0 : Vec Ideal S512x2048 .bf16) (v1 : Vec Ideal S1x2048x1024 .bf16) (r : Fin 512) (n : Fin 1024) :
    k0_pay4 (F := Ideal) v0 v1 (ix2 r n) = Ideal.logistic (∑ d : Fin 2048, v0 (ix2 r d) * v1 (ix3 0 d n)) := by
  pointwise [k0_pay4]

/-- The gates of one column block at an index. -/
theorem pay5_apply (v0 : Vec Ideal S512x2048 .bf16) (v1 : Vec Ideal S1x2048x1024 .bf16) (r : Fin 512) (n : Fin 1024) :
    k0_pay5 (F := Ideal) v0 v1 (ix2 r n) = Ideal.logistic (∑ d : Fin 2048, v0 (ix2 r d) * v1 (ix3 0 d n)) := by
  pointwise [k0_pay5]

/-- The gates of one column block at an index. -/
theorem pay6_apply (v0 : Vec Ideal S512x2048 .bf16) (v1 : Vec Ideal S1x2048x1024 .bf16) (r : Fin 512) (n : Fin 1024) :
    k0_pay6 (F := Ideal) v0 v1 (ix2 r n) = Ideal.logistic (∑ d : Fin 2048, v0 (ix2 r d) * v1 (ix3 0 d n)) := by
  pointwise [k0_pay6]

theorem hz2 : (![0, 0] : Fin 2 → Nat) = fun _ => 0 := funext fun a => by fin_cases a <;> rfl
theorem hz3 : (![0, 0, 0] : Fin 3 → Nat) = fun _ => 0 := funext fun a => by fin_cases a <;> rfl

/-- A column block's gates, stored from column `off` on, have at every place of the result the gate of that place. -/
theorem tile (off : ℕ) (p : Vec Ideal S512x1024 .bf16) (v0 : Vec Ideal S512x2048 .bf16) (v1 : Vec Ideal S1x2048x1024 .bf16)
    (hp : ∀ r n, p (ix2 r n) = Ideal.logistic (∑ d : Fin 2048, v0 (ix2 r d) * v1 (ix3 0 d n)))
    (W : Fin 2048 → Fin 6144 → EReal)
    (hW : ∀ d (f : Fin 1024) (f' : Fin 6144), f'.val = off + f.val → v1 (ix3 0 d f) = W d f') (r : Fin 512) (j : Fin 6144) :
    View.TileAt (S := S512x6144) (Val := Elt Ideal) (e := .bf16) (ix2 r j) ![0, off] S512x1024.size p
      (Ideal.logistic (∑ d : Fin 2048, v0 (ix2 r d) * W d j)) := by
  intro x hx
  have h0 : r.val = 0 + (x 0).val := hx 0
  have h1 : j.val = off + (x 1).val := hx 1
  have hr : (x 0 : Fin 512) = r := Fin.ext (by omega)
  have e : x = ix2 (x 0) (x 1) := eq_ix2 x
  rw [e]
  refine (hp (x 0) (x 1)).trans ?_
  rw [hr]
  exact congrArg Ideal.logistic (Finset.sum_congr rfl fun d _ => by rw [hW d (x 1) j h1])

/-- The output block of one grid point, from a row block and the six column blocks of `W`. -/
theorem out_block (x0 : Vec Ideal S512x2048 .bf16) (x1 x2 x3 x4 x5 x6 : Vec Ideal S1x2048x1024 .bf16) (W : Fin 2048 → Fin 6144 → EReal)
    (h1 : ∀ d (f : Fin 1024) (f' : Fin 6144), f'.val = 0 + f.val → x1 (ix3 0 d f) = W d f')
    (h2 : ∀ d (f : Fin 1024) (f' : Fin 6144), f'.val = 1024 + f.val → x2 (ix3 0 d f) = W d f')
    (h3 : ∀ d (f : Fin 1024) (f' : Fin 6144), f'.val = 2048 + f.val → x3 (ix3 0 d f) = W d f')
    (h4 : ∀ d (f : Fin 1024) (f' : Fin 6144), f'.val = 3072 + f.val → x4 (ix3 0 d f) = W d f')
    (h5 : ∀ d (f : Fin 1024) (f' : Fin 6144), f'.val = 4096 + f.val → x5 (ix3 0 d f) = W d f')
    (h6 : ∀ d (f : Fin 1024) (f' : Fin 6144), f'.val = 5120 + f.val → x6 (ix3 0 d f) = W d f')
    (r : Fin 512) (j : Fin 6144) :
    out0_7 (F := Ideal) x0 x1 x2 x3 x4 x5 x6 (ix2 r j) = Ideal.logistic (∑ d : Fin 2048, x0 (ix2 r d) * W d j) := by
  unfold out0_7
  simp only [View.ld_unit_zero (S := S512x2048) hz2, View.ld_unit_zero (S := S1x2048x1024) hz3]
  refine View.canon_eq_of_allAt _ _ _ (cover0_7 _ _ _ _ _ _ _) ?_
  refine View.allAt_cons_unit _ _ _ _ _ (tile 5120 _ x0 x6 (pay2_apply x0 x6) W h6 r j) ?_
  refine View.allAt_cons_unit _ _ _ _ _ (tile 4096 _ x0 x5 (pay1_apply x0 x5) W h5 r j) ?_
  refine View.allAt_cons_unit _ _ _ _ _ (tile 3072 _ x0 x4 (pay6_apply x0 x4) W h4 r j) ?_
  refine View.allAt_cons_unit _ _ _ _ _ (tile 2048 _ x0 x3 (pay5_apply x0 x3) W h3 r j) ?_
  refine View.allAt_cons_unit _ _ _ _ _ (tile 1024 _ x0 x2 (pay4_apply x0 x2) W h2 r j) ?_
  refine View.allAt_cons_unit _ _ _ _ _ (tile 0 _ x0 x1 (pay3_apply x0 x1) W h1 r j) ?_
  exact View.allAt_nil _ _

variable (m : (ℓ : Loc nD τ sig) → Buf (Elt Ideal) ℓ)

/-- The printed index maps over the grid: row block `t`, weight column blocks 7 to 12. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0 ∧ (cfg0.win 7).flush t = true :=
  (by decide +kernel : ∀ t : Fin grid0.N, _)

/-- The row block of the activations at point `t`. -/
theorem blk0 (c : Dev nD) (t : Fin cfg0.N) (r : Fin 512) (d : Fin 2048) (R : Fin 8704) (hR : R.val = 512 * t.val + r.val) :
    iblk m c 0 t (ix2 r d) = m ((c : Thread nD τ).loc main_arg0) (ix2 R d) := by
  rw [← V_main_arg0 m c]
  show V m c main_arg0 (((cfg0.win 0).blk t).view.emb (ix2 r d)) = _
  obtain ⟨e0, e1, -⟩ := idx_facts t
  refine congrArg (V m c main_arg0) (funext fun a => Fin.ext ?_)
  match a with
  | ⟨0, _⟩ => show win0_0.index t (0 : Fin 2) * 512 + 1 * r.val = R.val; omega
  | ⟨1, _⟩ => show win0_0.index t (1 : Fin 2) * 2048 + 1 * d.val = d.val; omega

/-- The weights as the launch finds them: the argument, its format change the identity. -/
theorem V_w (c : Dev nD) (i : S4x2048x13312.Idx) : V m c main_v0 i = m ((c : Thread nD τ).loc main_arg1) i := by
  unfold V hostOps0
  after_reads_at

/-- Column block 7 of the weights. -/
theorem blk1 (c : Dev nD) (t : Fin cfg0.N) (d : Fin 2048) (f : Fin 1024) (f' : Fin 13312) (hf : f'.val = 7168 + f.val) :
    iblk m c 1 t (ix3 0 d f) = m ((c : Thread nD τ).loc main_arg1) (ix3 0 d f') := by
  rw [← V_w m c]
  show V m c main_v0 (((cfg0.win 1).blk t).view.emb (ix3 0 d f)) = _
  have e : ∀ t : Fin cfg0.N, win0_1.index t (0 : Fin 3) = 0 ∧ win0_1.index t (1 : Fin 3) = 0 ∧ win0_1.index t (2 : Fin 3) = 7 :=
    (by decide +kernel : ∀ t : Fin grid0.N, _)
  obtain ⟨e0, e1, e2⟩ := e t
  refine congrArg (V m c main_v0) (funext fun a => Fin.ext ?_)
  match a with
  | ⟨0, _⟩ => show win0_1.index t (0 : Fin 3) * 1 + 1 * 0 = 0; omega
  | ⟨1, _⟩ => show win0_1.index t (1 : Fin 3) * 2048 + 1 * d.val = d.val; omega
  | ⟨2, _⟩ => show win0_1.index t (2 : Fin 3) * 1024 + 1 * f.val = f'.val; omega

/-- Column block 8 of the weights. -/
theorem blk2 (c : Dev nD) (t : Fin cfg0.N) (d : Fin 2048) (f : Fin 1024) (f' : Fin 13312) (hf : f'.val = 8192 + f.val) :
    iblk m c 2 t (ix3 0 d f) = m ((c : Thread nD τ).loc main_arg1) (ix3 0 d f') := by
  rw [← V_w m c]
  show V m c main_v0 (((cfg0.win 2).blk t).view.emb (ix3 0 d f)) = _
  have e : ∀ t : Fin cfg0.N, win0_2.index t (0 : Fin 3) = 0 ∧ win0_2.index t (1 : Fin 3) = 0 ∧ win0_2.index t (2 : Fin 3) = 8 :=
    (by decide +kernel : ∀ t : Fin grid0.N, _)
  obtain ⟨e0, e1, e2⟩ := e t
  refine congrArg (V m c main_v0) (funext fun a => Fin.ext ?_)
  match a with
  | ⟨0, _⟩ => show win0_2.index t (0 : Fin 3) * 1 + 1 * 0 = 0; omega
  | ⟨1, _⟩ => show win0_2.index t (1 : Fin 3) * 2048 + 1 * d.val = d.val; omega
  | ⟨2, _⟩ => show win0_2.index t (2 : Fin 3) * 1024 + 1 * f.val = f'.val; omega

/-- Column block 9 of the weights. -/
theorem blk3 (c : Dev nD) (t : Fin cfg0.N) (d : Fin 2048) (f : Fin 1024) (f' : Fin 13312) (hf : f'.val = 9216 + f.val) :
    iblk m c 3 t (ix3 0 d f) = m ((c : Thread nD τ).loc main_arg1) (ix3 0 d f') := by
  rw [← V_w m c]
  show V m c main_v0 (((cfg0.win 3).blk t).view.emb (ix3 0 d f)) = _
  have e : ∀ t : Fin cfg0.N, win0_3.index t (0 : Fin 3) = 0 ∧ win0_3.index t (1 : Fin 3) = 0 ∧ win0_3.index t (2 : Fin 3) = 9 :=
    (by decide +kernel : ∀ t : Fin grid0.N, _)
  obtain ⟨e0, e1, e2⟩ := e t
  refine congrArg (V m c main_v0) (funext fun a => Fin.ext ?_)
  match a with
  | ⟨0, _⟩ => show win0_3.index t (0 : Fin 3) * 1 + 1 * 0 = 0; omega
  | ⟨1, _⟩ => show win0_3.index t (1 : Fin 3) * 2048 + 1 * d.val = d.val; omega
  | ⟨2, _⟩ => show win0_3.index t (2 : Fin 3) * 1024 + 1 * f.val = f'.val; omega

/-- Column block 10 of the weights. -/
theorem blk4 (c : Dev nD) (t : Fin cfg0.N) (d : Fin 2048) (f : Fin 1024) (f' : Fin 13312) (hf : f'.val = 10240 + f.val) :
    iblk m c 4 t (ix3 0 d f) = m ((c : Thread nD τ).loc main_arg1) (ix3 0 d f') := by
  rw [← V_w m c]
  show V m c main_v0 (((cfg0.win 4).blk t).view.emb (ix3 0 d f)) = _
  have e : ∀ t : Fin cfg0.N, win0_4.index t (0 : Fin 3) = 0 ∧ win0_4.index t (1 : Fin 3) = 0 ∧ win0_4.index t (2 : Fin 3) = 10 :=
    (by decide +kernel : ∀ t : Fin grid0.N, _)
  obtain ⟨e0, e1, e2⟩ := e t
  refine congrArg (V m c main_v0) (funext fun a => Fin.ext ?_)
  match a with
  | ⟨0, _⟩ => show win0_4.index t (0 : Fin 3) * 1 + 1 * 0 = 0; omega
  | ⟨1, _⟩ => show win0_4.index t (1 : Fin 3) * 2048 + 1 * d.val = d.val; omega
  | ⟨2, _⟩ => show win0_4.index t (2 : Fin 3) * 1024 + 1 * f.val = f'.val; omega

/-- Column block 11 of the weights. -/
theorem blk5 (c : Dev nD) (t : Fin cfg0.N) (d : Fin 2048) (f : Fin 1024) (f' : Fin 13312) (hf : f'.val = 11264 + f.val) :
    iblk m c 5 t (ix3 0 d f) = m ((c : Thread nD τ).loc main_arg1) (ix3 0 d f') := by
  rw [← V_w m c]
  show V m c main_v0 (((cfg0.win 5).blk t).view.emb (ix3 0 d f)) = _
  have e : ∀ t : Fin cfg0.N, win0_5.index t (0 : Fin 3) = 0 ∧ win0_5.index t (1 : Fin 3) = 0 ∧ win0_5.index t (2 : Fin 3) = 11 :=
    (by decide +kernel : ∀ t : Fin grid0.N, _)
  obtain ⟨e0, e1, e2⟩ := e t
  refine congrArg (V m c main_v0) (funext fun a => Fin.ext ?_)
  match a with
  | ⟨0, _⟩ => show win0_5.index t (0 : Fin 3) * 1 + 1 * 0 = 0; omega
  | ⟨1, _⟩ => show win0_5.index t (1 : Fin 3) * 2048 + 1 * d.val = d.val; omega
  | ⟨2, _⟩ => show win0_5.index t (2 : Fin 3) * 1024 + 1 * f.val = f'.val; omega

/-- Column block 12 of the weights. -/
theorem blk6 (c : Dev nD) (t : Fin cfg0.N) (d : Fin 2048) (f : Fin 1024) (f' : Fin 13312) (hf : f'.val = 12288 + f.val) :
    iblk m c 6 t (ix3 0 d f) = m ((c : Thread nD τ).loc main_arg1) (ix3 0 d f') := by
  rw [← V_w m c]
  show V m c main_v0 (((cfg0.win 6).blk t).view.emb (ix3 0 d f)) = _
  have e : ∀ t : Fin cfg0.N, win0_6.index t (0 : Fin 3) = 0 ∧ win0_6.index t (1 : Fin 3) = 0 ∧ win0_6.index t (2 : Fin 3) = 12 :=
    (by decide +kernel : ∀ t : Fin grid0.N, _)
  obtain ⟨e0, e1, e2⟩ := e t
  refine congrArg (V m c main_v0) (funext fun a => Fin.ext ?_)
  match a with
  | ⟨0, _⟩ => show win0_6.index t (0 : Fin 3) * 1 + 1 * 0 = 0; omega
  | ⟨1, _⟩ => show win0_6.index t (1 : Fin 3) * 2048 + 1 * d.val = d.val; omega
  | ⟨2, _⟩ => show win0_6.index t (2 : Fin 3) * 1024 + 1 * f.val = f'.val; omega

/-- The weights the gates read. -/
def wt (c : Dev nD) (d : Fin 2048) (j : Fin 6144) : EReal :=
  m ((c : Thread nD τ).loc main_arg1) (ix3 0 d ⟨7168 + j.val, by omega⟩)

/-- THE KERNEL'S RESULT: the array after the run at row `R`, column `n`. -/
theorem out_apply (c : Dev nD) (R : Fin 8704) (n : Fin 6144) :
    (dats m 0 c).arrAt 7 cfg0.N (ix2 R n)
      = gate (m ((c : Thread nD τ).loc main_arg0)) (m ((c : Thread nD τ).loc main_arg1)) R n := by
  have hN : cfg0.N = 17 := N_0
  have hR := R.isLt
  have ht : R.val / 512 < cfg0.N := by rw [hN]; omega
  obtain ⟨-, -, e0, e1, hf⟩ := idx_facts ⟨R.val / 512, ht⟩
  have key := congrFun (Value.blocks7 m c ⟨R.val / 512, ht⟩ hf) (ix2 (⟨R.val % 512, Nat.mod_lt _ (by decide)⟩ : Fin 512) n)
  rw [Value.flushed7] at key
  have hemb : ((cfg0.win 7).blk ⟨R.val / 512, ht⟩).view.emb (ix2 (⟨R.val % 512, Nat.mod_lt _ (by decide)⟩ : Fin 512) n) = ix2 R n := by
    funext a; apply Fin.ext
    match a with
    | ⟨0, _⟩ => show win0_7.index ⟨R.val / 512, ht⟩ (0 : Fin 2) * 512 + 1 * (R.val % 512) = R.val; rw [e0]; show R.val / 512 * 512 + _ = _; omega
    | ⟨1, _⟩ => show win0_7.index ⟨R.val / 512, ht⟩ (1 : Fin 2) * 6144 + 1 * n.val = n.val; omega
  refine (congrArg ((dats m 0 c).arrAt 7 cfg0.N) hemb.symm).trans (key.trans ?_)
  refine (out_block _ _ _ _ _ _ _ (wt m c)
    (fun d f f' h => blk1 m c _ d f ⟨7168 + f'.val, by omega⟩ (by show 7168 + f'.val = _; omega))
    (fun d f f' h => blk2 m c _ d f ⟨7168 + f'.val, by omega⟩ (by show 7168 + f'.val = _; omega))
    (fun d f f' h => blk3 m c _ d f ⟨7168 + f'.val, by omega⟩ (by show 7168 + f'.val = _; omega))
    (fun d f f' h => blk4 m c _ d f ⟨7168 + f'.val, by omega⟩ (by show 7168 + f'.val = _; omega))
    (fun d f f' h => blk5 m c _ d f ⟨7168 + f'.val, by omega⟩ (by show 7168 + f'.val = _; omega))
    (fun d f f' h => blk6 m c _ d f ⟨7168 + f'.val, by omega⟩ (by show 7168 + f'.val = _; omega))
    (⟨R.val % 512, Nat.mod_lt _ (by decide)⟩ : Fin 512) n).trans ?_
  unfold gate wt
  refine congrArg Ideal.logistic (Finset.sum_congr rfl fun d _ => ?_)
  rw [blk0 m c _ _ d R (by show R.val = 512 * (R.val / 512) + R.val % 512; omega)]

open Cert.GatesRefIdeal.Read in
/-- THE REFERENCE'S RESULT at row `R`, column `n`. -/
theorem ref_apply (x : S8704x2048.Idx → EReal) (w : S4x2048x13312.Idx → EReal) (R : Fin 8704) (n : Fin 6144) :
    val_main_v16 (F := Ideal) x w (ix2 R n) = gate x w R n := by
  unfold gate
  pointwise [val_main_v16, val_main_v15, val_main_v14, val_main_v13, val_main_v12, val_main_v11, val_main_v10,
    val_main_v9, val_main_v3, val_main_v2, val_main_v1, val_main_v0, val_main_cst, val_main_cst_0]
  rfl

end Cert.Proof.Gates

end
-- ==== Proof.GatesClaim.lean ====
/- The claims of the branch gates: the reference's frame and the kernel's equality with it. -/
module

public import proofs.«01_k».proof.Defs
public import proofs.«01_k».proof.Proof.GatesMix
public import proofs.«01_k».proof.Proof.Gen.GatesRefIdeal.Run
public import Idealize.ShloMosaic.Lib.Quiescent

@[expose] public section

set_option maxRecDepth 16384

noncomputable section

namespace Cert.Proof.Gates

open Idealize.ShloMosaic Idealize.ShloMosaic.TcCoe Idealize.SL.Sem

/-- The reference's run ends with its arguments as they were and every semaphore counter at zero. -/
theorem frame_ref : Cert.quiescent_GatesRefIdeal := fun m ρ _ =>
  (θ_run Cert.GatesRefIdeal.defs _ _).mono (fun r h => ⟨fun c => (h c).2, Idealize.ShloMosaic.sem_eq_zero_of_no_sems (by decide) r.2⟩)
    (Cert.GatesRefIdeal.Value.run (F := Ideal) m ρ)

/-- At the ideal instance the kernel's results are the reference's, of the same arguments. -/
theorem algebraic : Cert.algebraic_GatesIdeal_GatesRefIdeal := by
  intro m ρ m' ρ' _ hag
  refine ⟨fun c => (Cert.GatesIdeal.Gen.dats m 0 c).arrAt 7 Cert.GatesIdeal.cfg0.N, Cert.GatesIdeal.Value.run_blocks (F := Ideal) m ρ, ?_⟩
  refine (θ_run Cert.GatesRefIdeal.defs _ _).mono (fun r h c => ?_) (Cert.GatesRefIdeal.Value.run (F := Ideal) m' ρ')
  obtain ⟨e0, e1⟩ := hag c
  refine ⟨(h c).1.trans ?_, (h c).2⟩
  · refine (Cert.GatesRefIdeal.Read.val_main_v16_eq _ _).trans ?_
    rw [e0, e1]
    funext i
    rw [eq_ix2 i]
    exact (Gates.ref_apply _ _ (i 0) (i 1)).trans (Gates.out_apply m c (i 0) (i 1)).symm

end Cert.Proof.Gates

end
-- ==== Proof.GluMix.lean ====
/- The gated linear unit that opens the convolution branch: what the kernel leaves in its result, and that the
   reference computes the same. Both are, at row `r` and column `n`,
     (∑ d, x[r,d]·w[0,d,n]) · σ(∑ d, x[r,d]·w[0,d,1024+n])
   the kernel's from one row block of 512 and two column blocks of the weights per grid point, the reference's as
   two slices of the whole projection. -/
module

public import proofs.«01_k».proof.Proof.Gen.GluIdeal.Value
public import proofs.«01_k».proof.Proof.Gen.GluRefIdeal.Read
public import Idealize.ShloMosaic.Lib.Pointwise
public import Idealize.ShloMosaic.Lib.StableHlo.ReadAt

@[expose] public section

set_option maxRecDepth 16384

noncomputable section

namespace Cert.Proof.Glu

open Idealize.ShloMosaic Idealize.ShloMosaic.TcCoe Idealize.SL.Sem
open Cert.GluIdeal Cert.GluIdeal.Gen

/-- Column `n` of the projection of row `r`. -/
def proj (x : S8704x2048.Idx → EReal) (w : S4x2048x13312.Idx → EReal) (r : Fin 8704) (n : Fin 13312) : EReal :=
  ∑ d : Fin 2048, x (ix2 r d) * w (ix3 0 d n)

/-- The unit's result at row `r`, column `n`. -/
def glu (x : S8704x2048.Idx → EReal) (w : S4x2048x13312.Idx → EReal) (r : Fin 8704) (n : Fin 1024) : EReal :=
  proj x w r ⟨n.val, by omega⟩ * Ideal.logistic (proj x w r ⟨1024 + n.val, by omega⟩)

/-- One grid point's body at an index. -/
theorem pay_apply (v0 : Vec Ideal S512x2048 .bf16) (v1 v4 : Vec Ideal S1x2048x1024 .bf16) (r : Fin 512) (n : Fin 1024) :
    k0_pay1 (F := Ideal) v0 v1 v4 (ix2 r n) = (∑ d : Fin 2048, v0 (ix2 r d) * v1 (ix3 0 d n))
      * Ideal.logistic (∑ d : Fin 2048, v0 (ix2 r d) * v4 (ix3 0 d n)) := by
  pointwise [k0_pay1]

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output block is its one store's payload over the whole input blocks. -/
theorem out_eq (x0 : Vec Ideal S512x2048 .bf16) (x1 x2 : Vec Ideal S1x2048x1024 .bf16) :
    out0_3 (F := Ideal) x0 x1 x2 = k0_pay1 (F := Ideal) x0 x1 x2 := by
  unfold out0_3
  rw [View.canon_unit_zero hz2, View.ld_unit_zero hz2, View.ld_unit_zero hz3, View.ld_unit_zero hz3]

variable (m : (ℓ : Loc nD τ sig) → Buf (Elt Ideal) ℓ)

/-- The printed index maps over the grid: row block `t`, weight columns 0 and 1. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 1
    ∧ win0_3.index t (0 : Fin 2) = t.val ∧ win0_3.index t (1 : Fin 2) = 0 ∧ (cfg0.win 3).flush t = true :=
  (by decide +kernel : ∀ t : Fin grid0.N, _)

/-- The row block of the activations at point `t`. -/
theorem blk0 (c : Dev nD) (t : Fin cfg0.N) (r : Fin 512) (d : Fin 2048) (R : Fin 8704) (hR : R.val = 512 * t.val + r.val) :
    iblk m c 0 t (ix2 r d) = m ((c : Thread nD τ).loc main_arg0) (ix2 R d) := by
  rw [← V_main_arg0 m c]
  show V m c main_arg0 (((cfg0.win 0).blk t).view.emb (ix2 r d)) = _
  obtain ⟨e0, e1, -⟩ := idx_facts t
  refine congrArg (V m c main_arg0) (funext fun a => Fin.ext ?_)
  match a with
  | ⟨0, _⟩ => show win0_0.index t (0 : Fin 2) * 512 + 1 * r.val = R.val; omega
  | ⟨1, _⟩ => show win0_0.index t (1 : Fin 2) * 2048 + 1 * d.val = d.val; omega

/-- The weights as the launch finds them: the argument, its format change the identity. -/
theorem V_w (c : Dev nD) (i : S4x2048x13312.Idx) : V m c main_v0 i = m ((c : Thread nD τ).loc main_arg1) i := by
  unfold V hostOps0
  after_reads_at

/-- The first 1024 columns of the weights. -/
theorem blk1 (c : Dev nD) (t : Fin cfg0.N) (d : Fin 2048) (f : Fin 1024) (f' : Fin 13312) (hf : f'.val = f.val) :
    iblk m c 1 t (ix3 0 d f) = m ((c : Thread nD τ).loc main_arg1) (ix3 0 d f') := by
  rw [← V_w m c]
  show V m c main_v0 (((cfg0.win 1).blk t).view.emb (ix3 0 d f)) = _
  obtain ⟨-, -, e0, e1, e2, -⟩ := idx_facts t
  refine congrArg (V m c main_v0) (funext fun a => Fin.ext ?_)
  match a with
  | ⟨0, _⟩ => show win0_1.index t (0 : Fin 3) * 1 + 1 * 0 = 0; omega
  | ⟨1, _⟩ => show win0_1.index t (1 : Fin 3) * 2048 + 1 * d.val = d.val; omega
  | ⟨2, _⟩ => show win0_1.index t (2 : Fin 3) * 1024 + 1 * f.val = f'.val; omega

/-- The next 1024 columns of the weights. -/
theorem blk2 (c : Dev nD) (t : Fin cfg0.N) (d : Fin 2048) (f : Fin 1024) (f' : Fin 13312) (hf : f'.val = 1024 + f.val) :
    iblk m c 2 t (ix3 0 d f) = m ((c : Thread nD τ).loc main_arg1) (ix3 0 d f') := by
  rw [← V_w m c]
  show V m c main_v0 (((cfg0.win 2).blk t).view.emb (ix3 0 d f)) = _
  obtain ⟨-, -, -, -, -, e0, e1, e2, -⟩ := idx_facts t
  refine congrArg (V m c main_v0) (funext fun a => Fin.ext ?_)
  match a with
  | ⟨0, _⟩ => show win0_2.index t (0 : Fin 3) * 1 + 1 * 0 = 0; omega
  | ⟨1, _⟩ => show win0_2.index t (1 : Fin 3) * 2048 + 1 * d.val = d.val; omega
  | ⟨2, _⟩ => show win0_2.index t (2 : Fin 3) * 1024 + 1 * f.val = f'.val; omega

/-- THE KERNEL'S RESULT: the array after the run at row `R`, column `n`. -/
theorem out_apply (c : Dev nD) (R : Fin 8704) (n : Fin 1024) :
    (dats m 0 c).arrAt 3 cfg0.N (ix2 R n)
      = glu (m ((c : Thread nD τ).loc main_arg0)) (m ((c : Thread nD τ).loc main_arg1)) R n := by
  have hN : cfg0.N = 17 := N_0
  have hR := R.isLt
  have ht : R.val / 512 < cfg0.N := by rw [hN]; omega
  obtain ⟨-, -, -, -, -, -, -, -, e0, e1, hf⟩ := idx_facts ⟨R.val / 512, ht⟩
  have key := congrFun (Value.blocks3 m c ⟨R.val / 512, ht⟩ hf) (ix2 (⟨R.val % 512, Nat.mod_lt _ (by decide)⟩ : Fin 512) n)
  rw [Value.flushed3, out_eq] at key
  have hemb : ((cfg0.win 3).blk ⟨R.val / 512, ht⟩).view.emb (ix2 (⟨R.val % 512, Nat.mod_lt _ (by decide)⟩ : Fin 512) n) = ix2 R n := by
    funext a; apply Fin.ext
    match a with
    | ⟨0, _⟩ => show win0_3.index ⟨R.val / 512, ht⟩ (0 : Fin 2) * 512 + 1 * (R.val % 512) = R.val; rw [e0]; show R.val / 512 * 512 + _ = _; omega
    | ⟨1, _⟩ => show win0_3.index ⟨R.val / 512, ht⟩ (1 : Fin 2) * 1024 + 1 * n.val = n.val; omega
  refine (congrArg ((dats m 0 c).arrAt 3 cfg0.N) hemb.symm).trans (key.trans ?_)
  refine (pay_apply _ _ _ (⟨R.val % 512, Nat.mod_lt _ (by decide)⟩ : Fin 512) n).trans ?_
  unfold glu proj
  refine congrArg₂ (fun a b : EReal => a * Ideal.logistic b) ?_ ?_
  · refine Finset.sum_congr rfl fun d _ => ?_
    rw [blk0 m c _ _ d R (by show R.val = 512 * (R.val / 512) + R.val % 512; omega), blk1 m c _ d n ⟨n.val, by omega⟩ rfl]
  · refine Finset.sum_congr rfl fun d _ => ?_
    rw [blk0 m c _ _ d R (by show R.val = 512 * (R.val / 512) + R.val % 512; omega), blk2 m c _ d n ⟨1024 + n.val, by omega⟩ rfl]

open Cert.GluRefIdeal.Read in
/-- THE REFERENCE'S RESULT at row `R`, column `n`. -/
theorem ref_apply (x : S8704x2048.Idx → EReal) (w : S4x2048x13312.Idx → EReal) (R : Fin 8704) (n : Fin 1024) :
    val_main_v18 (F := Ideal) x w (ix2 R n) = glu x w R n := by
  unfold glu proj
  pointwise [val_main_v18, val_main_v17, val_main_v16, val_main_v15, val_main_v14, val_main_v13, val_main_v12,
    val_main_v11, val_main_v10, val_main_v4, val_main_v3, val_main_v2, val_main_v1, val_main_v0, val_main_cst, val_main_cst_0]
  rfl

end Cert.Proof.Glu

end
-- ==== Proof.GluClaim.lean ====
/- The claims of the gated linear unit: the reference's frame and the kernel's equality with it. -/
module

public import proofs.«01_k».proof.Defs
public import proofs.«01_k».proof.Proof.GluMix
public import proofs.«01_k».proof.Proof.Gen.GluRefIdeal.Run
public import Idealize.ShloMosaic.Lib.Quiescent

@[expose] public section

set_option maxRecDepth 16384

noncomputable section

namespace Cert.Proof.Glu

open Idealize.ShloMosaic Idealize.ShloMosaic.TcCoe Idealize.SL.Sem

/-- The reference's run ends with its arguments as they were and every semaphore counter at zero. -/
theorem frame_ref : Cert.quiescent_GluRefIdeal := fun m ρ _ =>
  (θ_run Cert.GluRefIdeal.defs _ _).mono (fun r h => ⟨fun c => (h c).2, Idealize.ShloMosaic.sem_eq_zero_of_no_sems (by decide) r.2⟩)
    (Cert.GluRefIdeal.Value.run (F := Ideal) m ρ)

/-- At the ideal instance the kernel's results are the reference's, of the same arguments. -/
theorem algebraic : Cert.algebraic_GluIdeal_GluRefIdeal := by
  intro m ρ m' ρ' _ hag
  refine ⟨fun c => (Cert.GluIdeal.Gen.dats m 0 c).arrAt 3 Cert.GluIdeal.cfg0.N, Cert.GluIdeal.Value.run_blocks (F := Ideal) m ρ, ?_⟩
  refine (θ_run Cert.GluRefIdeal.defs _ _).mono (fun r h c => ?_) (Cert.GluRefIdeal.Value.run (F := Ideal) m' ρ')
  obtain ⟨e0, e1⟩ := hag c
  refine ⟨(h c).1.trans ?_, (h c).2⟩
  · refine (Cert.GluRefIdeal.Read.val_main_v18_eq _ _).trans ?_
    rw [e0, e1]
    funext i
    rw [eq_ix2 i]
    exact (Glu.ref_apply _ _ (i 0) (i 1)).trans (Glu.out_apply m c (i 0) (i 1)).symm

end Cert.Proof.Glu

end
-- ==== Proof.MergeMix.lean ====
/- The merge of the three branches, the residual and the norm that follows: what the kernel leaves in its two results,
   and that the reference computes the same. At row `r` and column `n` the first result is
     y[r,n] = h[r,n] + ∑ d, (∑ over the branches x = a, b, c of γₓ[r,d] · ∑ k, x[r,k]·wₓ[0,k,d]) · w_o[0,d,n]
   with the gates γₓ three slices of one array, and the second its root-mean-square norm. -/
module

public import proofs.«01_k».proof.Proof.Gen.MergeIdeal.Value
public import proofs.«01_k».proof.Proof.Gen.MergeRefIdeal.Read
public import Idealize.ShloMosaic.Lib.Pointwise
public import Idealize.ShloMosaic.Lib.StableHlo.ReadAt

@[expose] public section

set_option maxRecDepth 16384

noncomputable section

namespace Cert.Proof.Merge

open Idealize.ShloMosaic Idealize.ShloMosaic.TcCoe Idealize.SL.Sem
open Cert.MergeIdeal Cert.MergeIdeal.Gen

/-- Root-mean-square norm of the row `f` with the weights `g`, at column `n`. -/
def rms (f g : Fin 2048 → EReal) (n : Fin 2048) : EReal :=
  f n * Ideal.rsqrt (Ideal.div (∑ d : Fin 2048, f d * f d) (Ideal.ofBits .f32 0x45000000#32) + Ideal.ofBits .f32 0x358637BD#32) * g n

/-- One row of the first result, from the branches' rows, their gates' and the residual's. -/
def row (a b c : Fin 1024 → EReal) (ga gb gc h : Fin 2048 → EReal) (wa wb wc : Fin 1024 → Fin 2048 → EReal)
    (wo : Fin 2048 → Fin 2048 → EReal) (n : Fin 2048) : EReal :=
  h n + ∑ d : Fin 2048, (ga d * (∑ k : Fin 1024, a k * wa k d) + gb d * (∑ k : Fin 1024, b k * wb k d)
    + gc d * (∑ k : Fin 1024, c k * wc k d)) * wo d n

/-- The first payload at an index. -/
theorem pay2_apply (ga gb gc : Vec Ideal S256x2048 .bf16) (a b c : Vec Ideal S256x1024 .bf16) (wa wb wc : Vec Ideal S1x1024x2048 .bf16)
    (h : Vec Ideal S256x2048 .f32) (wo : Vec Ideal S1x2048x2048 .bf16) (r : Fin 256) (n : Fin 2048) :
    k0_pay2 (F := Ideal) ga a wa gb b wb gc c wc h wo (ix2 r n) =
      row (fun k => a (ix2 r k)) (fun k => b (ix2 r k)) (fun k => c (ix2 r k)) (fun d => ga (ix2 r d)) (fun d => gb (ix2 r d))
        (fun d => gc (ix2 r d)) (fun d => h (ix2 r d)) (fun k d => wa (ix3 0 k d)) (fun k d => wb (ix3 0 k d))
        (fun k d => wc (ix3 0 k d)) (fun k d => wo (ix3 0 k d)) n := by
  unfold row
  pointwise [k0_pay2]

/-- The second payload at an index: the norm of a row. -/
theorem pay1_apply (v28 : Vec Ideal S256x2048 .f32) (v30 : Vec Ideal S1x1x2048 .f32) (r : Fin 256) (n : Fin 2048) :
    k0_pay1 (F := Ideal) v28 v30 (ix2 r n) = rms (fun d => v28 (ix2 r d)) (fun d => v30 (ix3 0 0 d)) n := by
  unfold rms
  pointwise [k0_pay1]

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the two output blocks. -/
theorem out_eq (x0 x1 x2 : Vec Ideal S256x1024 .bf16) (x3 x4 x5 : Vec Ideal S256x2048 .bf16) (x6 : Vec Ideal S256x2048 .f32)
    (x7 x8 x9 : Vec Ideal S1x1024x2048 .bf16) (x10 : Vec Ideal S1x2048x2048 .bf16) (x11 : Vec Ideal S1x1x2048 .f32) :
    out0_12 (F := Ideal) x0 x1 x2 x3 x4 x5 x6 x7 x8 x9 x10 x11 = k0_pay2 (F := Ideal) x3 x0 x7 x4 x1 x8 x5 x2 x9 x6 x10
    ∧ out0_13 (F := Ideal) x0 x1 x2 x3 x4 x5 x6 x7 x8 x9 x10 x11
      = k0_pay1 (F := Ideal) (k0_pay2 (F := Ideal) x3 x0 x7 x4 x1 x8 x5 x2 x9 x6 x10) x11 := by
  unfold out0_12 out0_13 k0_pay3
  rw [View.canon_unit_zero hz2, View.canon_unit_zero hz2]
  simp only [View.ld_unit_zero (S := S256x1024) hz2, View.ld_unit_zero (S := S256x2048) hz2, View.ld_unit_zero (S := S1x1024x2048) hz3,
    View.ld_unit_zero (S := S1x2048x2048) hz3, View.ld_unit_zero (S := S1x1x2048) hz3]
  exact ⟨trivial, trivial⟩

variable (m : (ℓ : Loc nD τ sig) → Buf (Elt Ideal) ℓ)

/-- Weights as the launch finds them: the argument, its format change the identity. -/
theorem V_wa (c : Dev nD) (i : S4x1024x2048.Idx) : V m c main_v0 i = m ((c : Thread nD τ).loc main_arg5) i := by
  unfold V hostOps0
  after_reads_at

/-- Weights as the launch finds them: the argument, its format change the identity. -/
theorem V_wb (c : Dev nD) (i : S4x1024x2048.Idx) : V m c main_v1 i = m ((c : Thread nD τ).loc main_arg6) i := by
  unfold V hostOps0
  after_reads_at

/-- Weights as the launch finds them: the argument, its format change the identity. -/
theorem V_wc (c : Dev nD) (i : S4x1024x2048.Idx) : V m c main_v2 i = m ((c : Thread nD τ).loc main_arg7) i := by
  unfold V hostOps0
  after_reads_at

/-- Weights as the launch finds them: the argument, its format change the identity. -/
theorem V_wo (c : Dev nD) (i : S4x2048x2048.Idx) : V m c main_v3 i = m ((c : Thread nD τ).loc main_arg8) i := by
  unfold V hostOps0
  after_reads_at

/-- The norm's weights as the launch finds them: the argument with a unit axis put in. -/
theorem V_g (c : Dev nD) (a : Fin 4) (n : Fin 2048) : V m c main_v4 (ix3 a 0 n) = m ((c : Thread nD τ).loc main_arg9) (ix2 a n) := by
  unfold V hostOps0
  after_reads_at

/-- A branch's row block at point `t`. -/
theorem blk0 (c : Dev nD) (t : Fin cfg0.N) (r : Fin 256) (d : Fin 1024) (R : Fin 8704) (hR : R.val = 256 * t.val + r.val) :
    iblk m c 0 t (ix2 r d) = m ((c : Thread nD τ).loc main_arg0) (ix2 R d) := by
  rw [← V_main_arg0 m c]
  show V m c main_arg0 (((cfg0.win 0).blk t).view.emb (ix2 r d)) = _
  have e : ∀ t : Fin cfg0.N, win0_0.index t (0 : Fin 2) = t.val ∧ win0_0.index t (1 : Fin 2) = 0 :=
    (by decide +kernel : ∀ t : Fin grid0.N, _)
  obtain ⟨e0, e1⟩ := e t
  refine congrArg (V m c main_arg0) (funext fun a => Fin.ext ?_)
  match a with
  | ⟨0, _⟩ => show win0_0.index t (0 : Fin 2) * 256 + 1 * r.val = R.val; omega
  | ⟨1, _⟩ => show win0_0.index t (1 : Fin 2) * 1024 + 1 * d.val = d.val; omega

/-- A branch's row block at point `t`. -/
theorem blk1 (c : Dev nD) (t : Fin cfg0.N) (r : Fin 256) (d : Fin 1024) (R : Fin 8704) (hR : R.val = 256 * t.val + r.val) :
    iblk m c 1 t (ix2 r d) = m ((c : Thread nD τ).loc main_arg1) (ix2 R d) := by
  rw [← V_main_arg1 m c]
  show V m c main_arg1 (((cfg0.win 1).blk t).view.emb (ix2 r d)) = _
  have e : ∀ t : Fin cfg0.N, win0_1.index t (0 : Fin 2) = t.val ∧ win0_1.index t (1 : Fin 2) = 0 :=
    (by decide +kernel : ∀ t : Fin grid0.N, _)
  obtain ⟨e0, e1⟩ := e t
  refine congrArg (V m c main_arg1) (funext fun a => Fin.ext ?_)
  match a with
  | ⟨0, _⟩ => show win0_1.index t (0 : Fin 2) * 256 + 1 * r.val = R.val; omega
  | ⟨1, _⟩ => show win0_1.index t (1 : Fin 2) * 1024 + 1 * d.val = d.val; omega

/-- A branch's row block at point `t`. -/
theorem blk2 (c : Dev nD) (t : Fin cfg0.N) (r : Fin 256) (d : Fin 1024) (R : Fin 8704) (hR : R.val = 256 * t.val + r.val) :
    iblk m c 2 t (ix2 r d) = m ((c : Thread nD τ).loc main_arg2) (ix2 R d) := by
  rw [← V_main_arg2 m c]
  show V m c main_arg2 (((cfg0.win 2).blk t).view.emb (ix2 r d)) = _
  have e : ∀ t : Fin cfg0.N, win0_2.index t (0 : Fin 2) = t.val ∧ win0_2.index t (1 : Fin 2) = 0 :=
    (by decide +kernel : ∀ t : Fin grid0.N, _)
  obtain ⟨e0, e1⟩ := e t
  refine congrArg (V m c main_arg2) (funext fun a => Fin.ext ?_)
  match a with
  | ⟨0, _⟩ => show win0_2.index t (0 : Fin 2) * 256 + 1 * r.val = R.val; omega
  | ⟨1, _⟩ => show win0_2.index t (1 : Fin 2) * 1024 + 1 * d.val = d.val; omega

/-- A branch's gates at point `t`. -/
theorem blk3 (c : Dev nD) (t : Fin cfg0.N) (r : Fin 256) (d : Fin 2048) (R : Fin 8704) (hR : R.val = 256 * t.val + r.val) (D : Fin 6144) (hD : D.val = 0 + d.val) :
    iblk m c 3 t (ix2 r d) = m ((c : Thread nD τ).loc main_arg3) (ix2 R D) := by
  rw [← V_main_arg3 m c]
  show V m c main_arg3 (((cfg0.win 3).blk t).view.emb (ix2 r d)) = _
  have e : ∀ t : Fin cfg0.N, win0_3.index t (0 : Fin 2) = t.val ∧ win0_3.index t (1 : Fin 2) = 0 :=
    (by decide +kernel : ∀ t : Fin grid0.N, _)
  obtain ⟨e0, e1⟩ := e t
  refine congrArg (V m c main_arg3) (funext fun a => Fin.ext ?_)
  match a with
  | ⟨0, _⟩ => show win0_3.index t (0 : Fin 2) * 256 + 1 * r.val = R.val; omega
  | ⟨1, _⟩ => show win0_3.index t (1 : Fin 2) * 2048 + 1 * d.val = D.val; omega

/-- A branch's gates at point `t`. -/
theorem blk4 (c : Dev nD) (t : Fin cfg0.N) (r : Fin 256) (d : Fin 2048) (R : Fin 8704) (hR : R.val = 256 * t.val + r.val) (D : Fin 6144) (hD : D.val = 2048 + d.val) :
    iblk m c 4 t (ix2 r d) = m ((c : Thread nD τ).loc main_arg3) (ix2 R D) := by
  rw [← V_main_arg3 m c]
  show V m c main_arg3 (((cfg0.win 4).blk t).view.emb (ix2 r d)) = _
  have e : ∀ t : Fin cfg0.N, win0_4.index t (0 : Fin 2) = t.val ∧ win0_4.index t (1 : Fin 2) = 1 :=
    (by decide +kernel : ∀ t : Fin grid0.N, _)
  obtain ⟨e0, e1⟩ := e t
  refine congrArg (V m c main_arg3) (funext fun a => Fin.ext ?_)
  match a with
  | ⟨0, _⟩ => show win0_4.index t (0 : Fin 2) * 256 + 1 * r.val = R.val; omega
  | ⟨1, _⟩ => show win0_4.index t (1 : Fin 2) * 2048 + 1 * d.val = D.val; omega

/-- A branch's gates at point `t`. -/
theorem blk5 (c : Dev nD) (t : Fin cfg0.N) (r : Fin 256) (d : Fin 2048) (R : Fin 8704) (hR : R.val = 256 * t.val + r.val) (D : Fin 6144) (hD : D.val = 4096 + d.val) :
    iblk m c 5 t (ix2 r d) = m ((c : Thread nD τ).loc main_arg3) (ix2 R D) := by
  rw [← V_main_arg3 m c]
  show V m c main_arg3 (((cfg0.win 5).blk t).view.emb (ix2 r d)) = _
  have e : ∀ t : Fin cfg0.N, win0_5.index t (0 : Fin 2) = t.val ∧ win0_5.index t (1 : Fin 2) = 2 :=
    (by decide +kernel : ∀ t : Fin grid0.N, _)
  obtain ⟨e0, e1⟩ := e t
  refine congrArg (V m c main_arg3) (funext fun a => Fin.ext ?_)
  match a with
  | ⟨0, _⟩ => show win0_5.index t (0 : Fin 2) * 256 + 1 * r.val = R.val; omega
  | ⟨1, _⟩ => show win0_5.index t (1 : Fin 2) * 2048 + 1 * d.val = D.val; omega

/-- The residual's row block at point `t`. -/
theorem blk6 (c : Dev nD) (t : Fin cfg0.N) (r : Fin 256) (d : Fin 2048) (R : Fin 8704) (hR : R.val = 256 * t.val + r.val) :
    iblk m c 6 t (ix2 r d) = m ((c : Thread nD τ).loc main_arg4) (ix2 R d) := by
  rw [← V_main_arg4 m c]
  show V m c main_arg4 (((cfg0.win 6).blk t).view.emb (ix2 r d)) = _
  have e : ∀ t : Fin cfg0.N, win0_6.index t (0 : Fin 2) = t.val ∧ win0_6.index t (1 : Fin 2) = 0 :=
    (by decide +kernel : ∀ t : Fin grid0.N, _)
  obtain ⟨e0, e1⟩ := e t
  refine congrArg (V m c main_arg4) (funext fun a => Fin.ext ?_)
  match a with
  | ⟨0, _⟩ => show win0_6.index t (0 : Fin 2) * 256 + 1 * r.val = R.val; omega
  | ⟨1, _⟩ => show win0_6.index t (1 : Fin 2) * 2048 + 1 * d.val = d.val; omega

/-- Weights: the first layer's. -/
theorem blk7 (c : Dev nD) (t : Fin cfg0.N) (d : Fin 1024) (n : Fin 2048) :
    iblk m c 7 t (ix3 0 d n) = m ((c : Thread nD τ).loc main_arg5) (ix3 0 d n) := by
  rw [← V_wa m c]
  show V m c main_v0 (((cfg0.win 7).blk t).view.emb (ix3 0 d n)) = _
  have e : ∀ t : Fin cfg0.N, win0_7.index t (0 : Fin 3) = 0 ∧ win0_7.index t (1 : Fin 3) = 0 ∧ win0_7.index t (2 : Fin 3) = 0 :=
    (by decide +kernel : ∀ t : Fin grid0.N, _)
  obtain ⟨e0, e1, e2⟩ := e t
  refine congrArg (V m c main_v0) (funext fun a => Fin.ext ?_)
  match a with
  | ⟨0, _⟩ => show win0_7.index t (0 : Fin 3) * 1 + 1 * 0 = 0; omega
  | ⟨1, _⟩ => show win0_7.index t (1 : Fin 3) * 1024 + 1 * d.val = d.val; omega
  | ⟨2, _⟩ => show win0_7.index t (2 : Fin 3) * 2048 + 1 * n.val = n.val; omega

/-- Weights: the first layer's. -/
theorem blk8 (c : Dev nD) (t : Fin cfg0.N) (d : Fin 1024) (n : Fin 2048) :
    iblk m c 8 t (ix3 0 d n) = m ((c : Thread nD τ).loc main_arg6) (ix3 0 d n) := by
  rw [← V_wb m c]
  show V m c main_v1 (((cfg0.win 8).blk t).view.emb (ix3 0 d n)) = _
  have e : ∀ t : Fin cfg0.N, win0_8.index t (0 : Fin 3) = 0 ∧ win0_8.index t (1 : Fin 3) = 0 ∧ win0_8.index t (2 : Fin 3) = 0 :=
    (by decide +kernel : ∀ t : Fin grid0.N, _)
  obtain ⟨e0, e1, e2⟩ := e t
  refine congrArg (V m c main_v1) (funext fun a => Fin.ext ?_)
  match a with
  | ⟨0, _⟩ => show win0_8.index t (0 : Fin 3) * 1 + 1 * 0 = 0; omega
  | ⟨1, _⟩ => show win0_8.index t (1 : Fin 3) * 1024 + 1 * d.val = d.val; omega
  | ⟨2, _⟩ => show win0_8.index t (2 : Fin 3) * 2048 + 1 * n.val = n.val; omega

/-- Weights: the first layer's. -/
theorem blk9 (c : Dev nD) (t : Fin cfg0.N) (d : Fin 1024) (n : Fin 2048) :
    iblk m c 9 t (ix3 0 d n) = m ((c : Thread nD τ).loc main_arg7) (ix3 0 d n) := by
  rw [← V_wc m c]
  show V m c main_v2 (((cfg0.win 9).blk t).view.emb (ix3 0 d n)) = _
  have e : ∀ t : Fin cfg0.N, win0_9.index t (0 : Fin 3) = 0 ∧ win0_9.index t (1 : Fin 3) = 0 ∧ win0_9.index t (2 : Fin 3) = 0 :=
    (by decide +kernel : ∀ t : Fin grid0.N, _)
  obtain ⟨e0, e1, e2⟩ := e t
  refine congrArg (V m c main_v2) (funext fun a => Fin.ext ?_)
  match a with
  | ⟨0, _⟩ => show win0_9.index t (0 : Fin 3) * 1 + 1 * 0 = 0; omega
  | ⟨1, _⟩ => show win0_9.index t (1 : Fin 3) * 1024 + 1 * d.val = d.val; omega
  | ⟨2, _⟩ => show win0_9.index t (2 : Fin 3) * 2048 + 1 * n.val = n.val; omega

/-- Weights: the first layer's. -/
theorem blk10 (c : Dev nD) (t : Fin cfg0.N) (d : Fin 2048) (n : Fin 2048) :
    iblk m c 10 t (ix3 0 d n) = m ((c : Thread nD τ).loc main_arg8) (ix3 0 d n) := by
  rw [← V_wo m c]
  show V m c main_v3 (((cfg0.win 10).blk t).view.emb (ix3 0 d n)) = _
  have e : ∀ t : Fin cfg0.N, win0_10.index t (0 : Fin 3) = 0 ∧ win0_10.index t (1 : Fin 3) = 0 ∧ win0_10.index t (2 : Fin 3) = 0 :=
    (by decide +kernel : ∀ t : Fin grid0.N, _)
  obtain ⟨e0, e1, e2⟩ := e t
  refine congrArg (V m c main_v3) (funext fun a => Fin.ext ?_)
  match a with
  | ⟨0, _⟩ => show win0_10.index t (0 : Fin 3) * 1 + 1 * 0 = 0; omega
  | ⟨1, _⟩ => show win0_10.index t (1 : Fin 3) * 2048 + 1 * d.val = d.val; omega
  | ⟨2, _⟩ => show win0_10.index t (2 : Fin 3) * 2048 + 1 * n.val = n.val; omega

/-- The norm's weights. -/
theorem blk11 (c : Dev nD) (t : Fin cfg0.N) (n : Fin 2048) :
    iblk m c 11 t (ix3 0 0 n) = m ((c : Thread nD τ).loc main_arg9) (ix2 0 n) := by
  rw [← V_g m c]
  show V m c main_v4 (((cfg0.win 11).blk t).view.emb (ix3 0 0 n)) = _
  have e : ∀ t : Fin cfg0.N, win0_11.index t (0 : Fin 3) = 0 ∧ win0_11.index t (1 : Fin 3) = 0 ∧ win0_11.index t (2 : Fin 3) = 0 :=
    (by decide +kernel : ∀ t : Fin grid0.N, _)
  obtain ⟨e0, e1, e2⟩ := e t
  refine congrArg (V m c main_v4) (funext fun a => Fin.ext ?_)
  match a with
  | ⟨0, _⟩ => show win0_11.index t (0 : Fin 3) * 1 + 1 * 0 = 0; omega
  | ⟨1, _⟩ => show win0_11.index t (1 : Fin 3) * 1 + 1 * 0 = 0; omega
  | ⟨2, _⟩ => show win0_11.index t (2 : Fin 3) * 2048 + 1 * n.val = n.val; omega

/-- The first result at row `R`, column `n`. -/
def merge (a b c : S8704x1024.Idx → EReal) (g : S8704x6144.Idx → EReal) (h : S8704x2048.Idx → EReal) (wa wb wc : S4x1024x2048.Idx → EReal)
    (wo : S4x2048x2048.Idx → EReal) (R : Fin 8704) (n : Fin 2048) : EReal :=
  row (fun k => a (ix2 R k)) (fun k => b (ix2 R k)) (fun k => c (ix2 R k)) (fun d => g (ix2 R ⟨d.val, by omega⟩))
    (fun d => g (ix2 R ⟨2048 + d.val, by omega⟩)) (fun d => g (ix2 R ⟨4096 + d.val, by omega⟩)) (fun d => h (ix2 R d))
    (fun k d => wa (ix3 0 k d)) (fun k d => wb (ix3 0 k d)) (fun k d => wc (ix3 0 k d)) (fun k d => wo (ix3 0 k d)) n

/-- The second result at row `R`, column `n`. -/
def nxt (a b c : S8704x1024.Idx → EReal) (g : S8704x6144.Idx → EReal) (h : S8704x2048.Idx → EReal) (wa wb wc : S4x1024x2048.Idx → EReal)
    (wo : S4x2048x2048.Idx → EReal) (gn : S4x2048.Idx → EReal) (R : Fin 8704) (n : Fin 2048) : EReal :=
  rms (merge a b c g h wa wb wc wo R) (fun d => gn (ix2 0 d)) n

/-- The first payload over the blocks of point `t`. -/
theorem row_apply (c : Dev nD) (t : Fin cfg0.N) (r : Fin 256) (R : Fin 8704) (hR : R.val = 256 * t.val + r.val) (n : Fin 2048) :
    k0_pay2 (F := Ideal) (iblk m c 3 t) (iblk m c 0 t) (iblk m c 7 t) (iblk m c 4 t) (iblk m c 1 t) (iblk m c 8 t) (iblk m c 5 t)
        (iblk m c 2 t) (iblk m c 9 t) (iblk m c 6 t) (iblk m c 10 t) (ix2 r n)
      = merge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) R n := by
  refine (pay2_apply _ _ _ _ _ _ _ _ _ _ _ r n).trans ?_
  unfold merge
  congr 1
  · funext k; exact blk0 m c t r k R hR
  · funext k; exact blk1 m c t r k R hR
  · funext k; exact blk2 m c t r k R hR
  · funext d; exact blk3 m c t r d R hR _ (by show d.val = _; omega)
  · funext d; exact blk4 m c t r d R hR _ rfl
  · funext d; exact blk5 m c t r d R hR _ rfl
  · funext d; exact blk6 m c t r d R hR
  · funext k d; exact blk7 m c t k d
  · funext k d; exact blk8 m c t k d
  · funext k d; exact blk9 m c t k d
  · funext k d; exact blk10 m c t k d

/-- THE KERNEL'S FIRST RESULT: the array after the run at row `R`, column `n`. -/
theorem out12_apply (c : Dev nD) (R : Fin 8704) (n : Fin 2048) :
    (dats m 0 c).arrAt 12 cfg0.N (ix2 R n)
      = merge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) R n := by
  have hN : cfg0.N = 34 := N_0
  have hR := R.isLt
  have ht : R.val / 256 < cfg0.N := by rw [hN]; omega
  have e : ∀ t : Fin cfg0.N, win0_12.index t (0 : Fin 2) = t.val ∧ win0_12.index t (1 : Fin 2) = 0 ∧ (cfg0.win 12).flush t = true :=
    (by decide +kernel : ∀ t : Fin grid0.N, _)
  obtain ⟨e0, e1, hf⟩ := e ⟨R.val / 256, ht⟩
  have key := congrFun (Value.blocks12 m c ⟨R.val / 256, ht⟩ hf) (ix2 (⟨R.val % 256, Nat.mod_lt _ (by decide)⟩ : Fin 256) n)
  rw [Value.flushed12] at key
  have hemb : ((cfg0.win 12).blk ⟨R.val / 256, ht⟩).view.emb (ix2 (⟨R.val % 256, Nat.mod_lt _ (by decide)⟩ : Fin 256) n) = ix2 R n := by
    funext a; apply Fin.ext
    match a with
    | ⟨0, _⟩ => show win0_12.index ⟨R.val / 256, ht⟩ (0 : Fin 2) * 256 + 1 * (R.val % 256) = R.val; rw [e0]; show R.val / 256 * 256 + _ = _; omega
    | ⟨1, _⟩ => show win0_12.index ⟨R.val / 256, ht⟩ (1 : Fin 2) * 2048 + 1 * n.val = n.val; omega
  have hR' : R.val = 256 * (R.val / 256) + R.val % 256 := by omega
  refine (congrArg ((dats m 0 c).arrAt 12 cfg0.N) hemb.symm).trans (key.trans ?_)
  rw [(out_eq _ _ _ _ _ _ _ _ _ _ _ _).1]
  exact row_apply m c _ _ R hR' n

/-- THE KERNEL'S SECOND RESULT: the array after the run at row `R`, column `n`. -/
theorem out13_apply (c : Dev nD) (R : Fin 8704) (n : Fin 2048) :
    (dats m 0 c).arrAt 13 cfg0.N (ix2 R n)
      = nxt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) R n := by
  have hN : cfg0.N = 34 := N_0
  have hR := R.isLt
  have ht : R.val / 256 < cfg0.N := by rw [hN]; omega
  have e : ∀ t : Fin cfg0.N, win0_13.index t (0 : Fin 2) = t.val ∧ win0_13.index t (1 : Fin 2) = 0 ∧ (cfg0.win 13).flush t = true :=
    (by decide +kernel : ∀ t : Fin grid0.N, _)
  obtain ⟨e0, e1, hf⟩ := e ⟨R.val / 256, ht⟩
  have key := congrFun (Value.blocks13 m c ⟨R.val / 256, ht⟩ hf) (ix2 (⟨R.val % 256, Nat.mod_lt _ (by decide)⟩ : Fin 256) n)
  rw [Value.flushed13] at key
  have hemb : ((cfg0.win 13).blk ⟨R.val / 256, ht⟩).view.emb (ix2 (⟨R.val % 256, Nat.mod_lt _ (by decide)⟩ : Fin 256) n) = ix2 R n := by
    funext a; apply Fin.ext
    match a with
    | ⟨0, _⟩ => show win0_13.index ⟨R.val / 256, ht⟩ (0 : Fin 2) * 256 + 1 * (R.val % 256) = R.val; rw [e0]; show R.val / 256 * 256 + _ = _; omega
    | ⟨1, _⟩ => show win0_13.index ⟨R.val / 256, ht⟩ (1 : Fin 2) * 2048 + 1 * n.val = n.val; omega
  have hR' : R.val = 256 * (R.val / 256) + R.val % 256 := by omega
  refine (congrArg ((dats m 0 c).arrAt 13 cfg0.N) hemb.symm).trans (key.trans ?_)
  rw [(out_eq _ _ _ _ _ _ _ _ _ _ _ _).2]
  refine (pay1_apply _ _ (⟨R.val % 256, Nat.mod_lt _ (by decide)⟩ : Fin 256) n).trans ?_
  unfold nxt
  congr 1
  · funext d; exact row_apply m c _ _ R hR' d
  · funext d; exact blk11 m c _ d

open Cert.MergeRefIdeal.Read in
/-- THE REFERENCE'S FIRST RESULT at row `R`, column `n`. -/
theorem ref12_apply (a b c : S8704x1024.Idx → EReal) (g : S8704x6144.Idx → EReal) (h : S8704x2048.Idx → EReal) (wa wb wc : S4x1024x2048.Idx → EReal)
    (wo : S4x2048x2048.Idx → EReal) (R : Fin 8704) (n : Fin 2048) :
    val_main_v28 (F := Ideal) a b c g h wa wb wc wo (ix2 R n) = merge a b c g h wa wb wc wo R n := by
  unfold merge row
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]

open Cert.MergeRefIdeal.Read in
/-- THE REFERENCE'S SECOND RESULT at row `R`, column `n`. -/
theorem ref13_apply (a b c : S8704x1024.Idx → EReal) (g : S8704x6144.Idx → EReal) (h : S8704x2048.Idx → EReal) (wa wb wc : S4x1024x2048.Idx → EReal)
    (wo : S4x2048x2048.Idx → EReal) (gn : S4x2048.Idx → EReal) (R : Fin 8704) (n : Fin 2048) :
    val_main_v44 (F := Ideal) a b c g h wa wb wc wo gn (ix2 R n) = nxt a b c g h wa wb wc wo gn R n := by
  unfold nxt rms
  simp only [← ref12_apply]
  pointwise [val_main_v44, val_main_v43, val_main_v42, val_main_v41, val_main_v40, val_main_v39, val_main_v38, val_main_v37, val_main_v36, val_main_v35, val_main_v34, val_main_v33, val_main_v32, val_main_v31, val_main_v30, val_main_v29, val_main_cst, val_main_cst_0, val_main_cst_1]

end Cert.Proof.Merge

end
-- ==== Proof.MergeClaim.lean ====
/- The claims of the merge of the branches: the reference's frame and the kernel's equality with it. -/
module

public import proofs.«01_k».proof.Defs
public import proofs.«01_k».proof.Proof.MergeMix
public import proofs.«01_k».proof.Proof.Gen.MergeRefIdeal.Run
public import Idealize.ShloMosaic.Lib.Quiescent

@[expose] public section

set_option maxRecDepth 16384

noncomputable section

namespace Cert.Proof.Merge

open Idealize.ShloMosaic Idealize.ShloMosaic.TcCoe Idealize.SL.Sem

/-- The reference's run ends with its arguments as they were and every semaphore counter at zero. -/
theorem frame_ref : Cert.quiescent_MergeRefIdeal := fun m ρ _ =>
  (θ_run Cert.MergeRefIdeal.defs _ _).mono (fun r h => ⟨fun c => (h c).2.2, Idealize.ShloMosaic.sem_eq_zero_of_no_sems (by decide) r.2⟩)
    (Cert.MergeRefIdeal.Value.run (F := Ideal) m ρ)

/-- At the ideal instance the kernel's results are the reference's, of the same arguments. -/
theorem algebraic : Cert.algebraic_MergeIdeal_MergeRefIdeal := by
  intro m ρ m' ρ' _ hag
  refine ⟨fun c => (Cert.MergeIdeal.Gen.dats m 0 c).arrAt 12 Cert.MergeIdeal.cfg0.N, fun c => (Cert.MergeIdeal.Gen.dats m 0 c).arrAt 13 Cert.MergeIdeal.cfg0.N, Cert.MergeIdeal.Value.run_blocks (F := Ideal) m ρ, ?_⟩
  refine (θ_run Cert.MergeRefIdeal.defs _ _).mono (fun r h c => ?_) (Cert.MergeRefIdeal.Value.run (F := Ideal) m' ρ')
  obtain ⟨e0, e1, e2, e3, e4, e5, e6, e7, e8, e9⟩ := hag c
  refine ⟨(h c).1.trans ?_, (h c).2.1.trans ?_, (h c).2.2⟩
  · refine (Cert.MergeRefIdeal.Read.val_main_v28_eq _ _ _ _ _ _ _ _ _).trans ?_
    rw [e0, e1, e2, e3, e4, e5, e6, e7, e8]
    funext i
    rw [eq_ix2 i]
    exact (Merge.ref12_apply _ _ _ _ _ _ _ _ _ (i 0) (i 1)).trans (Merge.out12_apply m c (i 0) (i 1)).symm
  · refine (Cert.MergeRefIdeal.Read.val_main_v44_eq m' c).trans ?_
    rw [e0, e1, e2, e3, e4, e5, e6, e7, e8, e9]
    funext i
    rw [eq_ix2 i]
    exact (Merge.ref13_apply _ _ _ _ _ _ _ _ _ _ (i 0) (i 1)).trans (Merge.out13_apply m c (i 0) (i 1)).symm

end Cert.Proof.Merge

end
-- ==== Proof.PleMix.lean ====
/- The per-layer embedding's gate, its residual and the norm that follows: what the kernel leaves in its two results,
   and that the reference computes the same. With `ν(f)[n] = f[n] · rsqrt((∑ d, f[d]²)/2048 + ε) · g[n]` the results at
   row `r` and column `n` are
     y[r,n] = h[r,n] + σ(∑ d, ν(h[r])[d]·w_g[0,d,n]) · ∑ e, p[0,r,e]·w_p[0,e,n]   and   ν(y[r])[n]. -/
module

public import proofs.«01_k».proof.Proof.Gen.PleIdeal.Value
public import proofs.«01_k».proof.Proof.Gen.PleRefIdeal.Read
public import Idealize.ShloMosaic.Lib.Pointwise
public import Idealize.ShloMosaic.Lib.StableHlo.ReadAt

@[expose] public section

set_option maxRecDepth 16384

noncomputable section

namespace Cert.Proof.Ple

open Idealize.ShloMosaic Idealize.ShloMosaic.TcCoe Idealize.SL.Sem
open Cert.PleIdeal Cert.PleIdeal.Gen

/-- Root-mean-square norm of the row `f` with the weights `g`, at column `n`. -/
def rms (f g : Fin 2048 → EReal) (n : Fin 2048) : EReal :=
  f n * Ideal.rsqrt (Ideal.div (∑ d : Fin 2048, f d * f d) (Ideal.ofBits .f32 0x45000000#32) + Ideal.ofBits .f32 0x358637BD#32) * g n

/-- One row of the first result, from that row `f` of the residual and `e` of the embedding. -/
def row (f : Fin 2048 → EReal) (e : Fin 256 → EReal) (wg : Fin 2048 → Fin 2048 → EReal) (wp : Fin 256 → Fin 2048 → EReal)
    (g : Fin 2048 → EReal) (n : Fin 2048) : EReal :=
  f n + Ideal.logistic (∑ d : Fin 2048, rms f g d * wg d n) * ∑ k : Fin 256, e k * wp k n

/-- The first payload at an index. -/
theorem pay2_apply (v0 : Vec Ideal S512x2048 .f32) (v1 : Vec Ideal S1x1x2048 .f32) (v16 : Vec Ideal S1x2048x2048 .bf16)
    (v20 : Vec Ideal S1x512x256 .f32) (v23 : Vec Ideal S1x256x2048 .bf16) (r : Fin 512) (n : Fin 2048) :
    k0_pay2 (F := Ideal) v0 v1 v16 v20 v23 (ix2 r n) = row (fun d => v0 (ix2 r d)) (fun k => v20 (ix3 0 r k))
      (fun d n => v16 (ix3 0 d n)) (fun k n => v23 (ix3 0 k n)) (fun d => v1 (ix3 0 0 d)) n := by
  unfold row rms
  pointwise [k0_pay2]

/-- The second payload at an index: the norm of a row. -/
theorem pay1_apply (v27 : Vec Ideal S512x2048 .f32) (v30 : Vec Ideal S1x2048 .f32) (v32 : Vec Ideal S512 .f32) (r : Fin 512) (n : Fin 2048) :
    k0_pay1 (F := Ideal) v27 v30 v32 (ix2 r n) =
      v27 (ix2 r n) * Ideal.rsqrt (Ideal.div (v32 (ix1 r)) (Ideal.ofBits .f32 0x45000000#32) + Ideal.ofBits .f32 0x358637BD#32) * v30 (ix2 0 n) := by
  pointwise [k0_pay1]

/-- The sum of squares of the first payload's row. -/
theorem pay4_apply (v0 : Vec Ideal S512x2048 .f32) (v1 : Vec Ideal S1x1x2048 .f32) (v16 : Vec Ideal S1x2048x2048 .bf16)
    (v20 : Vec Ideal S1x512x256 .f32) (v23 : Vec Ideal S1x256x2048 .bf16) (r : Fin 512) :
    k0_pay4 (F := Ideal) v0 v1 v16 v20 v23 (ix1 r) = ∑ d : Fin 2048,
      k0_pay2 (F := Ideal) v0 v1 v16 v20 v23 (ix2 r d) * k0_pay2 (F := Ideal) v0 v1 v16 v20 v23 (ix2 r d) := by
  pointwise [k0_pay4]

/-- The norm's weights with their unit axis dropped. -/
theorem pay3_apply (v29 : Vec Ideal S1x1x2048 .f32) (n : Fin 2048) : k0_pay3 (F := Ideal) v29 (ix2 0 n) = v29 (ix3 0 0 n) := by
  pointwise [k0_pay3]

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the first output block. -/
theorem out6_eq (x0 : Vec Ideal S512x2048 .f32) (x1 : Vec Ideal S1x512x256 .f32) (x2 : Vec Ideal S1x2048x2048 .bf16)
    (x3 : Vec Ideal S1x256x2048 .bf16) (x4 x5 : Vec Ideal S1x1x2048 .f32) :
    out0_6 (F := Ideal) x0 x1 x2 x3 x4 x5 = k0_pay2 (F := Ideal) x0 x4 x2 x1 x3 := by
  unfold out0_6
  rw [View.canon_unit_zero hz2]
  simp only [View.ld_unit_zero (S := S512x2048) hz2, View.ld_unit_zero (S := S1x512x256) hz3, View.ld_unit_zero (S := S1x2048x2048) hz3,
    View.ld_unit_zero (S := S1x256x2048) hz3, View.ld_unit_zero (S := S1x1x2048) hz3]

/-- What the body leaves in the second output block. -/
theorem out7_eq (x0 : Vec Ideal S512x2048 .f32) (x1 : Vec Ideal S1x512x256 .f32) (x2 : Vec Ideal S1x2048x2048 .bf16)
    (x3 : Vec Ideal S1x256x2048 .bf16) (x4 x5 : Vec Ideal S1x1x2048 .f32) :
    out0_7 (F := Ideal) x0 x1 x2 x3 x4 x5 = k0_pay1 (F := Ideal) (k0_pay2 (F := Ideal) x0 x4 x2 x1 x3) (k0_pay3 (F := Ideal) x5)
      (k0_pay4 (F := Ideal) x0 x4 x2 x1 x3) := by
  unfold out0_7
  rw [View.canon_unit_zero hz2]
  simp only [View.ld_unit_zero (S := S512x2048) hz2, View.ld_unit_zero (S := S1x512x256) hz3, View.ld_unit_zero (S := S1x2048x2048) hz3,
    View.ld_unit_zero (S := S1x256x2048) hz3, View.ld_unit_zero (S := S1x1x2048) hz3]

variable (m : (ℓ : Loc nD τ sig) → Buf (Elt Ideal) ℓ)

/-- The weights and norm weights as the launch finds them. -/
theorem V_wg (c : Dev nD) (i : S4x2048x2048.Idx) : V m c main_v0 i = m ((c : Thread nD τ).loc main_arg2) i := by
  unfold V hostOps0
  after_reads_at
theorem V_wp (c : Dev nD) (i : S4x256x2048.Idx) : V m c main_v1 i = m ((c : Thread nD τ).loc main_arg3) i := by
  unfold V hostOps0
  after_reads_at
theorem V_g (c : Dev nD) (a : Fin 4) (n : Fin 2048) : V m c main_v2 (ix3 a 0 n) = m ((c : Thread nD τ).loc main_arg4) (ix2 a n) := by
  unfold V hostOps0
  after_reads_at
theorem V_gn (c : Dev nD) (a : Fin 5) (n : Fin 2048) : V m c main_v3 (ix3 a 0 n) = m ((c : Thread nD τ).loc main_arg5) (ix2 a n) := by
  unfold V hostOps0
  after_reads_at

/-- The row block of the residual at point `t`. -/
theorem blk0 (c : Dev nD) (t : Fin cfg0.N) (r : Fin 512) (d : Fin 2048) (R : Fin 8704) (hR : R.val = 512 * t.val + r.val) :
    iblk m c 0 t (ix2 r d) = m ((c : Thread nD τ).loc main_arg0) (ix2 R d) := by
  rw [← V_main_arg0 m c]
  show V m c main_arg0 (((cfg0.win 0).blk t).view.emb (ix2 r d)) = _
  have e : ∀ t : Fin cfg0.N, win0_0.index t (0 : Fin 2) = t.val ∧ win0_0.index t (1 : Fin 2) = 0 :=
    (by decide +kernel : ∀ t : Fin grid0.N, _)
  obtain ⟨e0, e1⟩ := e t
  refine congrArg (V m c main_arg0) (funext fun a => Fin.ext ?_)
  match a with
  | ⟨0, _⟩ => show win0_0.index t (0 : Fin 2) * 512 + 1 * r.val = R.val; omega
  | ⟨1, _⟩ => show win0_0.index t (1 : Fin 2) * 2048 + 1 * d.val = d.val; omega

/-- The row block of the embedding at point `t`. -/
theorem blk1 (c : Dev nD) (t : Fin cfg0.N) (r : Fin 512) (d : Fin 256) (R : Fin 8704) (hR : R.val = 512 * t.val + r.val) :
    iblk m c 1 t (ix3 0 r d) = m ((c : Thread nD τ).loc main_arg1) (ix3 0 R d) := by
  rw [← V_main_arg1 m c]
  show V m c main_arg1 (((cfg0.win 1).blk t).view.emb (ix3 0 r d)) = _
  have e : ∀ t : Fin cfg0.N, win0_1.index t (0 : Fin 3) = 0 ∧ win0_1.index t (1 : Fin 3) = t.val ∧ win0_1.index t (2 : Fin 3) = 0 :=
    (by decide +kernel : ∀ t : Fin grid0.N, _)
  obtain ⟨e0, e1, e2⟩ := e t
  refine congrArg (V m c main_arg1) (funext fun a => Fin.ext ?_)
  match a with
  | ⟨0, _⟩ => show win0_1.index t (0 : Fin 3) * 1 + 1 * 0 = 0; omega
  | ⟨1, _⟩ => show win0_1.index t (1 : Fin 3) * 512 + 1 * r.val = R.val; omega
  | ⟨2, _⟩ => show win0_1.index t (2 : Fin 3) * 256 + 1 * d.val = d.val; omega

/-- The gate's weights. -/
theorem blk2 (c : Dev nD) (t : Fin cfg0.N) (d n : Fin 2048) :
    iblk m c 2 t (ix3 0 d n) = m ((c : Thread nD τ).loc main_arg2) (ix3 0 d n) := by
  rw [← V_wg m c]
  show V m c main_v0 (((cfg0.win 2).blk t).view.emb (ix3 0 d n)) = _
  have e : ∀ t : Fin cfg0.N, win0_2.index t (0 : Fin 3) = 0 ∧ win0_2.index t (1 : Fin 3) = 0 ∧ win0_2.index t (2 : Fin 3) = 0 :=
    (by decide +kernel : ∀ t : Fin grid0.N, _)
  obtain ⟨e0, e1, e2⟩ := e t
  refine congrArg (V m c main_v0) (funext fun a => Fin.ext ?_)
  match a with
  | ⟨0, _⟩ => show win0_2.index t (0 : Fin 3) * 1 + 1 * 0 = 0; omega
  | ⟨1, _⟩ => show win0_2.index t (1 : Fin 3) * 2048 + 1 * d.val = d.val; omega
  | ⟨2, _⟩ => show win0_2.index t (2 : Fin 3) * 2048 + 1 * n.val = n.val; omega

/-- The embedding's weights. -/
theorem blk3 (c : Dev nD) (t : Fin cfg0.N) (d : Fin 256) (n : Fin 2048) :
    iblk m c 3 t (ix3 0 d n) = m ((c : Thread nD τ).loc main_arg3) (ix3 0 d n) := by
  rw [← V_wp m c]
  show V m c main_v1 (((cfg0.win 3).blk t).view.emb (ix3 0 d n)) = _
  have e : ∀ t : Fin cfg0.N, win0_3.index t (0 : Fin 3) = 0 ∧ win0_3.index t (1 : Fin 3) = 0 ∧ win0_3.index t (2 : Fin 3) = 0 :=
    (by decide +kernel : ∀ t : Fin grid0.N, _)
  obtain ⟨e0, e1, e2⟩ := e t
  refine congrArg (V m c main_v1) (funext fun a => Fin.ext ?_)
  match a with
  | ⟨0, _⟩ => show win0_3.index t (0 : Fin 3) * 1 + 1 * 0 = 0; omega
  | ⟨1, _⟩ => show win0_3.index t (1 : Fin 3) * 256 + 1 * d.val = d.val; omega
  | ⟨2, _⟩ => show win0_3.index t (2 : Fin 3) * 2048 + 1 * n.val = n.val; omega

/-- The inner norm's weights. -/
theorem blk4 (c : Dev nD) (t : Fin cfg0.N) (n : Fin 2048) :
    iblk m c 4 t (ix3 0 0 n) = m ((c : Thread nD τ).loc main_arg4) (ix2 0 n) := by
  rw [← V_g m c]
  show V m c main_v2 (((cfg0.win 4).blk t).view.emb (ix3 0 0 n)) = _
  have e : ∀ t : Fin cfg0.N, win0_4.index t (0 : Fin 3) = 0 ∧ win0_4.index t (1 : Fin 3) = 0 ∧ win0_4.index t (2 : Fin 3) = 0 :=
    (by decide +kernel : ∀ t : Fin grid0.N, _)
  obtain ⟨e0, e1, e2⟩ := e t
  refine congrArg (V m c main_v2) (funext fun a => Fin.ext ?_)
  match a with
  | ⟨0, _⟩ => show win0_4.index t (0 : Fin 3) * 1 + 1 * 0 = 0; omega
  | ⟨1, _⟩ => show win0_4.index t (1 : Fin 3) * 1 + 1 * 0 = 0; omega
  | ⟨2, _⟩ => show win0_4.index t (2 : Fin 3) * 2048 + 1 * n.val = n.val; omega

/-- The following norm's weights: the second row of them. -/
theorem blk5 (c : Dev nD) (t : Fin cfg0.N) (n : Fin 2048) :
    iblk m c 5 t (ix3 0 0 n) = m ((c : Thread nD τ).loc main_arg5) (ix2 1 n) := by
  rw [← V_gn m c]
  show V m c main_v3 (((cfg0.win 5).blk t).view.emb (ix3 0 0 n)) = _
  have e : ∀ t : Fin cfg0.N, win0_5.index t (0 : Fin 3) = 1 ∧ win0_5.index t (1 : Fin 3) = 0 ∧ win0_5.index t (2 : Fin 3) = 0 :=
    (by decide +kernel : ∀ t : Fin grid0.N, _)
  obtain ⟨e0, e1, e2⟩ := e t
  refine congrArg (V m c main_v3) (funext fun a => Fin.ext ?_)
  match a with
  | ⟨0, _⟩ => show win0_5.index t (0 : Fin 3) * 1 + 1 * 0 = 1; omega
  | ⟨1, _⟩ => show win0_5.index t (1 : Fin 3) * 1 + 1 * 0 = 0; omega
  | ⟨2, _⟩ => show win0_5.index t (2 : Fin 3) * 2048 + 1 * n.val = n.val; omega

/-- The first result at row `R`, column `n`. -/
def ple (h : S8704x2048.Idx → EReal) (p : S4x8704x256.Idx → EReal) (wg : S4x2048x2048.Idx → EReal) (wp : S4x256x2048.Idx → EReal)
    (g : S4x2048.Idx → EReal) (R : Fin 8704) (n : Fin 2048) : EReal :=
  row (fun d => h (ix2 R d)) (fun k => p (ix3 0 R k)) (fun d n => wg (ix3 0 d n)) (fun k n => wp (ix3 0 k n)) (fun d => g (ix2 0 d)) n

/-- The second result at row `R`, column `n`. -/
def nxt (h : S8704x2048.Idx → EReal) (p : S4x8704x256.Idx → EReal) (wg : S4x2048x2048.Idx → EReal) (wp : S4x256x2048.Idx → EReal)
    (g : S4x2048.Idx → EReal) (gn : S5x2048.Idx → EReal) (R : Fin 8704) (n : Fin 2048) : EReal :=
  rms (ple h p wg wp g R) (fun d => gn (ix2 1 d)) n

/-- The first payload over the blocks of point `t`. -/
theorem row_apply (c : Dev nD) (t : Fin cfg0.N) (r : Fin 512) (R : Fin 8704) (hR : R.val = 512 * t.val + r.val) (n : Fin 2048) :
    k0_pay2 (F := Ideal) (iblk m c 0 t) (iblk m c 4 t) (iblk m c 2 t) (iblk m c 1 t) (iblk m c 3 t) (ix2 r n)
      = ple (m ((c : Thread nD τ).loc main_arg0)) (m ((c : Thread nD τ).loc main_arg1)) (m ((c : Thread nD τ).loc main_arg2))
        (m ((c : Thread nD τ).loc main_arg3)) (m ((c : Thread nD τ).loc main_arg4)) R n := by
  refine (pay2_apply _ _ _ _ _ r n).trans ?_
  unfold ple
  congr 1
  · funext d; exact blk0 m c t r d R hR
  · funext k; exact blk1 m c t r k R hR
  · funext d n; exact blk2 m c t d n
  · funext k n; exact blk3 m c t k n
  · funext d; exact blk4 m c t d

/-- THE KERNEL'S FIRST RESULT: the array after the run at row `R`, column `n`. -/
theorem out6_apply (c : Dev nD) (R : Fin 8704) (n : Fin 2048) :
    (dats m 0 c).arrAt 6 cfg0.N (ix2 R n)
      = ple (m ((c : Thread nD τ).loc main_arg0)) (m ((c : Thread nD τ).loc main_arg1)) (m ((c : Thread nD τ).loc main_arg2)) (m ((c : Thread nD τ).loc main_arg3)) (m ((c : Thread nD τ).loc main_arg4)) R n := by
  have hN : cfg0.N = 17 := N_0
  have hR := R.isLt
  have ht : R.val / 512 < cfg0.N := by rw [hN]; omega
  have e : ∀ t : Fin cfg0.N, win0_6.index t (0 : Fin 2) = t.val ∧ win0_6.index t (1 : Fin 2) = 0 ∧ (cfg0.win 6).flush t = true :=
    (by decide +kernel : ∀ t : Fin grid0.N, _)
  obtain ⟨e0, e1, hf⟩ := e ⟨R.val / 512, ht⟩
  have key := congrFun (Value.blocks6 m c ⟨R.val / 512, ht⟩ hf) (ix2 (⟨R.val % 512, Nat.mod_lt _ (by decide)⟩ : Fin 512) n)
  rw [Value.flushed6] at key
  have hemb : ((cfg0.win 6).blk ⟨R.val / 512, ht⟩).view.emb (ix2 (⟨R.val % 512, Nat.mod_lt _ (by decide)⟩ : Fin 512) n) = ix2 R n := by
    funext a; apply Fin.ext
    match a with
    | ⟨0, _⟩ => show win0_6.index ⟨R.val / 512, ht⟩ (0 : Fin 2) * 512 + 1 * (R.val % 512) = R.val; rw [e0]; show R.val / 512 * 512 + _ = _; omega
    | ⟨1, _⟩ => show win0_6.index ⟨R.val / 512, ht⟩ (1 : Fin 2) * 2048 + 1 * n.val = n.val; omega
  have hR' : R.val = 512 * (R.val / 512) + R.val % 512 := by omega
  refine (congrArg ((dats m 0 c).arrAt 6 cfg0.N) hemb.symm).trans (key.trans ?_)
  rw [out6_eq]
  exact row_apply m c _ _ R hR' n

/-- THE KERNEL'S SECOND RESULT: the array after the run at row `R`, column `n`. -/
theorem out7_apply (c : Dev nD) (R : Fin 8704) (n : Fin 2048) :
    (dats m 0 c).arrAt 7 cfg0.N (ix2 R n)
      = nxt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R n := by
  have hN : cfg0.N = 17 := N_0
  have hR := R.isLt
  have ht : R.val / 512 < cfg0.N := by rw [hN]; omega
  have e : ∀ t : Fin cfg0.N, win0_7.index t (0 : Fin 2) = t.val ∧ win0_7.index t (1 : Fin 2) = 0 ∧ (cfg0.win 7).flush t = true :=
    (by decide +kernel : ∀ t : Fin grid0.N, _)
  obtain ⟨e0, e1, hf⟩ := e ⟨R.val / 512, ht⟩
  have key := congrFun (Value.blocks7 m c ⟨R.val / 512, ht⟩ hf) (ix2 (⟨R.val % 512, Nat.mod_lt _ (by decide)⟩ : Fin 512) n)
  rw [Value.flushed7] at key
  have hemb : ((cfg0.win 7).blk ⟨R.val / 512, ht⟩).view.emb (ix2 (⟨R.val % 512, Nat.mod_lt _ (by decide)⟩ : Fin 512) n) = ix2 R n := by
    funext a; apply Fin.ext
    match a with
    | ⟨0, _⟩ => show win0_7.index ⟨R.val / 512, ht⟩ (0 : Fin 2) * 512 + 1 * (R.val % 512) = R.val; rw [e0]; show R.val / 512 * 512 + _ = _; omega
    | ⟨1, _⟩ => show win0_7.index ⟨R.val / 512, ht⟩ (1 : Fin 2) * 2048 + 1 * n.val = n.val; omega
  have hR' : R.val = 512 * (R.val / 512) + R.val % 512 := by omega
  refine (congrArg ((dats m 0 c).arrAt 7 cfg0.N) hemb.symm).trans (key.trans ?_)
  rw [out7_eq]
  refine (pay1_apply _ _ _ (⟨R.val % 512, Nat.mod_lt _ (by decide)⟩ : Fin 512) n).trans ?_
  rw [pay4_apply, pay3_apply]
  unfold nxt rms
  rw [row_apply m c _ _ R hR' n, blk5 m c]
  simp only [row_apply m c ⟨R.val / 512, ht⟩ (⟨R.val % 512, Nat.mod_lt _ (by decide)⟩ : Fin 512) R hR']

open Cert.PleRefIdeal.Read in
/-- THE REFERENCE'S FIRST RESULT at row `R`, column `n`. -/
theorem ref6_apply (h : S8704x2048.Idx → EReal) (p : S4x8704x256.Idx → EReal) (wg : S4x2048x2048.Idx → EReal) (wp : S4x256x2048.Idx → EReal)
    (g : S4x2048.Idx → EReal) (R : Fin 8704) (n : Fin 2048) :
    val_main_v30 (F := Ideal) h p wg wp g (ix2 R n) = ple h p wg wp g R n := by
  unfold ple row rms
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  rfl

open Cert.PleRefIdeal.Read in
/-- THE REFERENCE'S SECOND RESULT at row `R`, column `n`. -/
theorem ref7_apply (h : S8704x2048.Idx → EReal) (p : S4x8704x256.Idx → EReal) (wg : S4x2048x2048.Idx → EReal) (wp : S4x256x2048.Idx → EReal)
    (g : S4x2048.Idx → EReal) (gn : S5x2048.Idx → EReal) (R : Fin 8704) (n : Fin 2048) :
    val_main_v46 (F := Ideal) h p wg wp g gn (ix2 R n) = nxt h p wg wp g gn R n := by
  unfold nxt rms
  simp only [← ref6_apply]
  pointwise [val_main_v46, val_main_v45, val_main_v44, val_main_v43, val_main_v42, val_main_v41, val_main_v40, val_main_v39, val_main_v38, val_main_v37, val_main_v36, val_main_v35, val_main_v34, val_main_v33, val_main_v32, val_main_v31, val_main_cst_4, val_main_cst_5, val_main_cst_6]

end Cert.Proof.Ple

end
-- ==== Proof.PleClaim.lean ====
/- The claims of the per-layer embedding: the reference's frame and the kernel's equality with it. -/
module

public import proofs.«01_k».proof.Defs
public import proofs.«01_k».proof.Proof.PleMix
public import proofs.«01_k».proof.Proof.Gen.PleRefIdeal.Run
public import Idealize.ShloMosaic.Lib.Quiescent

@[expose] public section

set_option maxRecDepth 16384

noncomputable section

namespace Cert.Proof.Ple

open Idealize.ShloMosaic Idealize.ShloMosaic.TcCoe Idealize.SL.Sem

/-- The reference's run ends with its arguments as they were and every semaphore counter at zero. -/
theorem frame_ref : Cert.quiescent_PleRefIdeal := fun m ρ _ =>
  (θ_run Cert.PleRefIdeal.defs _ _).mono (fun r h => ⟨fun c => (h c).2.2, Idealize.ShloMosaic.sem_eq_zero_of_no_sems (by decide) r.2⟩)
    (Cert.PleRefIdeal.Value.run (F := Ideal) m ρ)

/-- At the ideal instance the kernel's results are the reference's, of the same arguments. -/
theorem algebraic : Cert.algebraic_PleIdeal_PleRefIdeal := by
  intro m ρ m' ρ' _ hag
  refine ⟨fun c => (Cert.PleIdeal.Gen.dats m 0 c).arrAt 6 Cert.PleIdeal.cfg0.N, fun c => (Cert.PleIdeal.Gen.dats m 0 c).arrAt 7 Cert.PleIdeal.cfg0.N, Cert.PleIdeal.Value.run_blocks (F := Ideal) m ρ, ?_⟩
  refine (θ_run Cert.PleRefIdeal.defs _ _).mono (fun r h c => ?_) (Cert.PleRefIdeal.Value.run (F := Ideal) m' ρ')
  obtain ⟨e0, e1, e2, e3, e4, e5⟩ := hag c
  refine ⟨(h c).1.trans ?_, (h c).2.1.trans ?_, (h c).2.2⟩
  · refine (Cert.PleRefIdeal.Read.val_main_v30_eq _ _ _ _ _).trans ?_
    rw [e0, e1, e2, e3, e4]
    funext i
    rw [eq_ix2 i]
    exact (Ple.ref6_apply _ _ _ _ _ (i 0) (i 1)).trans (Ple.out6_apply m c (i 0) (i 1)).symm
  · refine (Cert.PleRefIdeal.Read.val_main_v46_eq m' c).trans ?_
    rw [e0, e1, e2, e3, e4, e5]
    funext i
    rw [eq_ix2 i]
    exact (Ple.ref7_apply _ _ _ _ _ _ (i 0) (i 1)).trans (Ple.out7_apply m c (i 0) (i 1)).symm

end Cert.Proof.Ple

end
-- ==== Proof.GmlpInMix.lean ====
/- The gated perceptron's entry: what the kernel leaves in its two results, and that the reference computes the same.
   With `z[r,n] = ∑ d, x[r,d]·w[0,d,2048+n]` (2048 columns) and `γ` the tanh form of the Gaussian error unit, the first
   result is `γ(z[r,n])` for the first 1024 columns, the second the layer norm, with its weights and offsets, of `γ(z[r,1024+n])`. -/
module

public import proofs.«01_k».proof.Proof.Gen.GmlpInIdeal.Value
public import proofs.«01_k».proof.Proof.Gen.GmlpInRefIdeal.Read
public import Idealize.ShloMosaic.Lib.Pointwise
public import Idealize.ShloMosaic.Lib.StableHlo.ReadAt

@[expose] public section

set_option maxRecDepth 16384

noncomputable section

namespace Cert.Proof.GmlpIn

open Idealize.ShloMosaic Idealize.ShloMosaic.TcCoe Idealize.SL.Sem
open Cert.GmlpInIdeal Cert.GmlpInIdeal.Gen

/-- The Gaussian error unit, in its tanh form with the layer's constants. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * (z * z))))))

/-- One column of the product, through the error unit. -/
def unit (x w : Fin 2048 → EReal) : EReal := gelu (∑ d : Fin 2048, x d * w d)

/-- The mean of a row. -/
def mean (f : Fin 1024 → EReal) : EReal := Ideal.div (∑ d : Fin 1024, f d) (Ideal.ofBits .f32 0x44800000#32)

/-- Layer norm of the row `f` with weights `g` and offsets `b`, at column `n`. -/
def norm (f g b : Fin 1024 → EReal) (n : Fin 1024) : EReal :=
  (f n - mean f) * Ideal.rsqrt (mean (fun d => (f d - mean f) * (f d - mean f)) + Ideal.ofBits .f32 0x358637BD#32) * g n + b n

/-- The first payload at an index. -/
theorem pay2_apply (v0 : Vec Ideal S512x2048 .bf16) (v1 : Vec Ideal S1x2048x1024 .bf16) (r : Fin 512) (n : Fin 1024) :
    k0_pay2 (F := Ideal) v0 v1 (ix2 r n) = unit (fun d => v0 (ix2 r d)) (fun d => v1 (ix3 0 d n)) := by
  unfold unit gelu
  pointwise [k0_pay2]

/-- The second half of the product, through the error unit. -/
theorem pay3_apply (v0 : Vec Ideal S512x2048 .bf16) (v1 : Vec Ideal S1x2048x1024 .bf16) (r : Fin 512) (n : Fin 1024) :
    k0_pay3 (F := Ideal) v0 v1 (ix2 r n) = unit (fun d => v0 (ix2 r d)) (fun d => v1 (ix3 0 d n)) := by
  unfold unit gelu
  pointwise [k0_pay3]

/-- The second payload at an index: the layer norm of a row. -/
theorem pay1_apply (v34 : Vec Ideal S512x1024 .f32) (v35 v37 : Vec Ideal S1x1x1024 .f32) (r : Fin 512) (n : Fin 1024) :
    k0_pay1 (F := Ideal) v34 v35 v37 (ix2 r n) =
      norm (fun d => v34 (ix2 r d)) (fun d => v35 (ix3 0 0 d)) (fun d => v37 (ix3 0 0 d)) n := by
  unfold norm mean
  pointwise [k0_pay1]

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the two output blocks. -/
theorem out_eq (x0 : Vec Ideal S512x2048 .bf16) (x1 x2 : Vec Ideal S1x2048x1024 .bf16) (x3 x4 : Vec Ideal S1x1x1024 .f32) :
    out0_5 (F := Ideal) x0 x1 x2 x3 x4 = k0_pay2 (F := Ideal) x0 x1
    ∧ out0_6 (F := Ideal) x0 x1 x2 x3 x4 = k0_pay1 (F := Ideal) (k0_pay3 (F := Ideal) x0 x2) x3 x4 := by
  unfold out0_5 out0_6
  rw [View.canon_unit_zero hz2, View.canon_unit_zero hz2]
  simp only [View.ld_unit_zero (S := S512x2048) hz2, View.ld_unit_zero (S := S1x2048x1024) hz3, View.ld_unit_zero (S := S1x1x1024) hz3]
  exact ⟨trivial, trivial⟩

variable (m : (ℓ : Loc nD τ sig) → Buf (Elt Ideal) ℓ)

/-- The weights as the launch finds them: the argument, its format change the identity. -/
theorem V_w (c : Dev nD) (i : S4x2048x13312.Idx) : V m c main_v0 i = m ((c : Thread nD τ).loc main_arg1) i := by
  unfold V hostOps0
  after_reads_at
/-- The norm's weights and offsets as the launch finds them: the arguments with a unit axis put in. -/
theorem V_g (c : Dev nD) (a : Fin 4) (n : Fin 1024) : V m c main_v1 (ix3 a 0 n) = m ((c : Thread nD τ).loc main_arg2) (ix2 a n) := by
  unfold V hostOps0
  after_reads_at
theorem V_b (c : Dev nD) (a : Fin 4) (n : Fin 1024) : V m c main_v2 (ix3 a 0 n) = m ((c : Thread nD τ).loc main_arg3) (ix2 a n) := by
  unfold V hostOps0
  after_reads_at

/-- The row block of the input at point `t`. -/
theorem blk0 (c : Dev nD) (t : Fin cfg0.N) (r : Fin 512) (d : Fin 2048) (R : Fin 8704) (hR : R.val = 512 * t.val + r.val) :
    iblk m c 0 t (ix2 r d) = m ((c : Thread nD τ).loc main_arg0) (ix2 R d) := by
  rw [← V_main_arg0 m c]
  show V m c main_arg0 (((cfg0.win 0).blk t).view.emb (ix2 r d)) = _
  have e : ∀ t : Fin cfg0.N, win0_0.index t (0 : Fin 2) = t.val ∧ win0_0.index t (1 : Fin 2) = 0 :=
    (by decide +kernel : ∀ t : Fin grid0.N, _)
  obtain ⟨e0, e1⟩ := e t
  refine congrArg (V m c main_arg0) (funext fun a => Fin.ext ?_)
  match a with
  | ⟨0, _⟩ => show win0_0.index t (0 : Fin 2) * 512 + 1 * r.val = R.val; omega
  | ⟨1, _⟩ => show win0_0.index t (1 : Fin 2) * 2048 + 1 * d.val = d.val; omega

/-- The weights' columns from 2048. -/
theorem blk1 (c : Dev nD) (t : Fin cfg0.N) (d : Fin 2048) (n : Fin 1024) (D : Fin 13312) (hD : D.val = 2048 + n.val) :
    iblk m c 1 t (ix3 0 d n) = m ((c : Thread nD τ).loc main_arg1) (ix3 0 d D) := by
  rw [← V_w m c]
  show V m c main_v0 (((cfg0.win 1).blk t).view.emb (ix3 0 d n)) = _
  have e : ∀ t : Fin cfg0.N, win0_1.index t (0 : Fin 3) = 0 ∧ win0_1.index t (1 : Fin 3) = 0 ∧ win0_1.index t (2 : Fin 3) = 2 :=
    (by decide +kernel : ∀ t : Fin grid0.N, _)
  obtain ⟨e0, e1, e2⟩ := e t
  refine congrArg (V m c main_v0) (funext fun a => Fin.ext ?_)
  match a with
  | ⟨0, _⟩ => show win0_1.index t (0 : Fin 3) * 1 + 1 * 0 = 0; omega
  | ⟨1, _⟩ => show win0_1.index t (1 : Fin 3) * 2048 + 1 * d.val = d.val; omega
  | ⟨2, _⟩ => show win0_1.index t (2 : Fin 3) * 1024 + 1 * n.val = D.val; omega

/-- The weights' columns from 3072. -/
theorem blk2 (c : Dev nD) (t : Fin cfg0.N) (d : Fin 2048) (n : Fin 1024) (D : Fin 13312) (hD : D.val = 3072 + n.val) :
    iblk m c 2 t (ix3 0 d n) = m ((c : Thread nD τ).loc main_arg1) (ix3 0 d D) := by
  rw [← V_w m c]
  show V m c main_v0 (((cfg0.win 2).blk t).view.emb (ix3 0 d n)) = _
  have e : ∀ t : Fin cfg0.N, win0_2.index t (0 : Fin 3) = 0 ∧ win0_2.index t (1 : Fin 3) = 0 ∧ win0_2.index t (2 : Fin 3) = 3 :=
    (by decide +kernel : ∀ t : Fin grid0.N, _)
  obtain ⟨e0, e1, e2⟩ := e t
  refine congrArg (V m c main_v0) (funext fun a => Fin.ext ?_)
  match a with
  | ⟨0, _⟩ => show win0_2.index t (0 : Fin 3) * 1 + 1 * 0 = 0; omega
  | ⟨1, _⟩ => show win0_2.index t (1 : Fin 3) * 2048 + 1 * d.val = d.val; omega
  | ⟨2, _⟩ => show win0_2.index t (2 : Fin 3) * 1024 + 1 * n.val = D.val; omega

/-- The norm's weights or offsets. -/
theorem blk3 (c : Dev nD) (t : Fin cfg0.N) (n : Fin 1024) :
    iblk m c 3 t (ix3 0 0 n) = m ((c : Thread nD τ).loc main_arg2) (ix2 0 n) := by
  rw [← V_g m c]
  show V m c main_v1 (((cfg0.win 3).blk t).view.emb (ix3 0 0 n)) = _
  have e : ∀ t : Fin cfg0.N, win0_3.index t (0 : Fin 3) = 0 ∧ win0_3.index t (1 : Fin 3) = 0 ∧ win0_3.index t (2 : Fin 3) = 0 :=
    (by decide +kernel : ∀ t : Fin grid0.N, _)
  obtain ⟨e0, e1, e2⟩ := e t
  refine congrArg (V m c main_v1) (funext fun a => Fin.ext ?_)
  match a with
  | ⟨0, _⟩ => show win0_3.index t (0 : Fin 3) * 1 + 1 * 0 = 0; omega
  | ⟨1, _⟩ => show win0_3.index t (1 : Fin 3) * 1 + 1 * 0 = 0; omega
  | ⟨2, _⟩ => show win0_3.index t (2 : Fin 3) * 1024 + 1 * n.val = n.val; omega

/-- The norm's weights or offsets. -/
theorem blk4 (c : Dev nD) (t : Fin cfg0.N) (n : Fin 1024) :
    iblk m c 4 t (ix3 0 0 n) = m ((c : Thread nD τ).loc main_arg3) (ix2 0 n) := by
  rw [← V_b m c]
  show V m c main_v2 (((cfg0.win 4).blk t).view.emb (ix3 0 0 n)) = _
  have e : ∀ t : Fin cfg0.N, win0_4.index t (0 : Fin 3) = 0 ∧ win0_4.index t (1 : Fin 3) = 0 ∧ win0_4.index t (2 : Fin 3) = 0 :=
    (by decide +kernel : ∀ t : Fin grid0.N, _)
  obtain ⟨e0, e1, e2⟩ := e t
  refine congrArg (V m c main_v2) (funext fun a => Fin.ext ?_)
  match a with
  | ⟨0, _⟩ => show win0_4.index t (0 : Fin 3) * 1 + 1 * 0 = 0; omega
  | ⟨1, _⟩ => show win0_4.index t (1 : Fin 3) * 1 + 1 * 0 = 0; omega
  | ⟨2, _⟩ => show win0_4.index t (2 : Fin 3) * 1024 + 1 * n.val = n.val; omega

/-- Column `D` of the product at row `R`, through the error unit. -/
def col (x : S8704x2048.Idx → EReal) (w : S4x2048x13312.Idx → EReal) (R : Fin 8704) (D : Fin 13312) : EReal :=
  unit (fun d => x (ix2 R d)) (fun d => w (ix3 0 d D))

/-- The second result at row `R`, column `n`. -/
def snd (x : S8704x2048.Idx → EReal) (w : S4x2048x13312.Idx → EReal) (g b : S4x1024.Idx → EReal) (R : Fin 8704) (n : Fin 1024) : EReal :=
  norm (fun n => col x w R ⟨3072 + n.val, by omega⟩) (fun d => g (ix2 0 d)) (fun d => b (ix2 0 d)) n

/-- THE KERNEL'S FIRST RESULT: the array after the run at row `R`, column `n`. -/
theorem out5_apply (c : Dev nD) (R : Fin 8704) (n : Fin 1024) :
    (dats m 0 c).arrAt 5 cfg0.N (ix2 R n) = col (m ((c : Thread nD τ).loc main_arg0)) (m ((c : Thread nD τ).loc main_arg1)) R ⟨2048 + n.val, by omega⟩ := by
  have hN : cfg0.N = 17 := N_0
  have hR := R.isLt
  have ht : R.val / 512 < cfg0.N := by rw [hN]; omega
  have e : ∀ t : Fin cfg0.N, win0_5.index t (0 : Fin 2) = t.val ∧ win0_5.index t (1 : Fin 2) = 0 ∧ (cfg0.win 5).flush t = true :=
    (by decide +kernel : ∀ t : Fin grid0.N, _)
  obtain ⟨e0, e1, hf⟩ := e ⟨R.val / 512, ht⟩
  have key := congrFun (Value.blocks5 m c ⟨R.val / 512, ht⟩ hf) (ix2 (⟨R.val % 512, Nat.mod_lt _ (by decide)⟩ : Fin 512) n)
  rw [Value.flushed5] at key
  have hemb : ((cfg0.win 5).blk ⟨R.val / 512, ht⟩).view.emb (ix2 (⟨R.val % 512, Nat.mod_lt _ (by decide)⟩ : Fin 512) n) = ix2 R n := by
    funext a; apply Fin.ext
    match a with
    | ⟨0, _⟩ => show win0_5.index ⟨R.val / 512, ht⟩ (0 : Fin 2) * 512 + 1 * (R.val % 512) = R.val; rw [e0]; show R.val / 512 * 512 + _ = _; omega
    | ⟨1, _⟩ => show win0_5.index ⟨R.val / 512, ht⟩ (1 : Fin 2) * 1024 + 1 * n.val = n.val; omega
  have hR' : R.val = 512 * (R.val / 512) + R.val % 512 := by omega
  refine (congrArg ((dats m 0 c).arrAt 5 cfg0.N) hemb.symm).trans (key.trans ?_)
  rw [(out_eq _ _ _ _ _).1]
  refine (pay2_apply _ _ _ n).trans ?_
  unfold col
  congr 1
  · funext d; exact blk0 m c _ _ d R hR'
  · funext d; exact blk1 m c _ d n _ rfl

/-- THE KERNEL'S SECOND RESULT: the array after the run at row `R`, column `n`. -/
theorem out6_apply (c : Dev nD) (R : Fin 8704) (n : Fin 1024) :
    (dats m 0 c).arrAt 6 cfg0.N (ix2 R n) = snd (m ((c : Thread nD τ).loc main_arg0)) (m ((c : Thread nD τ).loc main_arg1)) (m ((c : Thread nD τ).loc main_arg2)) (m ((c : Thread nD τ).loc main_arg3)) R n := by
  have hN : cfg0.N = 17 := N_0
  have hR := R.isLt
  have ht : R.val / 512 < cfg0.N := by rw [hN]; omega
  have e : ∀ t : Fin cfg0.N, win0_6.index t (0 : Fin 2) = t.val ∧ win0_6.index t (1 : Fin 2) = 0 ∧ (cfg0.win 6).flush t = true :=
    (by decide +kernel : ∀ t : Fin grid0.N, _)
  obtain ⟨e0, e1, hf⟩ := e ⟨R.val / 512, ht⟩
  have key := congrFun (Value.blocks6 m c ⟨R.val / 512, ht⟩ hf) (ix2 (⟨R.val % 512, Nat.mod_lt _ (by decide)⟩ : Fin 512) n)
  rw [Value.flushed6] at key
  have hemb : ((cfg0.win 6).blk ⟨R.val / 512, ht⟩).view.emb (ix2 (⟨R.val % 512, Nat.mod_lt _ (by decide)⟩ : Fin 512) n) = ix2 R n := by
    funext a; apply Fin.ext
    match a with
    | ⟨0, _⟩ => show win0_6.index ⟨R.val / 512, ht⟩ (0 : Fin 2) * 512 + 1 * (R.val % 512) = R.val; rw [e0]; show R.val / 512 * 512 + _ = _; omega
    | ⟨1, _⟩ => show win0_6.index ⟨R.val / 512, ht⟩ (1 : Fin 2) * 1024 + 1 * n.val = n.val; omega
  have hR' : R.val = 512 * (R.val / 512) + R.val % 512 := by omega
  refine (congrArg ((dats m 0 c).arrAt 6 cfg0.N) hemb.symm).trans (key.trans ?_)
  rw [(out_eq _ _ _ _ _).2]
  refine (pay1_apply _ _ _ _ n).trans ?_
  unfold snd
  congr 1
  · funext n
    refine (pay3_apply _ _ _ n).trans ?_
    unfold col
    congr 1
    · funext d; exact blk0 m c _ _ d R hR'
    · funext d; exact blk2 m c _ d n _ rfl
  · funext d; exact blk3 m c _ d
  · funext d; exact blk4 m c _ d

open Cert.GmlpInRefIdeal.Read in
/-- THE REFERENCE'S FIRST RESULT at row `R`, column `n`. -/
theorem ref5_apply (x : S8704x2048.Idx → EReal) (w : S4x2048x13312.Idx → EReal) (R : Fin 8704) (n : Fin 1024) :
    val_main_v25 (F := Ideal) x w (ix2 R n) = col x w R ⟨2048 + n.val, by omega⟩ := by
  unfold col unit gelu
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  simp only [mul_assoc]

open Cert.GmlpInRefIdeal.Read in
/-- THE REFERENCE'S SECOND RESULT at row `R`, column `n`. -/
theorem ref6_apply (x : S8704x2048.Idx → EReal) (w : S4x2048x13312.Idx → EReal) (g b : S4x1024.Idx → EReal) (R : Fin 8704) (n : Fin 1024) :
    val_main_v51 (F := Ideal) x w g b (ix2 R n) = snd x w g b R n := by
  have h (n : Fin 1024) : val_main_v24 (F := Ideal) x w (ix2 R n) = col x w R ⟨3072 + n.val, by omega⟩ := by
    unfold col unit gelu
    pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_v24, val_main_cst, val_main_cst_0, val_main_cst_1, val_main_cst_2]
    simp only [mul_assoc, ← Nat.add_assoc, Nat.reduceAdd]
  unfold snd norm mean
  simp only [← h]
  pointwise [val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_cst_3, val_main_cst_4, val_main_cst_5, val_main_cst_6, val_main_cst_7]

end Cert.Proof.GmlpIn

end
-- ==== Proof.GmlpInClaim.lean ====
/- The claims of the gated perceptron's entry: the reference's frame and the kernel's equality with it. -/
module

public import proofs.«01_k».proof.Defs
public import proofs.«01_k».proof.Proof.GmlpInMix
public import proofs.«01_k».proof.Proof.Gen.GmlpInRefIdeal.Run
public import Idealize.ShloMosaic.Lib.Quiescent

@[expose] public section

set_option maxRecDepth 16384

noncomputable section

namespace Cert.Proof.GmlpIn

open Idealize.ShloMosaic Idealize.ShloMosaic.TcCoe Idealize.SL.Sem

/-- The reference's run ends with its arguments as they were and every semaphore counter at zero. -/
theorem frame_ref : Cert.quiescent_GmlpInRefIdeal := fun m ρ _ =>
  (θ_run Cert.GmlpInRefIdeal.defs _ _).mono (fun r h => ⟨fun c => (h c).2.2, Idealize.ShloMosaic.sem_eq_zero_of_no_sems (by decide) r.2⟩)
    (Cert.GmlpInRefIdeal.Value.run (F := Ideal) m ρ)

/-- At the ideal instance the kernel's results are the reference's, of the same arguments. -/
theorem algebraic : Cert.algebraic_GmlpInIdeal_GmlpInRefIdeal := by
  intro m ρ m' ρ' _ hag
  refine ⟨fun c => (Cert.GmlpInIdeal.Gen.dats m 0 c).arrAt 5 Cert.GmlpInIdeal.cfg0.N, fun c => (Cert.GmlpInIdeal.Gen.dats m 0 c).arrAt 6 Cert.GmlpInIdeal.cfg0.N, Cert.GmlpInIdeal.Value.run_blocks (F := Ideal) m ρ, ?_⟩
  refine (θ_run Cert.GmlpInRefIdeal.defs _ _).mono (fun r h c => ?_) (Cert.GmlpInRefIdeal.Value.run (F := Ideal) m' ρ')
  obtain ⟨e0, e1, e2, e3⟩ := hag c
  refine ⟨(h c).1.trans ?_, (h c).2.1.trans ?_, (h c).2.2⟩
  · refine (Cert.GmlpInRefIdeal.Read.val_main_v25_eq _ _).trans ?_
    rw [e0, e1]
    funext i
    rw [eq_ix2 i]
    exact (GmlpIn.ref5_apply _ _ (i 0) (i 1)).trans (GmlpIn.out5_apply m c (i 0) (i 1)).symm
  · refine (Cert.GmlpInRefIdeal.Read.val_main_v51_eq m' c).trans ?_
    rw [e0, e1, e2, e3]
    funext i
    rw [eq_ix2 i]
    exact (GmlpIn.ref6_apply _ _ _ _ (i 0) (i 1)).trans (GmlpIn.out6_apply m c (i 0) (i 1)).symm

end Cert.Proof.GmlpIn

end
-- ==== Proof.QkvMix.lean ====
/- Queries, keys, values: what the kernel leaves in its four results, and that the reference computes the same.
   With `z[r,n] = ∑ d, x[r,d]·w[0,d,n]`, the first three results are the columns 4096, 5120 and 6144 onwards of `z`, 1024
   of them each. The fourth holds, in its first 1536 rows, the columns 5120 to 7168 of the rows kept for the next step: the
   last 512 rows of each of the prompt's two sequences and the sample's 512 rows. -/
module

public import proofs.«01_k».proof.Proof.Gen.QkvIdeal.Value
public import proofs.«01_k».proof.Proof.Gen.QkvRefIdeal.Read
public import Idealize.ShloMosaic.Lib.Pointwise
public import Idealize.ShloMosaic.Lib.StableHlo.ReadAt
public import Idealize.ShloMosaic.Lib.Pipeline.ValueKit.Tiles

@[expose] public section

set_option maxRecDepth 16384

noncomputable section

namespace Cert.Proof.Qkv

open Idealize.ShloMosaic Idealize.ShloMosaic.TcCoe Idealize.SL.Sem
open Cert.QkvIdeal Cert.QkvIdeal.Gen

theorem pay1_apply (v0 : Vec Ideal S512x2048 .bf16) (v1 : Vec Ideal S1x2048x1024 .bf16) (r : Fin 512) (n : Fin 1024) :
    k0_pay1 (F := Ideal) v0 v1 (ix2 r n) = ∑ d : Fin 2048, v0 (ix2 r d) * v1 (ix3 0 d n) := by
  pointwise [k0_pay1]
theorem pay3_apply (v0 : Vec Ideal S512x2048 .bf16) (v1 : Vec Ideal S1x2048x1024 .bf16) (r : Fin 512) (n : Fin 1024) :
    k0_pay3 (F := Ideal) v0 v1 (ix2 r n) = ∑ d : Fin 2048, v0 (ix2 r d) * v1 (ix3 0 d n) := by
  pointwise [k0_pay3, k0_pay2]
theorem pay5_apply (v0 : Vec Ideal S512x2048 .bf16) (v1 : Vec Ideal S1x2048x1024 .bf16) (r : Fin 512) (n : Fin 1024) :
    k0_pay5 (F := Ideal) v0 v1 (ix2 r n) = ∑ d : Fin 2048, v0 (ix2 r d) * v1 (ix3 0 d n) := by
  pointwise [k0_pay5, k0_pay4]
theorem pay2_apply (v0 : Vec Ideal S512x2048 .bf16) (v1 : Vec Ideal S1x2048x1024 .bf16) (r : Fin 512) (n : Fin 1024) :
    k0_pay2 (F := Ideal) v0 v1 (ix2 r n) = ∑ d : Fin 2048, v0 (ix2 r d) * v1 (ix3 0 d n) := by
  exact pay3_apply v0 v1 r n
theorem pay4_apply (v0 : Vec Ideal S512x2048 .bf16) (v1 : Vec Ideal S1x2048x1024 .bf16) (r : Fin 512) (n : Fin 1024) :
    k0_pay4 (F := Ideal) v0 v1 (ix2 r n) = ∑ d : Fin 2048, v0 (ix2 r d) * v1 (ix3 0 d n) := by
  exact pay5_apply v0 v1 r n

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the first three output blocks. -/
theorem out_eq (x0 : Vec Ideal S512x2048 .bf16) (x1 x2 x3 : Vec Ideal S1x2048x1024 .bf16) :
    out0_4 (F := Ideal) x0 x1 x2 x3 = k0_pay1 (F := Ideal) x0 x1
    ∧ out0_5 (F := Ideal) x0 x1 x2 x3 = k0_pay3 (F := Ideal) x0 x2
    ∧ out0_6 (F := Ideal) x0 x1 x2 x3 = k0_pay5 (F := Ideal) x0 x3 := by
  unfold out0_4 out0_5 out0_6
  rw [View.canon_unit_zero hz2, View.canon_unit_zero hz2, View.canon_unit_zero hz2]
  simp only [View.ld_unit_zero (S := S512x2048) hz2, View.ld_unit_zero (S := S1x2048x1024) hz3]
  exact ⟨trivial, trivial, trivial⟩

/-- One of the two stores of the fourth result, on the columns it covers. -/
theorem tile (off : ℕ) (p : Vec Ideal S512x1024 .f32) (v0 : Vec Ideal S512x2048 .bf16) (v1 : Vec Ideal S1x2048x1024 .bf16)
    (hp : ∀ r n, p (ix2 r n) = ∑ d : Fin 2048, v0 (ix2 r d) * v1 (ix3 0 d n))
    (W : Fin 2048 → Fin 2048 → EReal)
    (hW : ∀ d (f : Fin 1024) (f' : Fin 2048), f'.val = off + f.val → v1 (ix3 0 d f) = W d f') (r : Fin 512) (j : Fin 2048) :
    View.TileAt (S := S512x2048) (Val := Elt Ideal) (e := .f32) (ix2 r j) ![0, off] S512x1024.size p
      (∑ d : Fin 2048, v0 (ix2 r d) * W d j) := by
  intro x hx
  have h0 : r.val = 0 + (x 0).val := hx 0
  have h1 : j.val = off + (x 1).val := hx 1
  have hr : (x 0 : Fin 512) = r := Fin.ext (by omega)
  have e : x = ix2 (x 0) (x 1) := eq_ix2 x
  rw [e]
  refine (hp (x 0) (x 1)).trans ?_
  rw [hr]
  exact Finset.sum_congr rfl fun d _ => by rw [hW d (x 1) j h1]

/-- What the body leaves in the fourth output block. -/
theorem out7_block (x0 : Vec Ideal S512x2048 .bf16) (x1 x2 x3 : Vec Ideal S1x2048x1024 .bf16) (W : Fin 2048 → Fin 2048 → EReal)
    (h2 : ∀ d (f : Fin 1024) (f' : Fin 2048), f'.val = 0 + f.val → x2 (ix3 0 d f) = W d f')
    (h3 : ∀ d (f : Fin 1024) (f' : Fin 2048), f'.val = 1024 + f.val → x3 (ix3 0 d f) = W d f')
    (r : Fin 512) (j : Fin 2048) :
    out0_7 (F := Ideal) x0 x1 x2 x3 (ix2 r j) = ∑ d : Fin 2048, x0 (ix2 r d) * W d j := by
  unfold out0_7
  simp only [View.ld_unit_zero (S := S512x2048) hz2, View.ld_unit_zero (S := S1x2048x1024) hz3]
  refine View.canon_eq_of_allAt _ _ _ (cover0_7 _ _ _) ?_
  refine View.allAt_cons_unit _ _ _ _ _ (tile 1024 _ x0 x3 (pay4_apply x0 x3) W h3 r j) ?_
  refine View.allAt_cons_unit _ _ _ _ _ (tile 0 _ x0 x2 (pay2_apply x0 x2) W h2 r j) ?_
  exact View.allAt_nil _ _

variable (m : (ℓ : Loc nD τ sig) → Buf (Elt Ideal) ℓ)

/-- The weights as the launch finds them: the argument, its format change the identity. -/
theorem V_w (c : Dev nD) (i : S4x2048x13312.Idx) : V m c main_v0 i = m ((c : Thread nD τ).loc main_arg1) i := by
  unfold V hostOps0
  after_reads_at

/-- The row block of the input at point `t`. -/
theorem blk0 (c : Dev nD) (t : Fin cfg0.N) (r : Fin 512) (d : Fin 2048) (R : Fin 8704) (hR : R.val = 512 * t.val + r.val) :
    iblk m c 0 t (ix2 r d) = m ((c : Thread nD τ).loc main_arg0) (ix2 R d) := by
  rw [← V_main_arg0 m c]
  show V m c main_arg0 (((cfg0.win 0).blk t).view.emb (ix2 r d)) = _
  have e : ∀ t : Fin cfg0.N, win0_0.index t (0 : Fin 2) = t.val ∧ win0_0.index t (1 : Fin 2) = 0 :=
    (by decide +kernel : ∀ t : Fin grid0.N, _)
  obtain ⟨e0, e1⟩ := e t
  refine congrArg (V m c main_arg0) (funext fun a => Fin.ext ?_)
  match a with
  | ⟨0, _⟩ => show win0_0.index t (0 : Fin 2) * 512 + 1 * r.val = R.val; omega
  | ⟨1, _⟩ => show win0_0.index t (1 : Fin 2) * 2048 + 1 * d.val = d.val; omega

/-- The weights' columns from 4096. -/
theorem blk1 (c : Dev nD) (t : Fin cfg0.N) (d : Fin 2048) (n : Fin 1024) (D : Fin 13312) (hD : D.val = 4096 + n.val) :
    iblk m c 1 t (ix3 0 d n) = m ((c : Thread nD τ).loc main_arg1) (ix3 0 d D) := by
  rw [← V_w m c]
  show V m c main_v0 (((cfg0.win 1).blk t).view.emb (ix3 0 d n)) = _
  have e : ∀ t : Fin cfg0.N, win0_1.index t (0 : Fin 3) = 0 ∧ win0_1.index t (1 : Fin 3) = 0 ∧ win0_1.index t (2 : Fin 3) = 4 :=
    (by decide +kernel : ∀ t : Fin grid0.N, _)
  obtain ⟨e0, e1, e2⟩ := e t
  refine congrArg (V m c main_v0) (funext fun a => Fin.ext ?_)
  match a with
  | ⟨0, _⟩ => show win0_1.index t (0 : Fin 3) * 1 + 1 * 0 = 0; omega
  | ⟨1, _⟩ => show win0_1.index t (1 : Fin 3) * 2048 + 1 * d.val = d.val; omega
  | ⟨2, _⟩ => show win0_1.index t (2 : Fin 3) * 1024 + 1 * n.val = D.val; omega

/-- The weights' columns from 5120. -/
theorem blk2 (c : Dev nD) (t : Fin cfg0.N) (d : Fin 2048) (n : Fin 1024) (D : Fin 13312) (hD : D.val = 5120 + n.val) :
    iblk m c 2 t (ix3 0 d n) = m ((c : Thread nD τ).loc main_arg1) (ix3 0 d D) := by
  rw [← V_w m c]
  show V m c main_v0 (((cfg0.win 2).blk t).view.emb (ix3 0 d n)) = _
  have e : ∀ t : Fin cfg0.N, win0_2.index t (0 : Fin 3) = 0 ∧ win0_2.index t (1 : Fin 3) = 0 ∧ win0_2.index t (2 : Fin 3) = 5 :=
    (by decide +kernel : ∀ t : Fin grid0.N, _)
  obtain ⟨e0, e1, e2⟩ := e t
  refine congrArg (V m c main_v0) (funext fun a => Fin.ext ?_)
  match a with
  | ⟨0, _⟩ => show win0_2.index t (0 : Fin 3) * 1 + 1 * 0 = 0; omega
  | ⟨1, _⟩ => show win0_2.index t (1 : Fin 3) * 2048 + 1 * d.val = d.val; omega
  | ⟨2, _⟩ => show win0_2.index t (2 : Fin 3) * 1024 + 1 * n.val = D.val; omega

/-- The weights' columns from 6144. -/
theorem blk3 (c : Dev nD) (t : Fin cfg0.N) (d : Fin 2048) (n : Fin 1024) (D : Fin 13312) (hD : D.val = 6144 + n.val) :
    iblk m c 3 t (ix3 0 d n) = m ((c : Thread nD τ).loc main_arg1) (ix3 0 d D) := by
  rw [← V_w m c]
  show V m c main_v0 (((cfg0.win 3).blk t).view.emb (ix3 0 d n)) = _
  have e : ∀ t : Fin cfg0.N, win0_3.index t (0 : Fin 3) = 0 ∧ win0_3.index t (1 : Fin 3) = 0 ∧ win0_3.index t (2 : Fin 3) = 6 :=
    (by decide +kernel : ∀ t : Fin grid0.N, _)
  obtain ⟨e0, e1, e2⟩ := e t
  refine congrArg (V m c main_v0) (funext fun a => Fin.ext ?_)
  match a with
  | ⟨0, _⟩ => show win0_3.index t (0 : Fin 3) * 1 + 1 * 0 = 0; omega
  | ⟨1, _⟩ => show win0_3.index t (1 : Fin 3) * 2048 + 1 * d.val = d.val; omega
  | ⟨2, _⟩ => show win0_3.index t (2 : Fin 3) * 1024 + 1 * n.val = D.val; omega

/-- Column `D` of the product at row `R`. -/
def col (x : S8704x2048.Idx → EReal) (w : S4x2048x13312.Idx → EReal) (R : Fin 8704) (D : Fin 13312) : EReal :=
  ∑ d : Fin 2048, x (ix2 R d) * w (ix3 0 d D)

/-- THE KERNEL'S QUERIES: the array after the run at row `R`, column `n`. -/
theorem out4_apply (c : Dev nD) (R : Fin 8704) (n : Fin 1024) :
    (dats m 0 c).arrAt 4 cfg0.N (ix2 R n) = col (m ((c : Thread nD τ).loc main_arg0)) (m ((c : Thread nD τ).loc main_arg1)) R ⟨4096 + n.val, by omega⟩ := by
  have hN : cfg0.N = 17 := N_0
  have hR := R.isLt
  have ht : R.val / 512 < cfg0.N := by rw [hN]; omega
  have e : ∀ t : Fin cfg0.N, win0_4.index t (0 : Fin 2) = t.val ∧ win0_4.index t (1 : Fin 2) = 0 ∧ (cfg0.win 4).flush t = true :=
    (by decide +kernel : ∀ t : Fin grid0.N, _)
  obtain ⟨e0, e1, hf⟩ := e ⟨R.val / 512, ht⟩
  have key := congrFun (Value.blocks4 m c ⟨R.val / 512, ht⟩ hf) (ix2 (⟨R.val % 512, Nat.mod_lt _ (by decide)⟩ : Fin 512) n)
  rw [Value.flushed4] at key
  have hemb : ((cfg0.win 4).blk ⟨R.val / 512, ht⟩).view.emb (ix2 (⟨R.val % 512, Nat.mod_lt _ (by decide)⟩ : Fin 512) n) = ix2 R n := by
    funext a; apply Fin.ext
    match a with
    | ⟨0, _⟩ => show win0_4.index ⟨R.val / 512, ht⟩ (0 : Fin 2) * 512 + 1 * (R.val % 512) = R.val; rw [e0]; show R.val / 512 * 512 + _ = _; omega
    | ⟨1, _⟩ => show win0_4.index ⟨R.val / 512, ht⟩ (1 : Fin 2) * 1024 + 1 * n.val = n.val; omega
  have hR' : R.val = 512 * (R.val / 512) + R.val % 512 := by omega
  refine (congrArg ((dats m 0 c).arrAt 4 cfg0.N) hemb.symm).trans (key.trans ?_)
  rw [(out_eq _ _ _ _).1]
  refine (pay1_apply _ _ _ n).trans ?_
  unfold col
  exact Finset.sum_congr rfl fun d _ => congrArg₂ (· * ·) (blk0 m c _ _ d R hR') (blk1 m c _ d n _ rfl)

/-- THE KERNEL'S KEYS: the array after the run at row `R`, column `n`. -/
theorem out5_apply (c : Dev nD) (R : Fin 8704) (n : Fin 1024) :
    (dats m 0 c).arrAt 5 cfg0.N (ix2 R n) = col (m ((c : Thread nD τ).loc main_arg0)) (m ((c : Thread nD τ).loc main_arg1)) R ⟨5120 + n.val, by omega⟩ := by
  have hN : cfg0.N = 17 := N_0
  have hR := R.isLt
  have ht : R.val / 512 < cfg0.N := by rw [hN]; omega
  have e : ∀ t : Fin cfg0.N, win0_5.index t (0 : Fin 2) = t.val ∧ win0_5.index t (1 : Fin 2) = 0 ∧ (cfg0.win 5).flush t = true :=
    (by decide +kernel : ∀ t : Fin grid0.N, _)
  obtain ⟨e0, e1, hf⟩ := e ⟨R.val / 512, ht⟩
  have key := congrFun (Value.blocks5 m c ⟨R.val / 512, ht⟩ hf) (ix2 (⟨R.val % 512, Nat.mod_lt _ (by decide)⟩ : Fin 512) n)
  rw [Value.flushed5] at key
  have hemb : ((cfg0.win 5).blk ⟨R.val / 512, ht⟩).view.emb (ix2 (⟨R.val % 512, Nat.mod_lt _ (by decide)⟩ : Fin 512) n) = ix2 R n := by
    funext a; apply Fin.ext
    match a with
    | ⟨0, _⟩ => show win0_5.index ⟨R.val / 512, ht⟩ (0 : Fin 2) * 512 + 1 * (R.val % 512) = R.val; rw [e0]; show R.val / 512 * 512 + _ = _; omega
    | ⟨1, _⟩ => show win0_5.index ⟨R.val / 512, ht⟩ (1 : Fin 2) * 1024 + 1 * n.val = n.val; omega
  have hR' : R.val = 512 * (R.val / 512) + R.val % 512 := by omega
  refine (congrArg ((dats m 0 c).arrAt 5 cfg0.N) hemb.symm).trans (key.trans ?_)
  rw [(out_eq _ _ _ _).2.1]
  refine (pay3_apply _ _ _ n).trans ?_
  unfold col
  exact Finset.sum_congr rfl fun d _ => congrArg₂ (· * ·) (blk0 m c _ _ d R hR') (blk2 m c _ d n _ rfl)

/-- THE KERNEL'S VALUES: the array after the run at row `R`, column `n`. -/
theorem out6_apply (c : Dev nD) (R : Fin 8704) (n : Fin 1024) :
    (dats m 0 c).arrAt 6 cfg0.N (ix2 R n) = col (m ((c : Thread nD τ).loc main_arg0)) (m ((c : Thread nD τ).loc main_arg1)) R ⟨6144 + n.val, by omega⟩ := by
  have hN : cfg0.N = 17 := N_0
  have hR := R.isLt
  have ht : R.val / 512 < cfg0.N := by rw [hN]; omega
  have e : ∀ t : Fin cfg0.N, win0_6.index t (0 : Fin 2) = t.val ∧ win0_6.index t (1 : Fin 2) = 0 ∧ (cfg0.win 6).flush t = true :=
    (by decide +kernel : ∀ t : Fin grid0.N, _)
  obtain ⟨e0, e1, hf⟩ := e ⟨R.val / 512, ht⟩
  have key := congrFun (Value.blocks6 m c ⟨R.val / 512, ht⟩ hf) (ix2 (⟨R.val % 512, Nat.mod_lt _ (by decide)⟩ : Fin 512) n)
  rw [Value.flushed6] at key
  have hemb : ((cfg0.win 6).blk ⟨R.val / 512, ht⟩).view.emb (ix2 (⟨R.val % 512, Nat.mod_lt _ (by decide)⟩ : Fin 512) n) = ix2 R n := by
    funext a; apply Fin.ext
    match a with
    | ⟨0, _⟩ => show win0_6.index ⟨R.val / 512, ht⟩ (0 : Fin 2) * 512 + 1 * (R.val % 512) = R.val; rw [e0]; show R.val / 512 * 512 + _ = _; omega
    | ⟨1, _⟩ => show win0_6.index ⟨R.val / 512, ht⟩ (1 : Fin 2) * 1024 + 1 * n.val = n.val; omega
  have hR' : R.val = 512 * (R.val / 512) + R.val % 512 := by omega
  refine (congrArg ((dats m 0 c).arrAt 6 cfg0.N) hemb.symm).trans (key.trans ?_)
  rw [(out_eq _ _ _ _).2.2]
  refine (pay5_apply _ _ _ n).trans ?_
  unfold col
  exact Finset.sum_congr rfl fun d _ => congrArg₂ (· * ·) (blk0 m c _ _ d R hR') (blk3 m c _ d n _ rfl)

/-- Which row of the activations row `i` of the fourth result keeps. -/
def src (i : ℕ) : ℕ := if i < 512 then 3584 + i else 7168 + i

theorem src_lt {i : ℕ} (h : i < 1536) : src i < 8704 := by unfold src; split <;> omega

/-- The block of the fourth result that each grid point writes: one of the first three blocks at the points 7, 15
    and 16 only, and there the rows are those kept. -/
theorem slot : ∀ t : Fin cfg0.N, win0_7.index t (1 : Fin 2) = 0 ∧
    (win0_7.index t (0 : Fin 2) = 3 ∨ ∀ r : Fin 512, src (win0_7.index t (0 : Fin 2) * 512 + r.val) = 512 * t.val + r.val) := by
  have h : ∀ t : Fin cfg0.N, win0_7.index t (1 : Fin 2) = 0 ∧
      (win0_7.index t (0 : Fin 2) = 3 ∨ (win0_7.index t (0 : Fin 2) = 0 ∧ t.val = 7)
        ∨ (win0_7.index t (0 : Fin 2) = 1 ∧ t.val = 15) ∨ (win0_7.index t (0 : Fin 2) = 2 ∧ t.val = 16)) :=
    (by decide +kernel : ∀ t : Fin grid0.N, _)
  intro t
  obtain ⟨h1, h | ⟨h, ht⟩ | ⟨h, ht⟩ | ⟨h, ht⟩⟩ := h t
  · exact ⟨h1, .inl h⟩
  all_goals
    refine ⟨h1, .inr fun r => ?_⟩
    have := r.isLt
    rw [h, ht]
    unfold src
    split <;> omega

/-- Each of the first three blocks of the fourth result is written by a point. -/
theorem slot_cover : ∀ s : Fin 3, ∃ t : Fin cfg0.N, (cfg0.win 7).flush t = true ∧ win0_7.index t (0 : Fin 2) = s.val :=
  (by decide +kernel : ∀ s : Fin 3, ∃ t : Fin grid0.N, _)

/-- THE KERNEL'S KEPT ROWS: the fourth array after the run at row `i`, below 1536, and column `n`. -/
theorem out7_apply (c : Dev nD) (i : Fin 2048) (n : Fin 2048) (hi : i.val < 1536) :
    (dats m 0 c).arrAt 7 cfg0.N (ix2 i n) =
      col (m ((c : Thread nD τ).loc main_arg0)) (m ((c : Thread nD τ).loc main_arg1)) ⟨src i.val, src_lt hi⟩ ⟨5120 + n.val, by omega⟩ := by
  obtain ⟨t, hf, hs⟩ := slot_cover ⟨i.val / 512, by omega⟩
  have hmem : (ix2 i n : S2048x2048.Idx) ∈ ((cfg0.win 7).blk t).view.set := by
    have h : ((cfg0.win 7).blk t).view.emb (ix2 (⟨i.val % 512, Nat.mod_lt _ (by decide)⟩ : Fin 512) n) = (ix2 i n : S2048x2048.Idx) := by
      funext a; apply Fin.ext
      have h1 := (slot t).1
      match a with
      | ⟨0, _⟩ => show win0_7.index t (0 : Fin 2) * 512 + 1 * (i.val % 512) = i.val; rw [hs]; show i.val / 512 * 512 + _ = _; omega
      | ⟨1, _⟩ => show win0_7.index t (1 : Fin 2) * 2048 + 1 * n.val = n.val; omega
    rw [← h]
    exact View.emb_mem_set _ _
  have key := (dats m 0 c).arrAt_forall_of_flushed 7
    (fun (j : S2048x2048.Idx) (v : EReal) => ∀ h : (j 0).val < 1536, v = col (m ((c : Thread nD τ).loc main_arg0)) (m ((c : Thread nD τ).loc main_arg1)) ⟨src (j 0).val, src_lt h⟩ ⟨5120 + (j 1).val, by have : (j 1).val < 2048 := (j 1).isLt; omega⟩)
    (fun t hf y => ?_) cfg0.N t (ix2 i n) t.isLt hf hmem
  · exact key hi
  · intro h
    rw [Value.flushed7]
    obtain ⟨h1, h3⟩ := slot t
    have hy0 : (y 0).val < 512 := (y 0).isLt
    have hy1 : (y 1).val < 2048 := (y 1).isLt
    have e0 : (((cfg0.win 7).blk t).view.emb y (0 : Fin 2)).val = win0_7.index t (0 : Fin 2) * 512 + (y 0).val := by
      show win0_7.index t (0 : Fin 2) * 512 + 1 * (y 0).val = _; omega
    have e1 : (((cfg0.win 7).blk t).view.emb y (1 : Fin 2)).val = (y 1).val := by
      show win0_7.index t (1 : Fin 2) * 2048 + 1 * (y 1).val = _; omega
    have hs : src (((cfg0.win 7).blk t).view.emb y (0 : Fin 2)).val = 512 * t.val + (y 0).val := by
      rw [e0]
      rcases h3 with h3 | h3
      · rw [e0, h3] at h; omega
      · exact h3 ⟨(y 0).val, hy0⟩
    refine Eq.trans ?_ ((out7_block (iblk m c 0 t) (iblk m c 1 t) (iblk m c 2 t) (iblk m c 3 t) (fun d j => m ((c : Thread nD τ).loc main_arg1) (ix3 0 d ⟨5120 + j.val, by omega⟩))
      (fun d f f' hf => blk2 m c t d f _ (by show 5120 + f'.val = _; omega))
      (fun d f f' hf => blk3 m c t d f _ (by show 5120 + f'.val = _; omega)) ⟨(y 0).val, hy0⟩ ⟨(y 1).val, hy1⟩).trans ?_)
    · generalize out0_7 (F := Ideal) (iblk m c 0 t) (iblk m c 1 t) (iblk m c 2 t) (iblk m c 3 t) = O
      show O (y : S512x2048.Idx) = _
      exact congrArg O (eq_ix2 (y : S512x2048.Idx))
    unfold col
    refine Finset.sum_congr rfl fun d _ => congrArg₂ (· * ·) (blk0 m c _ _ d _ hs) ?_
    exact congrArg (fun D => m ((c : Thread nD τ).loc main_arg1) (ix3 0 d D)) (Fin.ext (by show 5120 + (y 1).val = 5120 + _; rw [e1]))

open Cert.QkvRefIdeal.Read in
theorem ref18_apply (x : S8704x2048.Idx → EReal) (w : S4x2048x13312.Idx → EReal) (R : Fin 8704) (n : Fin 1024) :
    val_main_v18 (F := Ideal) x w (ix2 R n) = col x w R ⟨4096 + n.val, by omega⟩ := by
  unfold col
  pointwise [val_main_v18, val_main_v6, val_main_v3, val_main_v2, val_main_v1, val_main_v0]

open Cert.QkvRefIdeal.Read in
theorem ref7_apply (x : S8704x2048.Idx → EReal) (w : S4x2048x13312.Idx → EReal) (R : Fin 8704) (n : Fin 1024) :
    val_main_v7 (F := Ideal) x w (ix2 R n) = col x w R ⟨5120 + n.val, by omega⟩ := by
  unfold col
  pointwise [val_main_v7, val_main_v3, val_main_v2, val_main_v1, val_main_v0]

open Cert.QkvRefIdeal.Read in
theorem ref19_apply (x : S8704x2048.Idx → EReal) (w : S4x2048x13312.Idx → EReal) (R : Fin 8704) (n : Fin 1024) :
    val_main_v19 (F := Ideal) x w (ix2 R n) = col x w R ⟨5120 + n.val, by omega⟩ := by
  unfold col
  pointwise [val_main_v19, val_main_v7, val_main_v3, val_main_v2, val_main_v1, val_main_v0]

open Cert.QkvRefIdeal.Read in
theorem ref8_apply (x : S8704x2048.Idx → EReal) (w : S4x2048x13312.Idx → EReal) (R : Fin 8704) (n : Fin 1024) :
    val_main_v8 (F := Ideal) x w (ix2 R n) = col x w R ⟨6144 + n.val, by omega⟩ := by
  unfold col
  pointwise [val_main_v8, val_main_v3, val_main_v2, val_main_v1, val_main_v0]

open Cert.QkvRefIdeal.Read in
theorem ref20_apply (x : S8704x2048.Idx → EReal) (w : S4x2048x13312.Idx → EReal) (R : Fin 8704) (n : Fin 1024) :
    val_main_v20 (F := Ideal) x w (ix2 R n) = col x w R ⟨6144 + n.val, by omega⟩ := by
  unfold col
  pointwise [val_main_v20, val_main_v8, val_main_v3, val_main_v2, val_main_v1, val_main_v0]

open Cert.QkvRefIdeal.Read in
/-- Keys and values of the reference, side by side. -/
theorem ref10_apply (x : S8704x2048.Idx → EReal) (w : S4x2048x13312.Idx → EReal) (R : Fin 8704) (n : Fin 2048) :
    val_main_v10 (F := Ideal) x w (ix2 R n) = col x w R ⟨5120 + n.val, by omega⟩ := by
  unfold val_main_v10
  by_cases h : n.val < 1024
  · refine (concatenate_pair_apply_left (t := Cert.QkvRefIdeal.S8704x2048) (s₁ := Cert.QkvRefIdeal.S8704x1024) (s₂ := Cert.QkvRefIdeal.S8704x1024) 1 _ _ _ (ix2 R n) rfl (ix2 R ⟨n.val, h⟩) (fun b => ?_)).trans (ref7_apply x w R ⟨n.val, h⟩)
    match b with
    | ⟨0, _⟩ => rfl
    | ⟨1, _⟩ => rfl
  · have hn := n.isLt
    refine (concatenate_pair_apply_right (t := Cert.QkvRefIdeal.S8704x2048) (s₁ := Cert.QkvRefIdeal.S8704x1024) (s₂ := Cert.QkvRefIdeal.S8704x1024) 1 _ _ _ (ix2 R n) rfl rfl (ix2 R ⟨n.val - 1024, by omega⟩) (fun b hb => ?_) ?_).trans
      ((ref8_apply x w R ⟨n.val - 1024, by omega⟩).trans (congrArg (col x w R) (Fin.ext ?_)))
    · match b with
      | ⟨0, _⟩ => rfl
      | ⟨1, _⟩ => exact absurd rfl hb
    · show n.val - 1024 + 1024 = n.val; omega
    · show 6144 + (n.val - 1024) = 5120 + n.val; omega

open Cert.QkvRefIdeal.Read in
/-- The reference's fourth result at row `i`, below 1536. -/
theorem ref21_apply (x : S8704x2048.Idx → EReal) (w : S4x2048x13312.Idx → EReal) (i : Fin 2048) (n : Fin 2048) (hi : i.val < 1536) :
    val_main_v21 (F := Ideal) x w (ix2 i n) = col x w ⟨src i.val, src_lt hi⟩ ⟨5120 + n.val, by omega⟩ := by
  have hn := n.isLt
  unfold val_main_v21
  refine (concatenate_pair_apply_left (t := Cert.QkvRefIdeal.S2048x2048) (s₁ := Cert.QkvRefIdeal.S1536x2048) (s₂ := Cert.QkvRefIdeal.S512x2048) 0 _ _ _ (ix2 i n) rfl (ix2 ⟨i.val, hi⟩ n) (fun b => ?_)).trans ?_
  · match b with
    | ⟨0, _⟩ => rfl
    | ⟨1, _⟩ => rfl
  unfold val_main_v16
  by_cases h : i.val < 1024
  · refine (concatenate_pair_apply_left (t := Cert.QkvRefIdeal.S1536x2048) (s₁ := Cert.QkvRefIdeal.S1024x2048) (s₂ := Cert.QkvRefIdeal.S512x2048) 0 _ _ _ (ix2 ⟨i.val, hi⟩ n) rfl (ix2 ⟨i.val, h⟩ n) (fun b => ?_)).trans ?_
    · match b with
      | ⟨0, _⟩ => rfl
      | ⟨1, _⟩ => rfl
    rw [val_main_v14_apply, val_main_v13_apply, val_main_v12_apply, val_main_v11_apply]
    refine Eq.trans (congrArg _ (funext fun a => Fin.ext ?_)) (ref10_apply x w ⟨src i.val, src_lt hi⟩ n)
    match a with
    | ⟨0, _⟩ =>
      show (((i.val * 2048 + n.val) / 1048576 * 4096 + (3584 + (i.val * 2048 + n.val) / 2048 % 512)) * 2048
        + (i.val * 2048 + n.val) % 2048) / 2048 = src i.val
      unfold src; split <;> omega
    | ⟨1, _⟩ =>
      show (((i.val * 2048 + n.val) / 1048576 * 4096 + (3584 + (i.val * 2048 + n.val) / 2048 % 512)) * 2048
        + (i.val * 2048 + n.val) % 2048) % 2048 = n.val
      omega
  · refine (concatenate_pair_apply_right (t := Cert.QkvRefIdeal.S1536x2048) (s₁ := Cert.QkvRefIdeal.S1024x2048) (s₂ := Cert.QkvRefIdeal.S512x2048) 0 _ _ _ (ix2 ⟨i.val, hi⟩ n) rfl rfl (ix2 ⟨i.val - 1024, by omega⟩ n) (fun b hb => ?_) ?_).trans ?_
    · match b with
      | ⟨0, _⟩ => exact absurd rfl hb
      | ⟨1, _⟩ => rfl
    · show i.val - 1024 + 1024 = i.val; omega
    rw [val_main_v15_apply]
    refine Eq.trans (congrArg _ (funext fun a => Fin.ext ?_)) (ref10_apply x w ⟨src i.val, src_lt hi⟩ n)
    match a with
    | ⟨0, _⟩ => show 8192 + (i.val - 1024) = src i.val; unfold src; split <;> omega
    | ⟨1, _⟩ => rfl

end Cert.Proof.Qkv

end
-- ==== Proof.QkvClaim.lean ====
/- The claims of the queries, keys and values: the reference's frame and the kernel's equality with it. -/
module

public import proofs.«01_k».proof.Defs
public import proofs.«01_k».proof.Proof.QkvMix
public import proofs.«01_k».proof.Proof.Gen.QkvRefIdeal.Run
public import Idealize.ShloMosaic.Lib.Quiescent

@[expose] public section

set_option maxRecDepth 16384

noncomputable section

namespace Cert.Proof.Qkv

open Idealize.ShloMosaic Idealize.ShloMosaic.TcCoe Idealize.SL.Sem

/-- The side conditions of the selecting function. -/
instance keptFacts : Cert.On_kept_rows.Facts := ⟨by decide, by decide⟩

/-- The reference's run ends with its arguments as they were and every semaphore counter at zero. -/
theorem frame_ref : Cert.quiescent_QkvRefIdeal := fun m ρ _ =>
  (θ_run Cert.QkvRefIdeal.defs _ _).mono (fun r h => ⟨fun c => (h c).2.2.2.2, Idealize.ShloMosaic.sem_eq_zero_of_no_sems (by decide) r.2⟩)
    (Cert.QkvRefIdeal.Value.run (F := Ideal) m ρ)

/-- The rows of the fourth result that the claim selects are the first 1536. -/
theorem row_lt : ∀ r : Fin 2048, IntOp.cmpi .slt (BitVec.ofNat 32 r.val) 1536#32 = 1#1 → r.val < 1536 := by
  decide +kernel

theorem kept_lt (x : FVec Ideal Cert.On_kept_rows.S8704x2048 .bf16) (w : FVec Ideal Cert.On_kept_rows.S4x2048x13312 .f32)
    (i : Cert.On_kept_rows.S2048x2048.Idx) (h : (Cert.On_kept_rows.fn (F := Ideal) x w).2.2.2 i = 1#1) : (i 0).val < 1536 :=
  row_lt (i 0) h

/-- At the ideal instance the kernel's results are the reference's, of the same arguments: the queries, keys and values
    everywhere, the fourth result at the rows it keeps. -/
theorem algebraic : Cert.algebraic_QkvIdeal_QkvRefIdeal_on_kept_rows := by
  intro m ρ m' ρ' _ hag
  refine ⟨fun c => (Cert.QkvIdeal.Gen.dats m 0 c).arrAt 4 Cert.QkvIdeal.cfg0.N, fun c => (Cert.QkvIdeal.Gen.dats m 0 c).arrAt 5 Cert.QkvIdeal.cfg0.N,
    fun c => (Cert.QkvIdeal.Gen.dats m 0 c).arrAt 6 Cert.QkvIdeal.cfg0.N, fun c => (Cert.QkvIdeal.Gen.dats m 0 c).arrAt 7 Cert.QkvIdeal.cfg0.N,
    (θ_run Cert.QkvIdeal.defs _ _).mono (fun r h c => ?_) (Cert.QkvIdeal.Value.run_blocks (F := Ideal) m ρ), ?_⟩
  · obtain ⟨h0, h1, h2, h3, hk⟩ := h c
    exact ⟨fun i _ => congrFun h0 i, fun i _ => congrFun h1 i, fun i _ => congrFun h2 i, fun i _ => congrFun h3 i, hk⟩
  refine (θ_run Cert.QkvRefIdeal.defs _ _).mono (fun r h c => ?_) (Cert.QkvRefIdeal.Value.run (F := Ideal) m' ρ')
  obtain ⟨e0, e1⟩ := hag c
  obtain ⟨h0, h1, h2, h3, hk⟩ := h c
  refine ⟨fun i _ => ?_, fun i _ => ?_, fun i _ => ?_, fun i hi => ?_, hk⟩
  · refine (congrFun (h0.trans (Cert.QkvRefIdeal.Read.val_main_v18_eq _ _)) i).trans ?_
    rw [e0, e1, eq_ix2 i]
    exact (Qkv.ref18_apply _ _ (i 0) (i 1)).trans (Qkv.out4_apply m c (i 0) (i 1)).symm
  · refine (congrFun (h1.trans (Cert.QkvRefIdeal.Read.val_main_v19_eq _ _)) i).trans ?_
    rw [e0, e1, eq_ix2 i]
    exact (Qkv.ref19_apply _ _ (i 0) (i 1)).trans (Qkv.out5_apply m c (i 0) (i 1)).symm
  · refine (congrFun (h2.trans (Cert.QkvRefIdeal.Read.val_main_v20_eq _ _)) i).trans ?_
    rw [e0, e1, eq_ix2 i]
    exact (Qkv.ref20_apply _ _ (i 0) (i 1)).trans (Qkv.out6_apply m c (i 0) (i 1)).symm
  · have hlt : (i 0).val < 1536 := kept_lt _ _ i hi
    refine (congrFun (h3.trans (Cert.QkvRefIdeal.Read.val_main_v21_eq _ _)) i).trans ?_
    rw [e0, e1, eq_ix2 i]
    exact (Qkv.ref21_apply _ _ (i 0) (i 1) hlt).trans (Qkv.out7_apply m c (i 0) (i 1) hlt).symm

end Cert.Proof.Qkv

end
-- ==== Proof.RmsMix.lean ====
/- The first layer's norm: what the kernel leaves in its result, and that the reference computes the same. At row `r` and
   column `n` the result is h[r,n] · rsqrt((∑ d, h[r,d]²)/2048 + ε) · g[0,n]. -/
module

public import proofs.«01_k».proof.Proof.Gen.RmsIdeal.Value
public import proofs.«01_k».proof.Proof.Gen.RmsRefIdeal.Read
public import Idealize.ShloMosaic.Lib.Pointwise
public import Idealize.ShloMosaic.Lib.StableHlo.ReadAt

@[expose] public section

set_option maxRecDepth 16384

noncomputable section

namespace Cert.Proof.Rms

open Idealize.ShloMosaic Idealize.ShloMosaic.TcCoe Idealize.SL.Sem
open Cert.RmsIdeal Cert.RmsIdeal.Gen

/-- Root-mean-square norm of the row `f` with the weights `g`, at column `n`. -/
def rms (f g : Fin 2048 → EReal) (n : Fin 2048) : EReal :=
  f n * Ideal.rsqrt (Ideal.div (∑ d : Fin 2048, f d * f d) (Ideal.ofBits .f32 0x45000000#32) + Ideal.ofBits .f32 0x358637BD#32) * g n

/-- The payload at an index. -/
theorem pay_apply (v0 : Vec Ideal S512x2048 .f32) (v1 : Vec Ideal S1x1x2048 .f32) (r : Fin 512) (n : Fin 2048) :
    k0_pay1 (F := Ideal) v0 v1 (ix2 r n) = rms (fun d => v0 (ix2 r d)) (fun d => v1 (ix3 0 0 d)) n := by
  unfold rms
  pointwise [k0_pay1]

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output block. -/
theorem out2_eq (x0 : Vec Ideal S512x2048 .f32) (x1 : Vec Ideal S1x1x2048 .f32) :
    out0_2 (F := Ideal) x0 x1 = k0_pay1 (F := Ideal) x0 x1 := by
  unfold out0_2
  rw [View.canon_unit_zero hz2]
  simp only [View.ld_unit_zero (S := S512x2048) hz2, View.ld_unit_zero (S := S1x1x2048) hz3]

variable (m : (ℓ : Loc nD τ sig) → Buf (Elt Ideal) ℓ)

/-- The norm's weights as the launch finds them. -/
theorem V_g (c : Dev nD) (a : Fin 5) (n : Fin 2048) : V m c main_v0 (ix3 a 0 n) = m ((c : Thread nD τ).loc main_arg1) (ix2 a n) := by
  unfold V hostOps0
  after_reads_at

/-- The row block of the activations at point `t`. -/
theorem blk0 (c : Dev nD) (t : Fin cfg0.N) (r : Fin 512) (d : Fin 2048) (R : Fin 8704) (hR : R.val = 512 * t.val + r.val) :
    iblk m c 0 t (ix2 r d) = m ((c : Thread nD τ).loc main_arg0) (ix2 R d) := by
  rw [← V_main_arg0 m c]
  show V m c main_arg0 (((cfg0.win 0).blk t).view.emb (ix2 r d)) = _
  have e : ∀ t : Fin cfg0.N, win0_0.index t (0 : Fin 2) = t.val ∧ win0_0.index t (1 : Fin 2) = 0 :=
    (by decide +kernel : ∀ t : Fin grid0.N, _)
  obtain ⟨e0, e1⟩ := e t
  refine congrArg (V m c main_arg0) (funext fun a => Fin.ext ?_)
  match a with
  | ⟨0, _⟩ => show win0_0.index t (0 : Fin 2) * 512 + 1 * r.val = R.val; omega
  | ⟨1, _⟩ => show win0_0.index t (1 : Fin 2) * 2048 + 1 * d.val = d.val; omega

/-- The norm's weights: the first row of them. -/
theorem blk1 (c : Dev nD) (t : Fin cfg0.N) (n : Fin 2048) :
    iblk m c 1 t (ix3 0 0 n) = m ((c : Thread nD τ).loc main_arg1) (ix2 0 n) := by
  rw [← V_g m c]
  show V m c main_v0 (((cfg0.win 1).blk t).view.emb (ix3 0 0 n)) = _
  have e : ∀ t : Fin cfg0.N, win0_1.index t (0 : Fin 3) = 0 ∧ win0_1.index t (1 : Fin 3) = 0 ∧ win0_1.index t (2 : Fin 3) = 0 :=
    (by decide +kernel : ∀ t : Fin grid0.N, _)
  obtain ⟨e0, e1, e2⟩ := e t
  refine congrArg (V m c main_v0) (funext fun a => Fin.ext ?_)
  match a with
  | ⟨0, _⟩ => show win0_1.index t (0 : Fin 3) * 1 + 1 * 0 = 0; omega
  | ⟨1, _⟩ => show win0_1.index t (1 : Fin 3) * 1 + 1 * 0 = 0; omega
  | ⟨2, _⟩ => show win0_1.index t (2 : Fin 3) * 2048 + 1 * n.val = n.val; omega

/-- THE KERNEL'S RESULT: the array after the run at row `R`, column `n`. -/
theorem out_apply (c : Dev nD) (R : Fin 8704) (n : Fin 2048) :
    (dats m 0 c).arrAt 2 cfg0.N (ix2 R n)
      = rms (fun d => m ((c : Thread nD τ).loc main_arg0) (ix2 R d)) (fun d => m ((c : Thread nD τ).loc main_arg1) (ix2 0 d)) n := by
  have hN : cfg0.N = 17 := N_0
  have hR := R.isLt
  have ht : R.val / 512 < cfg0.N := by rw [hN]; omega
  have e : ∀ t : Fin cfg0.N, win0_2.index t (0 : Fin 2) = t.val ∧ win0_2.index t (1 : Fin 2) = 0 ∧ (cfg0.win 2).flush t = true :=
    (by decide +kernel : ∀ t : Fin grid0.N, _)
  obtain ⟨e0, e1, hf⟩ := e ⟨R.val / 512, ht⟩
  have key := congrFun (Value.blocks2 m c ⟨R.val / 512, ht⟩ hf) (ix2 (⟨R.val % 512, Nat.mod_lt _ (by decide)⟩ : Fin 512) n)
  rw [Value.flushed2] at key
  have hemb : ((cfg0.win 2).blk ⟨R.val / 512, ht⟩).view.emb (ix2 (⟨R.val % 512, Nat.mod_lt _ (by decide)⟩ : Fin 512) n) = ix2 R n := by
    funext a; apply Fin.ext
    match a with
    | ⟨0, _⟩ => show win0_2.index ⟨R.val / 512, ht⟩ (0 : Fin 2) * 512 + 1 * (R.val % 512) = R.val; rw [e0]; show R.val / 512 * 512 + _ = _; omega
    | ⟨1, _⟩ => show win0_2.index ⟨R.val / 512, ht⟩ (1 : Fin 2) * 2048 + 1 * n.val = n.val; omega
  have hR' : R.val = 512 * (R.val / 512) + R.val % 512 := by omega
  refine (congrArg ((dats m 0 c).arrAt 2 cfg0.N) hemb.symm).trans (key.trans ?_)
  rw [out2_eq]
  refine (pay_apply _ _ _ n).trans ?_
  congr 1
  · funext d; exact blk0 m c ⟨R.val / 512, ht⟩ _ d R hR'
  · funext d; exact blk1 m c _ d

open Cert.RmsRefIdeal.Read in
/-- THE REFERENCE'S RESULT at row `R`, column `n`. -/
theorem ref_apply (h : S8704x2048.Idx → EReal) (g : S5x2048.Idx → EReal) (R : Fin 8704) (n : Fin 2048) :
    val_main_v15 (F := Ideal) h g (ix2 R n) = rms (fun d => h (ix2 R d)) (fun d => g (ix2 0 d)) n := by
  unfold rms
  pointwise [val_main_v15, val_main_v14, val_main_v13, val_main_v12, val_main_v11, val_main_v10, val_main_v9, val_main_v8, val_main_v7, val_main_cst_1, val_main_v6, val_main_v5, val_main_cst_0, val_main_v4, val_main_v3, val_main_cst, val_main_v2, val_main_v1, val_main_v0]

end Cert.Proof.Rms

end
-- ==== Proof.RmsClaim.lean ====
/- The claims of the first norm: the reference's frame and the kernel's equality with it. -/
module

public import proofs.«01_k».proof.Defs
public import proofs.«01_k».proof.Proof.RmsMix
public import proofs.«01_k».proof.Proof.Gen.RmsRefIdeal.Run
public import Idealize.ShloMosaic.Lib.Quiescent

@[expose] public section

set_option maxRecDepth 16384

noncomputable section

namespace Cert.Proof.Rms

open Idealize.ShloMosaic Idealize.ShloMosaic.TcCoe Idealize.SL.Sem

/-- The reference's run ends with its arguments as they were and every semaphore counter at zero. -/
theorem frame_ref : Cert.quiescent_RmsRefIdeal := fun m ρ _ =>
  (θ_run Cert.RmsRefIdeal.defs _ _).mono (fun r h => ⟨fun c => (h c).2, Idealize.ShloMosaic.sem_eq_zero_of_no_sems (by decide) r.2⟩)
    (Cert.RmsRefIdeal.Value.run (F := Ideal) m ρ)

/-- At the ideal instance the kernel's result is the reference's, of the same arguments. -/
theorem algebraic : Cert.algebraic_RmsIdeal_RmsRefIdeal := by
  intro m ρ m' ρ' _ hag
  refine ⟨fun c => (Cert.RmsIdeal.Gen.dats m 0 c).arrAt 2 Cert.RmsIdeal.cfg0.N, Cert.RmsIdeal.Value.run_blocks (F := Ideal) m ρ, ?_⟩
  refine (θ_run Cert.RmsRefIdeal.defs _ _).mono (fun r h c => ?_) (Cert.RmsRefIdeal.Value.run (F := Ideal) m' ρ')
  obtain ⟨e0, e1⟩ := hag c
  refine ⟨(h c).1.trans ?_, (h c).2⟩
  refine (Cert.RmsRefIdeal.Read.val_main_v15_eq _ _).trans ?_
  rw [e0, e1]
  funext i
  rw [eq_ix2 i]
  exact (Rms.ref_apply _ _ (i 0) (i 1)).trans (Rms.out_apply m c (i 0) (i 1)).symm

end Cert.Proof.Rms

end
-- ==== Proof.GmlpMixBlock.lean ====
/- The chunked mixer, what the kernel leaves in its result: the thirty-two tiles of a grid point's block, each a group of
   128 columns over a chunk of 128 rows, and the array they make up. The last grid point is the sample's rows, whose
   chunks are four blocks of 32 rows mixed apart. -/
module

public import proofs.«01_k».proof.Proof.Gen.GmlpMixIdeal.Value
public import Idealize.ShloMosaic.Lib.Pointwise
public import Idealize.ShloMosaic.Lib.Pipeline.ValueKit.Tiles

@[expose] public section

set_option maxRecDepth 16384

noncomputable section

namespace Cert.Proof.GmlpMix

open Idealize.ShloMosaic Idealize.ShloMosaic.TcCoe Idealize.SL.Sem
open Cert.GmlpMixIdeal Cert.GmlpMixIdeal.Gen

/-- One tile: a group's columns of a chunk's rows. -/
abbrev tileV (i : grid0.Coords) (w : Vec Ideal S1x1x128x128 .f32) (b : Vec Ideal S1x128x128 .f32) (v : Vec Ideal S128x128 .f32)
    (u : Vec Ideal S128x128 .bf16) : Vec Ideal S128x128 .bf16 :=
  k0_pay7 (k0_pay3 (F := Ideal) i w) (k0_pay4 b) v u

/-- A tile at a row and a column. -/
theorem tileV_apply (i : grid0.Coords) (w : Vec Ideal S1x1x128x128 .f32) (b : Vec Ideal S1x128x128 .f32) (v : Vec Ideal S128x128 .f32)
    (u : Vec Ideal S128x128 .bf16) (r d : Fin 128) :
    tileV i w b v u (ix2 r d)
      = u (ix2 r d) * (∑ s : Fin 128, Scalar.select (k0_pay2 i (ix2 r s)) (w (ix4 0 0 r s)) (Ideal.ofBits .f32 0#32) * v (ix2 s d)
          + b (ix3 0 r d)) := by
  unfold tileV
  pointwise [k0_pay7, k0_pay3, k0_pay4]

/-- The block's value at row `r` and column `j`, from the blocks read. -/
def blockAt (i : grid0.Coords) (x0 x1 : S512x1024.Idx → EReal) (x2 : S1x8x128x128.Idx → EReal) (x3 : S1x128x1024.Idx → EReal)
    (r : Fin 512) (j : Fin 1024) : EReal :=
  x0 (ix2 r j) * (∑ s : Fin 128, Scalar.select (k0_pay2 i (ix2 (⟨r.val % 128, Nat.mod_lt _ (by decide)⟩ : Fin 128) s))
        (x2 (ix4 0 ⟨j.val / 128, by omega⟩ ⟨r.val % 128, Nat.mod_lt _ (by decide)⟩ s)) (Ideal.ofBits .f32 0#32)
        * x1 (ix2 ⟨128 * (r.val / 128) + s.val, by omega⟩ j)
      + x3 (ix3 0 ⟨r.val % 128, Nat.mod_lt _ (by decide)⟩ j))

/-- A tile read from the blocks. -/
theorem tileV_block (i : grid0.Coords) (x0 : Vec Ideal S512x1024 .bf16) (x1 : Vec Ideal S512x1024 .f32) (x2 : Vec Ideal S1x8x128x128 .f32)
    (x3 : Vec Ideal S1x128x1024 .f32) (k : Fin 4) (g : Fin 8) (ro gg co : ℕ) (hro : ro = 128 * k.val) (hg : gg = g.val) (hco : co = 128 * g.val)
    (inb : ∀ a, (![ro, co] : Fin 2 → ℕ) a + S128x128.size a ≤ S512x1024.size a)
    (inw : ∀ a, (![0, gg, 0, 0] : Fin 4 → ℕ) a + S1x1x128x128.size a ≤ S1x8x128x128.size a)
    (inc : ∀ a, (![0, 0, co] : Fin 3 → ℕ) a + S1x128x128.size a ≤ S1x128x1024.size a) (r d : Fin 128) (R : Fin 512) (J : Fin 1024)
    (hR : R.val = 128 * k.val + r.val) (hJ : J.val = 128 * g.val + d.val) :
    tileV i (View.ld (Val := Elt Ideal) (e' := .f32) x2 (Rect.unit (s := S1x8x128x128) ![0, gg, 0, 0] S1x1x128x128.size inw))
        (View.ld (Val := Elt Ideal) (e' := .f32) x3 (Rect.unit (s := S1x128x1024) ![0, 0, co] S1x128x128.size inc))
        (View.ld (Val := Elt Ideal) (e' := .f32) x1 (Rect.unit (s := S512x1024) ![ro, co] S128x128.size inb))
        (View.ld (Val := Elt Ideal) (e' := .bf16) x0 (Rect.unit (s := S512x1024) ![ro, co] S128x128.size inb)) (ix2 r d)
      = blockAt i x0 x1 x2 x3 R J := by
  refine (tileV_apply i _ _ _ _ r d).trans ?_
  unfold blockAt
  have er : (⟨R.val % 128, Nat.mod_lt _ (by decide)⟩ : Fin 128) = r := Fin.ext (by show R.val % 128 = r.val; omega)
  have eg : (⟨J.val / 128, by omega⟩ : Fin 8) = g := Fin.ext (by show J.val / 128 = g.val; omega)
  rw [er, eg]
  have e0 : View.ld (Val := Elt Ideal) (e' := .bf16) x0 (Rect.unit (s := S512x1024) ![ro, co] S128x128.size inb) (ix2 r d) = x0 (ix2 R J) := by
    refine View.ld_unit_apply_of (S := S512x1024) x0 ![ro, co] S128x128.size inb (ix2 r d) (ix2 R J) fun a => ?_
    match a with
    | ⟨0, _⟩ => show R.val = ro + r.val; omega
    | ⟨1, _⟩ => show J.val = co + d.val; omega
  have e3 : View.ld (Val := Elt Ideal) (e' := .f32) x3 (Rect.unit (s := S1x128x1024) ![0, 0, co] S1x128x128.size inc) (ix3 0 r d) = x3 (ix3 0 r J) := by
    refine View.ld_unit_apply_of (S := S1x128x1024) x3 ![0, 0, co] S1x128x128.size inc (ix3 0 r d) (ix3 0 r J) fun a => ?_
    match a with
    | ⟨0, _⟩ => rfl
    | ⟨1, _⟩ => show r.val = 0 + r.val; omega
    | ⟨2, _⟩ => show J.val = co + d.val; omega
  rw [e0, e3]
  refine congrArg (fun z => x0 (ix2 R J) * (z + x3 (ix3 0 r J))) (Finset.sum_congr rfl fun s _ => ?_)
  have e1 : View.ld (Val := Elt Ideal) (e' := .f32) x1 (Rect.unit (s := S512x1024) ![ro, co] S128x128.size inb) (ix2 s d)
      = x1 (ix2 ⟨128 * (R.val / 128) + s.val, by omega⟩ J) := by
    refine View.ld_unit_apply_of (S := S512x1024) x1 ![ro, co] S128x128.size inb (ix2 s d) (ix2 ⟨128 * (R.val / 128) + s.val, by omega⟩ J) fun a => ?_
    match a with
    | ⟨0, _⟩ => show 128 * (R.val / 128) + s.val = ro + s.val; omega
    | ⟨1, _⟩ => show J.val = co + d.val; omega
  have e2 : View.ld (Val := Elt Ideal) (e' := .f32) x2 (Rect.unit (s := S1x8x128x128) ![0, gg, 0, 0] S1x1x128x128.size inw) (ix4 0 0 r s) = x2 (ix4 0 g r s) := by
    refine View.ld_unit_apply_of (S := S1x8x128x128) x2 ![0, gg, 0, 0] S1x1x128x128.size inw (ix4 0 0 r s) (ix4 0 g r s) fun a => ?_
    match a with
    | ⟨0, _⟩ => rfl
    | ⟨1, _⟩ => show g.val = gg + 0; omega
    | ⟨2, _⟩ => show r.val = 0 + r.val; omega
    | ⟨3, _⟩ => show s.val = 0 + s.val; omega
  rw [e1, e2]

/-- A tile's payload, stored at its place, has at every place of the result the block's value. -/
theorem tile (ro co : ℕ) (k : Fin 4) (g : Fin 8) (hro : ro = 128 * k.val) (hco : co = 128 * g.val) (p : Vec Ideal S128x128 .bf16)
    (G : Fin 512 → Fin 1024 → EReal)
    (hp : ∀ (r d : Fin 128) (R : Fin 512) (J : Fin 1024), R.val = 128 * k.val + r.val → J.val = 128 * g.val + d.val → p (ix2 r d) = G R J)
    (r : Fin 512) (j : Fin 1024) :
    View.TileAt (S := S512x1024) (Val := Elt Ideal) (e := .bf16) (ix2 r j) ![ro, co] S128x128.size p (G r j) := by
  intro x hx
  have h0 : r.val = ro + (x 0).val := hx 0
  have h1 : j.val = co + (x 1).val := hx 1
  have e : x = ix2 (x 0) (x 1) := eq_ix2 x
  rw [e]
  exact hp (x 0) (x 1) r j (by omega) (by omega)

/-- The output block of one grid point, as its tiles. -/
theorem out_tiles (i : grid0.Coords) (x0 : Vec Ideal S512x1024 .bf16) (x1 : Vec Ideal S512x1024 .f32) (x2 : Vec Ideal S1x8x128x128 .f32)
    (x3 : Vec Ideal S1x128x1024 .f32) :
    out0_4 (F := Ideal) i x0 x1 x2 x3 = View.canon [
      ⟨r0_47, tileV i (View.ld x2 r0_42) (View.ld x3 r0_43) (View.ld x1 r0_47) (View.ld x0 r0_47)⟩,
      ⟨r0_46, tileV i (View.ld x2 r0_42) (View.ld x3 r0_43) (View.ld x1 r0_46) (View.ld x0 r0_46)⟩,
      ⟨r0_45, tileV i (View.ld x2 r0_42) (View.ld x3 r0_43) (View.ld x1 r0_45) (View.ld x0 r0_45)⟩,
      ⟨r0_44, tileV i (View.ld x2 r0_42) (View.ld x3 r0_43) (View.ld x1 r0_44) (View.ld x0 r0_44)⟩,
      ⟨r0_41, tileV i (View.ld x2 r0_36) (View.ld x3 r0_37) (View.ld x1 r0_41) (View.ld x0 r0_41)⟩,
      ⟨r0_40, tileV i (View.ld x2 r0_36) (View.ld x3 r0_37) (View.ld x1 r0_40) (View.ld x0 r0_40)⟩,
      ⟨r0_39, tileV i (View.ld x2 r0_36) (View.ld x3 r0_37) (View.ld x1 r0_39) (View.ld x0 r0_39)⟩,
      ⟨r0_38, tileV i (View.ld x2 r0_36) (View.ld x3 r0_37) (View.ld x1 r0_38) (View.ld x0 r0_38)⟩,
      ⟨r0_35, tileV i (View.ld x2 r0_30) (View.ld x3 r0_31) (View.ld x1 r0_35) (View.ld x0 r0_35)⟩,
      ⟨r0_34, tileV i (View.ld x2 r0_30) (View.ld x3 r0_31) (View.ld x1 r0_34) (View.ld x0 r0_34)⟩,
      ⟨r0_33, tileV i (View.ld x2 r0_30) (View.ld x3 r0_31) (View.ld x1 r0_33) (View.ld x0 r0_33)⟩,
      ⟨r0_32, tileV i (View.ld x2 r0_30) (View.ld x3 r0_31) (View.ld x1 r0_32) (View.ld x0 r0_32)⟩,
      ⟨r0_29, tileV i (View.ld x2 r0_24) (View.ld x3 r0_25) (View.ld x1 r0_29) (View.ld x0 r0_29)⟩,
      ⟨r0_28, tileV i (View.ld x2 r0_24) (View.ld x3 r0_25) (View.ld x1 r0_28) (View.ld x0 r0_28)⟩,
      ⟨r0_27, tileV i (View.ld x2 r0_24) (View.ld x3 r0_25) (View.ld x1 r0_27) (View.ld x0 r0_27)⟩,
      ⟨r0_26, tileV i (View.ld x2 r0_24) (View.ld x3 r0_25) (View.ld x1 r0_26) (View.ld x0 r0_26)⟩,
      ⟨r0_23, tileV i (View.ld x2 r0_18) (View.ld x3 r0_19) (View.ld x1 r0_23) (View.ld x0 r0_23)⟩,
      ⟨r0_22, tileV i (View.ld x2 r0_18) (View.ld x3 r0_19) (View.ld x1 r0_22) (View.ld x0 r0_22)⟩,
      ⟨r0_21, tileV i (View.ld x2 r0_18) (View.ld x3 r0_19) (View.ld x1 r0_21) (View.ld x0 r0_21)⟩,
      ⟨r0_20, tileV i (View.ld x2 r0_18) (View.ld x3 r0_19) (View.ld x1 r0_20) (View.ld x0 r0_20)⟩,
      ⟨r0_17, tileV i (View.ld x2 r0_12) (View.ld x3 r0_13) (View.ld x1 r0_17) (View.ld x0 r0_17)⟩,
      ⟨r0_16, tileV i (View.ld x2 r0_12) (View.ld x3 r0_13) (View.ld x1 r0_16) (View.ld x0 r0_16)⟩,
      ⟨r0_15, tileV i (View.ld x2 r0_12) (View.ld x3 r0_13) (View.ld x1 r0_15) (View.ld x0 r0_15)⟩,
      ⟨r0_14, tileV i (View.ld x2 r0_12) (View.ld x3 r0_13) (View.ld x1 r0_14) (View.ld x0 r0_14)⟩,
      ⟨r0_11, tileV i (View.ld x2 r0_6) (View.ld x3 r0_7) (View.ld x1 r0_11) (View.ld x0 r0_11)⟩,
      ⟨r0_10, tileV i (View.ld x2 r0_6) (View.ld x3 r0_7) (View.ld x1 r0_10) (View.ld x0 r0_10)⟩,
      ⟨r0_9, tileV i (View.ld x2 r0_6) (View.ld x3 r0_7) (View.ld x1 r0_9) (View.ld x0 r0_9)⟩,
      ⟨r0_8, tileV i (View.ld x2 r0_6) (View.ld x3 r0_7) (View.ld x1 r0_8) (View.ld x0 r0_8)⟩,
      ⟨r0_5, tileV i (View.ld x2 r0_0) (View.ld x3 r0_1) (View.ld x1 r0_5) (View.ld x0 r0_5)⟩,
      ⟨r0_4, tileV i (View.ld x2 r0_0) (View.ld x3 r0_1) (View.ld x1 r0_4) (View.ld x0 r0_4)⟩,
      ⟨r0_3, tileV i (View.ld x2 r0_0) (View.ld x3 r0_1) (View.ld x1 r0_3) (View.ld x0 r0_3)⟩,
      ⟨r0_2, tileV i (View.ld x2 r0_0) (View.ld x3 r0_1) (View.ld x1 r0_2) (View.ld x0 r0_2)⟩] := rfl

/-- The output block of one grid point at a row and a column. -/
theorem out_block (i : grid0.Coords) (x0 : Vec Ideal S512x1024 .bf16) (x1 : Vec Ideal S512x1024 .f32) (x2 : Vec Ideal S1x8x128x128 .f32)
    (x3 : Vec Ideal S1x128x1024 .f32) (r : Fin 512) (j : Fin 1024) :
    out0_4 (F := Ideal) i x0 x1 x2 x3 (ix2 r j) = blockAt i x0 x1 x2 x3 r j := by
  rw [out_tiles]
  refine View.canon_eq_of_allAt _ _ _ (cover0_4 _ _ _ _ _ _ _ _ _ _ _ _ _ _ _ _ _ _ _ _ _ _ _ _ _ _ _ _ _ _ _ _ _ ) ?_
  refine View.allAt_cons_unit _ _ _ _ _ (tile 384 896 3 7 rfl rfl _ (blockAt i x0 x1 x2 x3) (fun a b R J hR hJ => tileV_block i x0 x1 x2 x3 3 7 384 7 896 rfl rfl rfl _ _ _ a b R J hR hJ) r j) ?_
  refine View.allAt_cons_unit _ _ _ _ _ (tile 256 896 2 7 rfl rfl _ (blockAt i x0 x1 x2 x3) (fun a b R J hR hJ => tileV_block i x0 x1 x2 x3 2 7 256 7 896 rfl rfl rfl _ _ _ a b R J hR hJ) r j) ?_
  refine View.allAt_cons_unit _ _ _ _ _ (tile 128 896 1 7 rfl rfl _ (blockAt i x0 x1 x2 x3) (fun a b R J hR hJ => tileV_block i x0 x1 x2 x3 1 7 128 7 896 rfl rfl rfl _ _ _ a b R J hR hJ) r j) ?_
  refine View.allAt_cons_unit _ _ _ _ _ (tile 0 896 0 7 rfl rfl _ (blockAt i x0 x1 x2 x3) (fun a b R J hR hJ => tileV_block i x0 x1 x2 x3 0 7 0 7 896 rfl rfl rfl _ _ _ a b R J hR hJ) r j) ?_
  refine View.allAt_cons_unit _ _ _ _ _ (tile 384 768 3 6 rfl rfl _ (blockAt i x0 x1 x2 x3) (fun a b R J hR hJ => tileV_block i x0 x1 x2 x3 3 6 384 6 768 rfl rfl rfl _ _ _ a b R J hR hJ) r j) ?_
  refine View.allAt_cons_unit _ _ _ _ _ (tile 256 768 2 6 rfl rfl _ (blockAt i x0 x1 x2 x3) (fun a b R J hR hJ => tileV_block i x0 x1 x2 x3 2 6 256 6 768 rfl rfl rfl _ _ _ a b R J hR hJ) r j) ?_
  refine View.allAt_cons_unit _ _ _ _ _ (tile 128 768 1 6 rfl rfl _ (blockAt i x0 x1 x2 x3) (fun a b R J hR hJ => tileV_block i x0 x1 x2 x3 1 6 128 6 768 rfl rfl rfl _ _ _ a b R J hR hJ) r j) ?_
  refine View.allAt_cons_unit _ _ _ _ _ (tile 0 768 0 6 rfl rfl _ (blockAt i x0 x1 x2 x3) (fun a b R J hR hJ => tileV_block i x0 x1 x2 x3 0 6 0 6 768 rfl rfl rfl _ _ _ a b R J hR hJ) r j) ?_
  refine View.allAt_cons_unit _ _ _ _ _ (tile 384 640 3 5 rfl rfl _ (blockAt i x0 x1 x2 x3) (fun a b R J hR hJ => tileV_block i x0 x1 x2 x3 3 5 384 5 640 rfl rfl rfl _ _ _ a b R J hR hJ) r j) ?_
  refine View.allAt_cons_unit _ _ _ _ _ (tile 256 640 2 5 rfl rfl _ (blockAt i x0 x1 x2 x3) (fun a b R J hR hJ => tileV_block i x0 x1 x2 x3 2 5 256 5 640 rfl rfl rfl _ _ _ a b R J hR hJ) r j) ?_
  refine View.allAt_cons_unit _ _ _ _ _ (tile 128 640 1 5 rfl rfl _ (blockAt i x0 x1 x2 x3) (fun a b R J hR hJ => tileV_block i x0 x1 x2 x3 1 5 128 5 640 rfl rfl rfl _ _ _ a b R J hR hJ) r j) ?_
  refine View.allAt_cons_unit _ _ _ _ _ (tile 0 640 0 5 rfl rfl _ (blockAt i x0 x1 x2 x3) (fun a b R J hR hJ => tileV_block i x0 x1 x2 x3 0 5 0 5 640 rfl rfl rfl _ _ _ a b R J hR hJ) r j) ?_
  refine View.allAt_cons_unit _ _ _ _ _ (tile 384 512 3 4 rfl rfl _ (blockAt i x0 x1 x2 x3) (fun a b R J hR hJ => tileV_block i x0 x1 x2 x3 3 4 384 4 512 rfl rfl rfl _ _ _ a b R J hR hJ) r j) ?_
  refine View.allAt_cons_unit _ _ _ _ _ (tile 256 512 2 4 rfl rfl _ (blockAt i x0 x1 x2 x3) (fun a b R J hR hJ => tileV_block i x0 x1 x2 x3 2 4 256 4 512 rfl rfl rfl _ _ _ a b R J hR hJ) r j) ?_
  refine View.allAt_cons_unit _ _ _ _ _ (tile 128 512 1 4 rfl rfl _ (blockAt i x0 x1 x2 x3) (fun a b R J hR hJ => tileV_block i x0 x1 x2 x3 1 4 128 4 512 rfl rfl rfl _ _ _ a b R J hR hJ) r j) ?_
  refine View.allAt_cons_unit _ _ _ _ _ (tile 0 512 0 4 rfl rfl _ (blockAt i x0 x1 x2 x3) (fun a b R J hR hJ => tileV_block i x0 x1 x2 x3 0 4 0 4 512 rfl rfl rfl _ _ _ a b R J hR hJ) r j) ?_
  refine View.allAt_cons_unit _ _ _ _ _ (tile 384 384 3 3 rfl rfl _ (blockAt i x0 x1 x2 x3) (fun a b R J hR hJ => tileV_block i x0 x1 x2 x3 3 3 384 3 384 rfl rfl rfl _ _ _ a b R J hR hJ) r j) ?_
  refine View.allAt_cons_unit _ _ _ _ _ (tile 256 384 2 3 rfl rfl _ (blockAt i x0 x1 x2 x3) (fun a b R J hR hJ => tileV_block i x0 x1 x2 x3 2 3 256 3 384 rfl rfl rfl _ _ _ a b R J hR hJ) r j) ?_
  refine View.allAt_cons_unit _ _ _ _ _ (tile 128 384 1 3 rfl rfl _ (blockAt i x0 x1 x2 x3) (fun a b R J hR hJ => tileV_block i x0 x1 x2 x3 1 3 128 3 384 rfl rfl rfl _ _ _ a b R J hR hJ) r j) ?_
  refine View.allAt_cons_unit _ _ _ _ _ (tile 0 384 0 3 rfl rfl _ (blockAt i x0 x1 x2 x3) (fun a b R J hR hJ => tileV_block i x0 x1 x2 x3 0 3 0 3 384 rfl rfl rfl _ _ _ a b R J hR hJ) r j) ?_
  refine View.allAt_cons_unit _ _ _ _ _ (tile 384 256 3 2 rfl rfl _ (blockAt i x0 x1 x2 x3) (fun a b R J hR hJ => tileV_block i x0 x1 x2 x3 3 2 384 2 256 rfl rfl rfl _ _ _ a b R J hR hJ) r j) ?_
  refine View.allAt_cons_unit _ _ _ _ _ (tile 256 256 2 2 rfl rfl _ (blockAt i x0 x1 x2 x3) (fun a b R J hR hJ => tileV_block i x0 x1 x2 x3 2 2 256 2 256 rfl rfl rfl _ _ _ a b R J hR hJ) r j) ?_
  refine View.allAt_cons_unit _ _ _ _ _ (tile 128 256 1 2 rfl rfl _ (blockAt i x0 x1 x2 x3) (fun a b R J hR hJ => tileV_block i x0 x1 x2 x3 1 2 128 2 256 rfl rfl rfl _ _ _ a b R J hR hJ) r j) ?_
  refine View.allAt_cons_unit _ _ _ _ _ (tile 0 256 0 2 rfl rfl _ (blockAt i x0 x1 x2 x3) (fun a b R J hR hJ => tileV_block i x0 x1 x2 x3 0 2 0 2 256 rfl rfl rfl _ _ _ a b R J hR hJ) r j) ?_
  refine View.allAt_cons_unit _ _ _ _ _ (tile 384 128 3 1 rfl rfl _ (blockAt i x0 x1 x2 x3) (fun a b R J hR hJ => tileV_block i x0 x1 x2 x3 3 1 384 1 128 rfl rfl rfl _ _ _ a b R J hR hJ) r j) ?_
  refine View.allAt_cons_unit _ _ _ _ _ (tile 256 128 2 1 rfl rfl _ (blockAt i x0 x1 x2 x3) (fun a b R J hR hJ => tileV_block i x0 x1 x2 x3 2 1 256 1 128 rfl rfl rfl _ _ _ a b R J hR hJ) r j) ?_
  refine View.allAt_cons_unit _ _ _ _ _ (tile 128 128 1 1 rfl rfl _ (blockAt i x0 x1 x2 x3) (fun a b R J hR hJ => tileV_block i x0 x1 x2 x3 1 1 128 1 128 rfl rfl rfl _ _ _ a b R J hR hJ) r j) ?_
  refine View.allAt_cons_unit _ _ _ _ _ (tile 0 128 0 1 rfl rfl _ (blockAt i x0 x1 x2 x3) (fun a b R J hR hJ => tileV_block i x0 x1 x2 x3 0 1 0 1 128 rfl rfl rfl _ _ _ a b R J hR hJ) r j) ?_
  refine View.allAt_cons_unit _ _ _ _ _ (tile 384 0 3 0 rfl rfl _ (blockAt i x0 x1 x2 x3) (fun a b R J hR hJ => tileV_block i x0 x1 x2 x3 3 0 384 0 0 rfl rfl rfl _ _ _ a b R J hR hJ) r j) ?_
  refine View.allAt_cons_unit _ _ _ _ _ (tile 256 0 2 0 rfl rfl _ (blockAt i x0 x1 x2 x3) (fun a b R J hR hJ => tileV_block i x0 x1 x2 x3 2 0 256 0 0 rfl rfl rfl _ _ _ a b R J hR hJ) r j) ?_
  refine View.allAt_cons_unit _ _ _ _ _ (tile 128 0 1 0 rfl rfl _ (blockAt i x0 x1 x2 x3) (fun a b R J hR hJ => tileV_block i x0 x1 x2 x3 1 0 128 0 0 rfl rfl rfl _ _ _ a b R J hR hJ) r j) ?_
  refine View.allAt_cons_unit _ _ _ _ _ (tile 0 0 0 0 rfl rfl _ (blockAt i x0 x1 x2 x3) (fun a b R J hR hJ => tileV_block i x0 x1 x2 x3 0 0 0 0 0 rfl rfl rfl _ _ _ a b R J hR hJ) r j) ?_
  exact View.allAt_nil _ _

end Cert.Proof.GmlpMix

end
-- ==== Proof.GmlpMixMix.lean ====
/- The chunked mixer, the kernel's result as a formula. At a row `R` of the prompt and a column `n` of group `g` the result
   is u[R,n] · (∑ s ≤ R%128, W[0,g,R%128,s] · v[128·(R/128)+s, n] + b[0,g,R%128]); at a row of the sample the chunk is of
   32 rows. -/
module

public import proofs.«01_k».proof.Proof.GmlpMixBlock
public import Idealize.ShloMosaic.Lib.StableHlo.ReadAt

@[expose] public section

set_option maxRecDepth 16384

noncomputable section

namespace Cert.Proof.GmlpMix

open Idealize.ShloMosaic Idealize.ShloMosaic.TcCoe Idealize.SL.Sem
open Cert.GmlpMixIdeal Cert.GmlpMixIdeal.Gen

/-- The causal mixing of a chunk of 128 rows at row `R`, column `n`. -/
def mixP (v : S8704x1024.Idx → EReal) (w : S4x8x128x128.Idx → EReal) (b : S4x8x128.Idx → EReal) (R : Fin 8704) (n : Fin 1024) : EReal :=
  ∑ s : Fin 128, (if s.val ≤ R.val % 128 then w (ix4 0 ⟨n.val / 128, by omega⟩ ⟨R.val % 128, Nat.mod_lt _ (by decide)⟩ s) else 0)
      * v (ix2 ⟨128 * (R.val / 128) + s.val, by omega⟩ n)
    + b (ix3 0 ⟨n.val / 128, by omega⟩ ⟨R.val % 128, Nat.mod_lt _ (by decide)⟩)

/-- The causal mixing of a chunk of 32 rows at row `R`, column `n`. -/
def mixS (v : S8704x1024.Idx → EReal) (w : S4x8x128x128.Idx → EReal) (b : S4x8x128.Idx → EReal) (R : Fin 8704) (n : Fin 1024) : EReal :=
  ∑ s : Fin 32, (if s.val ≤ R.val % 32 then w (ix4 0 ⟨n.val / 128, by omega⟩ ⟨R.val % 32, by omega⟩ ⟨s.val, by omega⟩) else 0)
      * v (ix2 ⟨32 * (R.val / 32) + s.val, by omega⟩ n)
    + b (ix3 0 ⟨n.val / 128, by omega⟩ ⟨R.val % 32, by omega⟩)

/-- A sum over 128 places that vanishes off one block of 32 is the block's sum. -/
theorem sum_block (F : Fin 128 → EReal) (q : ℕ) (hq : q < 4) (h : ∀ s : Fin 128, s.val / 32 ≠ q → F s = 0) :
    ∑ s : Fin 128, F s = ∑ s : Fin 32, F ⟨32 * q + s.val, by omega⟩ := by
  symm
  refine Finset.sum_of_injOn (fun s : Fin 32 => (⟨32 * q + s.val, by omega⟩ : Fin 128)) ?_ (fun _ _ => Finset.mem_univ _) ?_ (fun _ _ => rfl)
  · intro a _ b _ hab
    have := congrArg Fin.val hab
    exact Fin.ext (by simp only at this; omega)
  · intro s _ hs
    refine h s fun hsq => hs ⟨⟨s.val % 32, Nat.mod_lt _ (by decide)⟩, Finset.mem_coe.mpr (Finset.mem_univ _), Fin.ext ?_⟩
    show 32 * q + s.val % 32 = s.val
    omega

/-- The mask with the shift `sh`. -/
def maskSh (sh : BitVec 32) (r s : ℕ) : BitVec 1 :=
  IntOp.andi (IntOp.cmpi .sge (BitVec.ofNat 32 r) (BitVec.ofNat 32 s))
    (IntOp.cmpi .eq (IntOp.shrui .vector (BitVec.ofNat 32 r) sh) (IntOp.shrui .vector (BitVec.ofNat 32 s) sh))

theorem maskSh_7 : ∀ r s : Fin 128, maskSh 7#32 r.val s.val = if s.val ≤ r.val then 1#1 else 0#1 := by decide +kernel

theorem maskSh_5 : ∀ r s : Fin 128, maskSh 5#32 r.val s.val = if s.val ≤ r.val ∧ s.val / 32 = r.val / 32 then 1#1 else 0#1 := by
  decide +kernel

/-- The kernel's mask. -/
theorem mask_eq (i : grid0.Coords) (r s : Fin 128) :
    k0_pay2 i (ix2 r s) = maskSh (Scalar.select (Scalar.cmpi .eq (BitVec.ofNat 32 (i 0).val) 16#32) 5#32 7#32) r.val s.val := by
  unfold k0_pay2 maskSh
  pointwise

theorem coord_sel : ∀ t : Fin cfg0.N, Scalar.select (Scalar.cmpi .eq (BitVec.ofNat 32 (grid0.coords t 0).val) 16#32) 5#32 7#32
    = if t.val = 16 then 5#32 else 7#32 := by
  decide +kernel

variable (m : (ℓ : Loc nD τ sig) → Buf (Elt Ideal) ℓ)

/-- The mixing weights as the launch finds them: the layer's own, and the first corner of them repeated. -/
theorem V_w0 (c : Dev nD) (g : Fin 8) (r s : Fin 128) :
    V m c main_v17 (ix4 0 g r s) = m ((c : Thread nD τ).loc main_arg2) (ix4 0 g r s) := by
  unfold V hostOps0
  after_reads_at

theorem V_w1 (c : Dev nD) (g : Fin 8) (r s : Fin 128) :
    V m c main_v17 (ix4 1 g r s) = m ((c : Thread nD τ).loc main_arg2) (ix4 0 g ⟨r.val % 32, by omega⟩ ⟨s.val % 32, by omega⟩) := by
  unfold V hostOps0
  after_reads_at

/-- The biases as the launch finds them. -/
theorem V_b0 (c : Dev nD) (r : Fin 128) (n : Fin 1024) :
    V m c main_v20 (ix3 0 r n) = m ((c : Thread nD τ).loc main_arg3) (ix3 0 ⟨n.val / 128, by omega⟩ r) := by
  unfold V hostOps0
  after_reads_at

theorem V_b1 (c : Dev nD) (r : Fin 128) (n : Fin 1024) :
    V m c main_v20 (ix3 1 r n) = m ((c : Thread nD τ).loc main_arg3) (ix3 0 ⟨n.val / 128, by omega⟩ ⟨r.val % 32, by omega⟩) := by
  unfold V hostOps0
  after_reads_at

/-- The row block of the gate at point `t`. -/
theorem blk0 (c : Dev nD) (t : Fin cfg0.N) (r : Fin 512) (d : Fin 1024) (R : Fin 8704) (hR : R.val = 512 * t.val + r.val) :
    iblk m c 0 t (ix2 r d) = m ((c : Thread nD τ).loc main_arg0) (ix2 R d) := by
  rw [← V_main_arg0 m c]
  show V m c main_arg0 (((cfg0.win 0).blk t).view.emb (ix2 r d)) = _
  have e : ∀ t : Fin cfg0.N, win0_0.index t (0 : Fin 2) = t.val ∧ win0_0.index t (1 : Fin 2) = 0 :=
    (by decide +kernel : ∀ t : Fin grid0.N, _)
  obtain ⟨e0, e1⟩ := e t
  refine congrArg (V m c main_arg0) (funext fun a => Fin.ext ?_)
  match a with
  | ⟨0, _⟩ => show win0_0.index t (0 : Fin 2) * 512 + 1 * r.val = R.val; omega
  | ⟨1, _⟩ => show win0_0.index t (1 : Fin 2) * 1024 + 1 * d.val = d.val; omega

/-- The row block of the values at point `t`. -/
theorem blk1 (c : Dev nD) (t : Fin cfg0.N) (r : Fin 512) (d : Fin 1024) (R : Fin 8704) (hR : R.val = 512 * t.val + r.val) :
    iblk m c 1 t (ix2 r d) = m ((c : Thread nD τ).loc main_arg1) (ix2 R d) := by
  rw [← V_main_arg1 m c]
  show V m c main_arg1 (((cfg0.win 1).blk t).view.emb (ix2 r d)) = _
  have e : ∀ t : Fin cfg0.N, win0_1.index t (0 : Fin 2) = t.val ∧ win0_1.index t (1 : Fin 2) = 0 :=
    (by decide +kernel : ∀ t : Fin grid0.N, _)
  obtain ⟨e0, e1⟩ := e t
  refine congrArg (V m c main_arg1) (funext fun a => Fin.ext ?_)
  match a with
  | ⟨0, _⟩ => show win0_1.index t (0 : Fin 2) * 512 + 1 * r.val = R.val; omega
  | ⟨1, _⟩ => show win0_1.index t (1 : Fin 2) * 1024 + 1 * d.val = d.val; omega

/-- The weights at point `t`. -/
theorem blk2 (c : Dev nD) (t : Fin cfg0.N) (k : Fin 2) (hk : k.val = if t.val = 16 then 1 else 0) (g : Fin 8) (r s : Fin 128) :
    iblk m c 2 t (ix4 0 g r s) = V m c main_v17 (ix4 k g r s) := by
  show V m c main_v17 (((cfg0.win 2).blk t).view.emb (ix4 0 g r s)) = _
  have e : ∀ t : Fin cfg0.N, win0_2.index t (0 : Fin 4) = (if t.val = 16 then 1 else 0) ∧ win0_2.index t (1 : Fin 4) = 0
      ∧ win0_2.index t (2 : Fin 4) = 0 ∧ win0_2.index t (3 : Fin 4) = 0 :=
    (by decide +kernel : ∀ t : Fin grid0.N, _)
  obtain ⟨e0, e1, e2, e3⟩ := e t
  refine congrArg (V m c main_v17) (funext fun a => Fin.ext ?_)
  match a with
  | ⟨0, _⟩ => show win0_2.index t (0 : Fin 4) * 1 + 1 * 0 = k.val; rw [e0, hk]; omega
  | ⟨1, _⟩ => show win0_2.index t (1 : Fin 4) * 8 + 1 * g.val = g.val; omega
  | ⟨2, _⟩ => show win0_2.index t (2 : Fin 4) * 128 + 1 * r.val = r.val; omega
  | ⟨3, _⟩ => show win0_2.index t (3 : Fin 4) * 128 + 1 * s.val = s.val; omega

/-- The biases at point `t`. -/
theorem blk3 (c : Dev nD) (t : Fin cfg0.N) (k : Fin 2) (hk : k.val = if t.val = 16 then 1 else 0) (r : Fin 128) (n : Fin 1024) :
    iblk m c 3 t (ix3 0 r n) = V m c main_v20 (ix3 k r n) := by
  show V m c main_v20 (((cfg0.win 3).blk t).view.emb (ix3 0 r n)) = _
  have e : ∀ t : Fin cfg0.N, win0_3.index t (0 : Fin 3) = (if t.val = 16 then 1 else 0) ∧ win0_3.index t (1 : Fin 3) = 0
      ∧ win0_3.index t (2 : Fin 3) = 0 :=
    (by decide +kernel : ∀ t : Fin grid0.N, _)
  obtain ⟨e0, e1, e2⟩ := e t
  refine congrArg (V m c main_v20) (funext fun a => Fin.ext ?_)
  match a with
  | ⟨0, _⟩ => show win0_3.index t (0 : Fin 3) * 1 + 1 * 0 = k.val; rw [e0, hk]; omega
  | ⟨1, _⟩ => show win0_3.index t (1 : Fin 3) * 128 + 1 * r.val = r.val; omega
  | ⟨2, _⟩ => show win0_3.index t (2 : Fin 3) * 1024 + 1 * n.val = n.val; omega

/-- The mixed value at row `R`, column `n`. -/
def mixed (v : S8704x1024.Idx → EReal) (w : S4x8x128x128.Idx → EReal) (b : S4x8x128.Idx → EReal) (R : Fin 8704) (n : Fin 1024) : EReal :=
  if R.val < 8192 then mixP v w b R n else mixS v w b R n

/-- The result at row `R`, column `n`. -/
def res (u v : S8704x1024.Idx → EReal) (w : S4x8x128x128.Idx → EReal) (b : S4x8x128.Idx → EReal) (R : Fin 8704) (n : Fin 1024) : EReal :=
  u (ix2 R n) * mixed v w b R n

/-- A grid point's block at a row and a column. -/
theorem block_value (c : Dev nD) (t : Fin cfg0.N) (r : Fin 512) (n : Fin 1024) (R : Fin 8704) (hR : R.val = 512 * t.val + r.val) :
    blockAt (grid0.coords t) (iblk m c 0 t) (iblk m c 1 t) (iblk m c 2 t) (iblk m c 3 t) r n
      = res (m ((c : Thread nD τ).loc main_arg0)) (m ((c : Thread nD τ).loc main_arg1)) (m ((c : Thread nD τ).loc main_arg2))
          (m ((c : Thread nD τ).loc main_arg3)) R n := by
  have hr := r.isLt
  have ea : (⟨r.val % 128, Nat.mod_lt _ (by decide)⟩ : Fin 128) = ⟨R.val % 128, Nat.mod_lt _ (by decide)⟩ :=
    Fin.ext (by show r.val % 128 = R.val % 128; omega)
  unfold blockAt res mixed
  rw [ea, blk0 m c t r n R hR]
  refine (fun (u z y : EReal) (h : z = y) => congrArg (fun z : EReal => u * z) h) _ _ _ ?_
  by_cases hlt : R.val < 8192
  · have ht : ¬ t.val = 16 := by omega
    rw [if_pos hlt]
    unfold mixP
    rw [blk3 m c t 0 (by rw [if_neg ht]; rfl), V_b0]
    refine congrArg (fun z : EReal => z + _) (Finset.sum_congr rfl fun s _ => ?_)
    rw [mask_eq, coord_sel t, if_neg ht, maskSh_7, blk2 m c t 0 (by rw [if_neg ht]; rfl), V_w0,
      blk1 m c t _ n ⟨128 * (R.val / 128) + s.val, by omega⟩ (by show 128 * (R.val / 128) + s.val = 512 * t.val + (128 * (r.val / 128) + s.val); omega),
      Ideal.ofBits_zero_f32]
    refine congrArg (fun z : EReal => z * _) ?_
    by_cases h : s.val ≤ R.val % 128
    · rw [if_pos h, if_pos h]; rfl
    · rw [if_neg h, if_neg h]; rfl
  · have ht : t.val = 16 := by have := t.isLt; have hN : cfg0.N = 17 := N_0; omega
    rw [if_neg hlt]
    unfold mixS
    rw [blk3 m c t 1 (by rw [if_pos ht]; rfl), V_b1]
    have em : (⟨R.val % 128 % 32, by omega⟩ : Fin 128) = ⟨R.val % 32, by omega⟩ := Fin.ext (by show R.val % 128 % 32 = R.val % 32; omega)
    refine congrArg₂ (fun z y : EReal => z + y) ?_ (congrArg (fun y => m ((c : Thread nD τ).loc main_arg3) (ix3 0 ⟨n.val / 128, by omega⟩ y)) em)
    obtain ⟨w, hw⟩ : ∃ w : S4x8x128x128.Idx → EReal, w = m ((c : Thread nD τ).loc main_arg2) := ⟨_, rfl⟩
    obtain ⟨v, hv⟩ : ∃ v : S8704x1024.Idx → EReal, v = m ((c : Thread nD τ).loc main_arg1) := ⟨_, rfl⟩
    obtain ⟨y2, h2⟩ : ∃ y : S1x8x128x128.Idx → EReal, y = iblk m c 2 t := ⟨_, rfl⟩
    obtain ⟨y1, h1⟩ : ∃ y : S512x1024.Idx → EReal, y = iblk m c 1 t := ⟨_, rfl⟩
    have term : ∀ s : Fin 128, Scalar.select (k0_pay2 (grid0.coords t) (ix2 (⟨R.val % 128, Nat.mod_lt _ (by decide)⟩ : Fin 128) s))
          (y2 (ix4 0 ⟨n.val / 128, by omega⟩ ⟨R.val % 128, Nat.mod_lt _ (by decide)⟩ s)) (Ideal.ofBits .f32 0#32)
          * y1 (ix2 ⟨128 * (r.val / 128) + s.val, by omega⟩ n)
        = (if s.val ≤ R.val % 128 ∧ s.val / 32 = R.val % 128 / 32
            then w (ix4 0 ⟨n.val / 128, by omega⟩ ⟨R.val % 32, by omega⟩ ⟨s.val % 32, by omega⟩) else 0)
          * v (ix2 ⟨128 * (R.val / 128) + s.val, by omega⟩ n) := by
      intro s
      rw [hw, hv, h2, h1, mask_eq, coord_sel t, if_pos ht, maskSh_5, blk2 m c t 1 (by rw [if_pos ht]; rfl), V_w1,
        blk1 m c t _ n ⟨128 * (R.val / 128) + s.val, by omega⟩ (by show 128 * (R.val / 128) + s.val = 512 * t.val + (128 * (r.val / 128) + s.val); omega),
        Ideal.ofBits_zero_f32]
      refine congrArg (fun z : EReal => z * _) ?_
      by_cases h : s.val ≤ R.val % 128 ∧ s.val / 32 = R.val % 128 / 32
      · rw [if_pos h, if_pos h]
        exact congrArg (fun y => m ((c : Thread nD τ).loc main_arg2) (ix4 0 ⟨n.val / 128, by omega⟩ y ⟨s.val % 32, by omega⟩)) em
      · rw [if_neg h, if_neg h]; rfl
    subst hw hv h2 h1
    refine (Finset.sum_congr rfl fun s _ => term s).trans ?_
    refine (sum_block _ (R.val % 128 / 32) (by omega) fun s hs => ?_).trans (Finset.sum_congr rfl fun s _ => ?_)
    · rw [if_neg (fun h => hs h.2), zero_mul]
    · have hs := s.isLt
      have e1 : (⟨128 * (R.val / 128) + (32 * (R.val % 128 / 32) + s.val), by omega⟩ : Fin 8704) = ⟨32 * (R.val / 32) + s.val, by omega⟩ :=
        Fin.ext (by show 128 * (R.val / 128) + (32 * (R.val % 128 / 32) + s.val) = 32 * (R.val / 32) + s.val; omega)
      have e2 : (⟨(32 * (R.val % 128 / 32) + s.val) % 32, by omega⟩ : Fin 128) = ⟨s.val, by omega⟩ :=
        Fin.ext (by show (32 * (R.val % 128 / 32) + s.val) % 32 = s.val; omega)
      refine congrArg₂ (fun z y : EReal => z * y) ?_ (congrArg (fun y => m ((c : Thread nD τ).loc main_arg1) (ix2 y n)) e1)
      by_cases h : s.val ≤ R.val % 32
      · rw [if_pos h, if_pos (by show 32 * (R.val % 128 / 32) + s.val ≤ R.val % 128 ∧ (32 * (R.val % 128 / 32) + s.val) / 32 = R.val % 128 / 32; omega)]
        exact congrArg (fun y => m ((c : Thread nD τ).loc main_arg2) (ix4 0 ⟨n.val / 128, by omega⟩ ⟨R.val % 32, by omega⟩ y)) e2
      · rw [if_neg h, if_neg (by show ¬(32 * (R.val % 128 / 32) + s.val ≤ R.val % 128 ∧ (32 * (R.val % 128 / 32) + s.val) / 32 = R.val % 128 / 32); omega)]

/-- THE KERNEL'S RESULT: the array after the run at row `R`, column `n`. -/
theorem out_apply (c : Dev nD) (R : Fin 8704) (n : Fin 1024) :
    (dats m 0 c).arrAt 4 cfg0.N (ix2 R n)
      = res (m ((c : Thread nD τ).loc main_arg0)) (m ((c : Thread nD τ).loc main_arg1)) (m ((c : Thread nD τ).loc main_arg2))
          (m ((c : Thread nD τ).loc main_arg3)) R n := by
  have hN : cfg0.N = 17 := N_0
  have hR := R.isLt
  have ht : R.val / 512 < cfg0.N := by rw [hN]; omega
  have e : ∀ t : Fin cfg0.N, win0_4.index t (0 : Fin 2) = t.val ∧ win0_4.index t (1 : Fin 2) = 0 ∧ (cfg0.win 4).flush t = true :=
    (by decide +kernel : ∀ t : Fin grid0.N, _)
  obtain ⟨e0, e1, hf⟩ := e ⟨R.val / 512, ht⟩
  have key := congrFun (Value.blocks4 m c ⟨R.val / 512, ht⟩ hf) (ix2 (⟨R.val % 512, Nat.mod_lt _ (by decide)⟩ : Fin 512) n)
  rw [Value.flushed4] at key
  have hemb : ((cfg0.win 4).blk ⟨R.val / 512, ht⟩).view.emb (ix2 (⟨R.val % 512, Nat.mod_lt _ (by decide)⟩ : Fin 512) n) = ix2 R n := by
    funext a; apply Fin.ext
    match a with
    | ⟨0, _⟩ => show win0_4.index ⟨R.val / 512, ht⟩ (0 : Fin 2) * 512 + 1 * (R.val % 512) = R.val; rw [e0]; show R.val / 512 * 512 + _ = _; omega
    | ⟨1, _⟩ => show win0_4.index ⟨R.val / 512, ht⟩ (1 : Fin 2) * 1024 + 1 * n.val = n.val; omega
  refine (congrArg ((dats m 0 c).arrAt 4 cfg0.N) hemb.symm).trans (key.trans ?_)
  refine (out_block _ _ _ _ _ _ n).trans ?_
  exact block_value m c ⟨R.val / 512, ht⟩ _ n R (by show R.val = 512 * (R.val / 512) + R.val % 512; omega)

end Cert.Proof.GmlpMix

end
-- ==== Proof.GmlpMixRef.lean ====
/- The chunked mixer, what the reference computes: the same formula, its chunks of 32 rows being filled up to 128 with zeros. -/
module

public import proofs.«01_k».proof.Proof.GmlpMixMix
public import proofs.«01_k».proof.Proof.Gen.GmlpMixRefIdeal.Read
public import Idealize.ShloMosaic.Lib.KernelVsHost

@[expose] public section

set_option maxRecDepth 16384

noncomputable section

namespace Cert.Proof.GmlpMix.Ref

open Idealize.ShloMosaic Idealize.ShloMosaic.TcCoe Idealize.SL.Sem
open Cert.GmlpMixRefIdeal Cert.GmlpMixRefIdeal.Read

/-- The causal mask. -/
theorem tril_eq : ∀ r s : Fin 128, Scalar.select (IntOp.cmpi .sge (IntOp.addi (BitVec.ofNat 32 r.val) 0#32) (BitVec.ofNat 32 s.val)) 1#1 0#1
    = if s.val ≤ r.val then 1#1 else 0#1 := by decide +kernel

theorem zero_eq : (FloatOps.sitofp (F := Ideal) .f32 (0#32 : BitVec 32) : EReal) = 0 := by
  show (((0#32 : BitVec 32).toInt : ℝ) : EReal) = 0
  simp

/-- The masked weights. -/
theorem w11 (w : S4x8x128x128.Idx → EReal) (g : Fin 8) (r s : Fin 128) :
    val_main_v11 (F := Ideal) w (ix3 g r s) = if s.val ≤ r.val then w (ix4 0 g r s) else 0 := by
  have e3 : val_main_v3 (F := Ideal) w (ix3 g r s) = w (ix4 0 g r s) := by
    pointwise [val_main_v3, val_main_v2]
  rw [val_main_v11_apply, e3]
  have em : val_main_call2_v1 (F := Ideal) (ix3 g r s) = if s.val ≤ r.val then 1#1 else 0#1 := (tril_eq r s)
  have ez : val_main_call2_v2 (F := Ideal) (ix3 g r s) = 0 := zero_eq
  rw [em, ez]
  by_cases h : s.val ≤ r.val
  · rw [if_pos h, if_pos h]; rfl
  · rw [if_neg h, if_neg h]; rfl

theorem w31 (w : S4x8x128x128.Idx → EReal) (g : Fin 8) (r s : Fin 128) :
    val_main_v31 (F := Ideal) w (ix3 g r s) = if s.val ≤ r.val then w (ix4 0 g r s) else 0 := by
  have e3 : val_main_v23 (F := Ideal) w (ix3 g r s) = w (ix4 0 g r s) := by
    pointwise [val_main_v23, val_main_v22]
  rw [val_main_v31_apply, e3]
  have em : val_main_call5_v1 (F := Ideal) (ix3 g r s) = if s.val ≤ r.val then 1#1 else 0#1 := (tril_eq r s)
  have ez : val_main_call5_v2 (F := Ideal) (ix3 g r s) = 0 := zero_eq
  rw [em, ez]
  by_cases h : s.val ≤ r.val
  · rw [if_pos h, if_pos h]; rfl
  · rw [if_neg h, if_neg h]; rfl

/-- The prompt's values in chunks. -/
theorem v7_eq (v : S8704x1024.Idx → EReal) (a : Fin 2) (q : Fin 32) (s : Fin 128) (g : Fin 8) (d : Fin 128) :
    val_main_v7 (F := Ideal) v (ix5 a q s g d)
      = v (ix2 ⟨4096 * a.val + 128 * q.val + s.val, by omega⟩ ⟨128 * g.val + d.val, by omega⟩) := by
  have ha := a.isLt
  have hq := q.isLt
  have hs := s.isLt
  have hg := g.isLt
  have hd := d.isLt
  rw [val_main_v7_apply]
  have e7 : idx_main_v7 (ix5 a q s g d) = ix4 a ⟨128 * q.val + s.val, by omega⟩ g d := by
    funext b; refine Fin.ext ?_
    match b with
    | ⟨0, _⟩ => show ((((a.val * 32 + q.val) * 128 + s.val) * 8 + g.val) * 128 + d.val) / 4194304 = a.val; omega
    | ⟨1, _⟩ => show ((((a.val * 32 + q.val) * 128 + s.val) * 8 + g.val) * 128 + d.val) / 1024 % 4096 = 128 * q.val + s.val; omega
    | ⟨2, _⟩ => show ((((a.val * 32 + q.val) * 128 + s.val) * 8 + g.val) * 128 + d.val) / 128 % 8 = g.val; omega
    | ⟨3, _⟩ => show ((((a.val * 32 + q.val) * 128 + s.val) * 8 + g.val) * 128 + d.val) % 128 = d.val; omega
  rw [e7]
  refine (pad_apply_of_inside _ _ _ _ _ _ _ _ (ix4 a ⟨128 * q.val + s.val, by omega⟩ g d) fun b => ?_).trans ?_
  · match b with
    | ⟨0, _⟩ => show a.val = 0 + a.val * (0 + 1); omega
    | ⟨1, _⟩ => show 128 * q.val + s.val = 0 + (128 * q.val + s.val) * (0 + 1); omega
    | ⟨2, _⟩ => show g.val = 0 + g.val * (0 + 1); omega
    | ⟨3, _⟩ => show d.val = 0 + d.val * (0 + 1); omega
  rw [val_main_v1_apply, val_main_v0_apply]
  refine congrArg v (funext fun b => Fin.ext ?_)
  match b with
  | ⟨0, _⟩ => show (((a.val * 4096 + (128 * q.val + s.val)) * 8 + g.val) * 128 + d.val) / 1024 = 4096 * a.val + 128 * q.val + s.val; omega
  | ⟨1, _⟩ => show (((a.val * 4096 + (128 * q.val + s.val)) * 8 + g.val) * 128 + d.val) % 1024 = 128 * g.val + d.val; omega

/-- The sample's values in chunks, zero past the thirty-second. -/
theorem v27_eq (v : S8704x1024.Idx → EReal) (a : Fin 16) (s : Fin 128) (g : Fin 8) (d : Fin 128) :
    val_main_v27 (F := Ideal) v (ix5 a 0 s g d)
      = if h : s.val < 32 then v (ix2 ⟨8192 + 32 * a.val + s.val, by omega⟩ ⟨128 * g.val + d.val, by omega⟩) else 0 := by
  have ha := a.isLt
  have hs := s.isLt
  have hg := g.isLt
  have hd := d.isLt
  rw [val_main_v27_apply]
  have e7 : idx_main_v27 (ix5 a 0 s g d) = ix4 a s g d := by
    funext b; refine Fin.ext ?_
    match b with
    | ⟨0, _⟩ => show ((((a.val * 1 + 0) * 128 + s.val) * 8 + g.val) * 128 + d.val) / 131072 = a.val; omega
    | ⟨1, _⟩ => show ((((a.val * 1 + 0) * 128 + s.val) * 8 + g.val) * 128 + d.val) / 1024 % 128 = s.val; omega
    | ⟨2, _⟩ => show ((((a.val * 1 + 0) * 128 + s.val) * 8 + g.val) * 128 + d.val) / 128 % 8 = g.val; omega
    | ⟨3, _⟩ => show ((((a.val * 1 + 0) * 128 + s.val) * 8 + g.val) * 128 + d.val) % 128 = d.val; omega
  rw [e7]
  by_cases h : s.val < 32
  · rw [dif_pos h]
    refine (pad_apply_of_inside _ _ _ _ _ _ _ _ (ix4 a ⟨s.val, h⟩ g d) fun b => ?_).trans ?_
    · match b with
      | ⟨0, _⟩ => show a.val = 0 + a.val * (0 + 1); omega
      | ⟨1, _⟩ => show s.val = 0 + s.val * (0 + 1); omega
      | ⟨2, _⟩ => show g.val = 0 + g.val * (0 + 1); omega
      | ⟨3, _⟩ => show d.val = 0 + d.val * (0 + 1); omega
    rw [val_main_v21_apply, val_main_v20_apply]
    refine congrArg v (funext fun b => Fin.ext ?_)
    match b with
    | ⟨0, _⟩ => show 8192 + (((a.val * 32 + s.val) * 8 + g.val) * 128 + d.val) / 1024 = 8192 + 32 * a.val + s.val; omega
    | ⟨1, _⟩ => show (((a.val * 32 + s.val) * 8 + g.val) * 128 + d.val) % 1024 = 128 * g.val + d.val; omega
  · rw [dif_neg h]
    refine (pad_apply_of_not_inside _ _ _ _ _ _ _ _ (1 : Fin 4) fun hin => ?_).trans zero_eq
    have h2 : (s.val - 0) / (0 + 1) < 32 := hin.2.2
    omega

/-- The mixed prompt in chunks. -/
theorem v17_eq (v : S8704x1024.Idx → EReal) (w : S4x8x128x128.Idx → EReal) (b : S4x8x128.Idx → EReal)
    (a : Fin 2) (q : Fin 32) (r : Fin 128) (g : Fin 8) (d : Fin 128) :
    val_main_v17 (F := Ideal) v w b (ix5 a q r g d)
      = ∑ s : Fin 128, (if s.val ≤ r.val then w (ix4 0 g r s) else 0)
          * v (ix2 ⟨4096 * a.val + 128 * q.val + s.val, by omega⟩ ⟨128 * g.val + d.val, by omega⟩) + b (ix3 0 g r) := by
  rw [val_main_v17_apply, val_main_v13_apply]
  have e13 : idx_main_v13 (ix5 a q r g d) = ix5 g a q d r := by
    funext x; refine Fin.ext ?_
    match x with
    | ⟨0, _⟩ => rfl
    | ⟨1, _⟩ => rfl
    | ⟨2, _⟩ => rfl
    | ⟨3, _⟩ => rfl
    | ⟨4, _⟩ => rfl
  have eb : val_main_v16 (F := Ideal) b (ix5 a q r g d) = b (ix3 0 g r) := by
    pointwise [val_main_v16, val_main_v15, val_main_v14, val_main_v5, val_main_v4]
  rw [e13, eb, val_main_v12_apply]
  refine congrArg (fun z : EReal => z + b (ix3 0 g r)) (Finset.sum_congr rfl fun s _ => ?_)
  have el : lidx_main_v12 (ix5 g a q d r) s = ix5 a q s g d := by
    funext x; refine Fin.ext ?_
    match x with
    | ⟨0, _⟩ => rfl
    | ⟨1, _⟩ => rfl
    | ⟨2, _⟩ => rfl
    | ⟨3, _⟩ => rfl
    | ⟨4, _⟩ => rfl
  have er : ridx_main_v12 (ix5 g a q d r) s = ix3 g r s := by
    funext x; refine Fin.ext ?_
    match x with
    | ⟨0, _⟩ => rfl
    | ⟨1, _⟩ => rfl
    | ⟨2, _⟩ => rfl
  rw [el, er, v7_eq, w11, mul_comm]

/-- The mixed sample in chunks. -/
theorem v37_eq (v : S8704x1024.Idx → EReal) (w : S4x8x128x128.Idx → EReal) (b : S4x8x128.Idx → EReal)
    (a : Fin 16) (r : Fin 128) (g : Fin 8) (d : Fin 128) :
    val_main_v37 (F := Ideal) v w b (ix5 a 0 r g d)
      = ∑ s : Fin 32, (if s.val ≤ r.val then w (ix4 0 g r ⟨s.val, by omega⟩) else 0)
          * v (ix2 ⟨8192 + 32 * a.val + s.val, by omega⟩ ⟨128 * g.val + d.val, by omega⟩) + b (ix3 0 g r) := by
  rw [val_main_v37_apply, val_main_v33_apply]
  have e13 : idx_main_v33 (ix5 a 0 r g d) = ix5 g a 0 d r := by
    funext x; refine Fin.ext ?_
    match x with
    | ⟨0, _⟩ => rfl
    | ⟨1, _⟩ => rfl
    | ⟨2, _⟩ => rfl
    | ⟨3, _⟩ => rfl
    | ⟨4, _⟩ => rfl
  have eb : val_main_v36 (F := Ideal) b (ix5 a 0 r g d) = b (ix3 0 g r) := by
    pointwise [val_main_v36, val_main_v35, val_main_v34, val_main_v25, val_main_v24]
  rw [e13, eb, val_main_v32_apply]
  refine congrArg (fun z : EReal => z + b (ix3 0 g r)) ?_
  have term : ∀ s : Fin 128, val_main_v27 (F := Ideal) v (lidx_main_v32 (ix5 g a 0 d r) s) * val_main_v31 (F := Ideal) w (ridx_main_v32 (ix5 g a 0 d r) s)
      = (if s.val ≤ r.val then w (ix4 0 g r s) else 0)
          * (if h : s.val < 32 then v (ix2 ⟨8192 + 32 * a.val + s.val, by omega⟩ ⟨128 * g.val + d.val, by omega⟩) else 0) := by
    intro s
    have el : lidx_main_v32 (ix5 g a 0 d r) s = ix5 a 0 s g d := by
      funext x; refine Fin.ext ?_
      match x with
      | ⟨0, _⟩ => rfl
      | ⟨1, _⟩ => rfl
      | ⟨2, _⟩ => rfl
      | ⟨3, _⟩ => rfl
      | ⟨4, _⟩ => rfl
    have er : ridx_main_v32 (ix5 g a 0 d r) s = ix3 g r s := by
      funext x; refine Fin.ext ?_
      match x with
      | ⟨0, _⟩ => rfl
      | ⟨1, _⟩ => rfl
      | ⟨2, _⟩ => rfl
    rw [el, er, v27_eq, w31, mul_comm]
  refine (Finset.sum_congr rfl fun s _ => term s).trans ?_
  refine (sum_block _ 0 (by omega) fun s hs => ?_).trans (Finset.sum_congr rfl fun s _ => ?_)
  · rw [dif_neg (by omega), mul_zero]
  · have e : (⟨32 * 0 + s.val, by omega⟩ : Fin 128) = ⟨s.val, by omega⟩ := Fin.ext (by show 32 * 0 + s.val = s.val; omega)
    rw [e, dif_pos s.isLt]

/-- The mixed prompt at row `R`, column `n`. -/
theorem v19_eq (v : S8704x1024.Idx → EReal) (w : S4x8x128x128.Idx → EReal) (b : S4x8x128.Idx → EReal)
    (R : Fin 8192) (n : Fin 1024) :
    val_main_v19 (F := Ideal) v w b (ix2 R n) = mixP v w b ⟨R.val, by omega⟩ n := by
  have hR := R.isLt
  have hn := n.isLt
  rw [val_main_v19_apply, val_main_v18_apply]
  have e19 : idx_main_v19 (ix2 R n) = ix3 ⟨R.val / 4096, by omega⟩ ⟨R.val % 4096, by omega⟩ n := by
    funext x; refine Fin.ext ?_
    match x with
    | ⟨0, _⟩ => show (R.val * 1024 + n.val) / 4194304 = R.val / 4096; omega
    | ⟨1, _⟩ => show (R.val * 1024 + n.val) / 1024 % 4096 = R.val % 4096; omega
    | ⟨2, _⟩ => show (R.val * 1024 + n.val) % 1024 = n.val; omega
  have e18 : ∀ (a : Fin 2) (p : Fin 4096), idx_main_v18 (ix3 a p n)
      = ix5 a ⟨p.val / 128, by omega⟩ ⟨p.val % 128, by omega⟩ ⟨n.val / 128, by omega⟩ ⟨n.val % 128, by omega⟩ := by
    intro a p
    have ha := a.isLt
    have hp := p.isLt
    funext x; refine Fin.ext ?_
    match x with
    | ⟨0, _⟩ => show ((a.val * 4096 + p.val) * 1024 + n.val) / 4194304 = a.val; omega
    | ⟨1, _⟩ => show ((a.val * 4096 + p.val) * 1024 + n.val) / 131072 % 32 = p.val / 128; omega
    | ⟨2, _⟩ => show ((a.val * 4096 + p.val) * 1024 + n.val) / 1024 % 128 = p.val % 128; omega
    | ⟨3, _⟩ => show ((a.val * 4096 + p.val) * 1024 + n.val) / 128 % 8 = n.val / 128; omega
    | ⟨4, _⟩ => show ((a.val * 4096 + p.val) * 1024 + n.val) % 128 = n.val % 128; omega
  rw [e19, e18, v17_eq]
  unfold mixP
  have er : (⟨R.val % 4096 % 128, by omega⟩ : Fin 128) = ⟨R.val % 128, by omega⟩ := Fin.ext (by show R.val % 4096 % 128 = R.val % 128; omega)
  have en : (⟨128 * (n.val / 128) + n.val % 128, by omega⟩ : Fin 1024) = n := Fin.ext (by show 128 * (n.val / 128) + n.val % 128 = n.val; omega)
  rw [er]
  refine congrArg (fun z : EReal => z + _) (Finset.sum_congr rfl fun s _ => ?_)
  refine congrArg₂ (fun z y : EReal => z * y) rfl ?_
  rw [en]
  refine congrArg (fun y => v (ix2 y n)) (Fin.ext ?_)
  show 4096 * (R.val / 4096) + 128 * (R.val % 4096 / 128) + s.val = 128 * (R.val / 128) + s.val
  omega

/-- The mixed sample at row `R`, column `n`. -/
theorem v40_eq (v : S8704x1024.Idx → EReal) (w : S4x8x128x128.Idx → EReal) (b : S4x8x128.Idx → EReal)
    (R : Fin 512) (n : Fin 1024) :
    val_main_v40 (F := Ideal) v w b (ix2 R n) = mixS v w b ⟨8192 + R.val, by omega⟩ n := by
  have hR := R.isLt
  have hn := n.isLt
  rw [val_main_v40_apply, val_main_v39_apply, val_main_v38_apply]
  have e40 : idx_main_v39 (idx_main_v40 (ix2 R n)) = ix3 ⟨R.val / 32, by omega⟩ ⟨R.val % 32, by omega⟩ n := by
    funext x; refine Fin.ext ?_
    match x with
    | ⟨0, _⟩ => show (R.val * 1024 + n.val) / 32768 = R.val / 32; omega
    | ⟨1, _⟩ => show (R.val * 1024 + n.val) / 1024 % 32 = R.val % 32; omega
    | ⟨2, _⟩ => show (R.val * 1024 + n.val) % 1024 = n.val; omega
  have e38 : ∀ (a : Fin 16) (p : Fin 128), idx_main_v38 (ix3 a p n)
      = ix5 a 0 p ⟨n.val / 128, by omega⟩ ⟨n.val % 128, by omega⟩ := by
    intro a p
    have ha := a.isLt
    have hp := p.isLt
    funext x; refine Fin.ext ?_
    match x with
    | ⟨0, _⟩ => show ((a.val * 128 + p.val) * 1024 + n.val) / 131072 = a.val; omega
    | ⟨1, _⟩ => rfl
    | ⟨2, _⟩ => show ((a.val * 128 + p.val) * 1024 + n.val) / 1024 % 128 = p.val; omega
    | ⟨3, _⟩ => show ((a.val * 128 + p.val) * 1024 + n.val) / 128 % 8 = n.val / 128; omega
    | ⟨4, _⟩ => show ((a.val * 128 + p.val) * 1024 + n.val) % 128 = n.val % 128; omega
  rw [e40, e38, v37_eq]
  unfold mixS
  have er : (⟨(8192 + R.val) % 32, by omega⟩ : Fin 128) = ⟨R.val % 32, by omega⟩ := Fin.ext (by show (8192 + R.val) % 32 = R.val % 32; omega)
  have en : (⟨128 * (n.val / 128) + n.val % 128, by omega⟩ : Fin 1024) = n := Fin.ext (by show 128 * (n.val / 128) + n.val % 128 = n.val; omega)
  refine congrArg₂ (fun z y : EReal => z + y) (Finset.sum_congr rfl fun s _ => ?_) (congrArg (fun y => b (ix3 0 ⟨n.val / 128, by omega⟩ y)) er.symm)
  refine congrArg₂ (fun z y : EReal => z * y) ?_ ?_
  · by_cases h : s.val ≤ R.val % 32
    · rw [if_pos h, if_pos (by show s.val ≤ (8192 + R.val) % 32; omega)]
      exact congrArg (fun y => w (ix4 0 ⟨n.val / 128, by omega⟩ y ⟨s.val, by omega⟩)) er.symm
    · rw [if_neg h, if_neg (by show ¬ s.val ≤ (8192 + R.val) % 32; omega)]
  · rw [en]
    refine congrArg (fun y => v (ix2 y n)) (Fin.ext ?_)
    show 8192 + 32 * (R.val / 32) + s.val = 32 * ((8192 + R.val) / 32) + s.val
    omega

/-- THE REFERENCE'S RESULT at row `R`, column `n`. -/
theorem ref_apply (u v : S8704x1024.Idx → EReal) (w : S4x8x128x128.Idx → EReal) (b : S4x8x128.Idx → EReal)
    (R : Fin 8704) (n : Fin 1024) :
    val_main_v44 (F := Ideal) u v w b (ix2 R n) = res u v w b R n := by
  have hR := R.isLt
  have e : val_main_v41 (F := Ideal) v w b (ix2 R n) = mixed v w b R n := by
    unfold mixed val_main_v41
    by_cases h : R.val < 8192
    · rw [if_pos h]
      refine (concatenate_pair_apply_left (t := S8704x1024) (s₁ := S8192x1024) (s₂ := S512x1024) 0 _ _ _ (ix2 R n) rfl
        (ix2 (⟨R.val, h⟩ : Fin 8192) n) (fun a => ?_)).trans ((v19_eq v w b ⟨R.val, h⟩ n).trans rfl)
      match a with
      | ⟨0, _⟩ => rfl
      | ⟨1, _⟩ => rfl
    · rw [if_neg h]
      have er : (⟨8192 + (R.val - 8192), by omega⟩ : Fin 8704) = R := Fin.ext (by show 8192 + (R.val - 8192) = R.val; omega)
      refine (concatenate_pair_apply_right (t := S8704x1024) (s₁ := S8192x1024) (s₂ := S512x1024) 0 _ _ _ (ix2 R n) rfl rfl
        (ix2 (⟨R.val - 8192, by omega⟩ : Fin 512) n) (fun a ha => ?_) ?_).trans ((v40_eq v w b ⟨R.val - 8192, by omega⟩ n).trans
          (congrArg (fun y => mixS v w b y n) er))
      · match a with
        | ⟨0, _⟩ => exact absurd rfl ha
        | ⟨1, _⟩ => rfl
      · show R.val - 8192 + 8192 = R.val
        omega
  show u (ix2 R n) * val_main_v41 (F := Ideal) v w b (ix2 R n) = _
  rw [e]
  rfl

end Cert.Proof.GmlpMix.Ref

end
-- ==== Proof.GmlpMixClaim.lean ====
/- The claims of the chunked mixer: the reference's frame and the kernel's equality with it. -/
module

public import proofs.«01_k».proof.Defs
public import proofs.«01_k».proof.Proof.GmlpMixRef
public import proofs.«01_k».proof.Proof.Gen.GmlpMixRefIdeal.Run
public import Idealize.ShloMosaic.Lib.Quiescent

@[expose] public section

set_option maxRecDepth 16384

noncomputable section

namespace Cert.Proof.GmlpMix

open Idealize.ShloMosaic Idealize.ShloMosaic.TcCoe Idealize.SL.Sem

/-- The reference's run ends with its arguments as they were and every semaphore counter at zero. -/
theorem frame_ref : Cert.quiescent_GmlpMixRefIdeal := fun m ρ _ =>
  (θ_run Cert.GmlpMixRefIdeal.defs _ _).mono (fun r h => ⟨fun c => (h c).2, Idealize.ShloMosaic.sem_eq_zero_of_no_sems (by decide) r.2⟩)
    (Cert.GmlpMixRefIdeal.Value.run (F := Ideal) m ρ)

/-- At the ideal instance the kernel's result is the reference's, of the same arguments. -/
theorem algebraic : Cert.algebraic_GmlpMixIdeal_GmlpMixRefIdeal := by
  intro m ρ m' ρ' _ hag
  refine ⟨fun c => (Cert.GmlpMixIdeal.Gen.dats m 0 c).arrAt 4 Cert.GmlpMixIdeal.cfg0.N, Cert.GmlpMixIdeal.Value.run_blocks (F := Ideal) m ρ, ?_⟩
  refine (θ_run Cert.GmlpMixRefIdeal.defs _ _).mono (fun r h c => ?_) (Cert.GmlpMixRefIdeal.Value.run (F := Ideal) m' ρ')
  obtain ⟨e0, e1, e2, e3⟩ := hag c
  refine ⟨(h c).1.trans ?_, (h c).2⟩
  refine (Cert.GmlpMixRefIdeal.Read.val_main_v44_eq _ _ _ _).trans ?_
  rw [e0, e1, e2, e3]
  funext i
  rw [eq_ix2 i]
  exact (GmlpMix.Ref.ref_apply _ _ _ _ (i 0) (i 1)).trans (GmlpMix.out_apply m c (i 0) (i 1)).symm

end Cert.Proof.GmlpMix

end
-- ==== Proof.lean ====
module

public import proofs.«01_k».proof.Defs
public import proofs.«01_k».proof.Proof.Gen.AttnP.Frame
public import proofs.«01_k».proof.Proof.Gen.AttnPIdeal.Frame
public import proofs.«01_k».proof.Proof.Gen.AttnPIdeal.Value
public import proofs.«01_k».proof.Proof.Gen.AttnPRefIdeal
public import proofs.«01_k».proof.Proof.Gen.AttnPRefIdeal.Run
public import proofs.«01_k».proof.Proof.Gen.AttnPRefIdeal.Read
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Gates.Frame
public import proofs.«01_k».proof.Proof.Gen.GatesIdeal.Frame
public import proofs.«01_k».proof.Proof.Gen.GatesIdeal.Value
public import proofs.«01_k».proof.Proof.Gen.GatesRefIdeal
public import proofs.«01_k».proof.Proof.Gen.GatesRefIdeal.Run
public import proofs.«01_k».proof.Proof.Gen.GatesRefIdeal.Read
public import proofs.«01_k».proof.Proof.Gen.Glu.Frame
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.Gen.GluRefIdeal.Read
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Ple.Frame
public import proofs.«01_k».proof.Proof.Gen.PleIdeal.Frame
public import proofs.«01_k».proof.Proof.Gen.PleIdeal.Value
public import proofs.«01_k».proof.Proof.Gen.PleRefIdeal
public import proofs.«01_k».proof.Proof.Gen.PleRefIdeal.Run
public import proofs.«01_k».proof.Proof.Gen.PleRefIdeal.Read
public import proofs.«01_k».proof.Proof.Gen.GmlpIn.Frame
public import proofs.«01_k».proof.Proof.Gen.GmlpInIdeal.Frame
public import proofs.«01_k».proof.Proof.Gen.GmlpInIdeal.Value
public import proofs.«01_k».proof.Proof.Gen.GmlpInRefIdeal
public import proofs.«01_k».proof.Proof.Gen.GmlpInRefIdeal.Run
public import proofs.«01_k».proof.Proof.Gen.GmlpInRefIdeal.Read
public import proofs.«01_k».proof.Proof.Gen.Qkv.Frame
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.Rms.Frame
public import proofs.«01_k».proof.Proof.Gen.RmsIdeal.Frame
public import proofs.«01_k».proof.Proof.Gen.RmsIdeal.Value
public import proofs.«01_k».proof.Proof.Gen.RmsRefIdeal
public import proofs.«01_k».proof.Proof.Gen.RmsRefIdeal.Run
public import proofs.«01_k».proof.Proof.Gen.RmsRefIdeal.Read
public import proofs.«01_k».proof.Proof.Gen.GmlpMix.Frame
public import proofs.«01_k».proof.Proof.Gen.GmlpMixIdeal.Frame
public import proofs.«01_k».proof.Proof.Gen.GmlpMixIdeal.Value
public import proofs.«01_k».proof.Proof.Gen.GmlpMixRefIdeal
public import proofs.«01_k».proof.Proof.Gen.GmlpMixRefIdeal.Run
public import proofs.«01_k».proof.Proof.Gen.GmlpMixRefIdeal.Read
public import proofs.«01_k».proof.Proof.AttnPClaim
public import proofs.«01_k».proof.Proof.FfnClaim
public import proofs.«01_k».proof.Proof.GatesClaim
public import proofs.«01_k».proof.Proof.GluClaim
public import proofs.«01_k».proof.Proof.MergeClaim
public import proofs.«01_k».proof.Proof.PleClaim
public import proofs.«01_k».proof.Proof.GmlpInClaim
public import proofs.«01_k».proof.Proof.QkvClaim
public import proofs.«01_k».proof.Proof.RmsClaim
public import proofs.«01_k».proof.Proof.GmlpMixClaim

@[expose] public section

noncomputable section

open Idealize.ShloMosaic Idealize.ShloMosaic.TcCoe Idealize.SL.Sem

namespace Cert.Proof

/-- Every claim of the certificate: the stated facts' proofs first, then the claims in their order. -/
theorem claim : Cert.Claim := ⟨
  Cert.AttnP.Gen.facts,
  Cert.AttnPIdeal.Gen.facts,
  Cert.AttnPRefIdeal.Gen.facts,
  Cert.Ffn.Gen.facts,
  Cert.FfnIdeal.Gen.facts,
  Cert.FfnRefIdeal.Gen.facts,
  Cert.Gates.Gen.facts,
  Cert.GatesIdeal.Gen.facts,
  Cert.GatesRefIdeal.Gen.facts,
  Cert.Glu.Gen.facts,
  Cert.GluIdeal.Gen.facts,
  Cert.GluRefIdeal.Gen.facts,
  Cert.Merge.Gen.facts,
  Cert.MergeIdeal.Gen.facts,
  Cert.MergeRefIdeal.Gen.facts,
  Cert.Ple.Gen.facts,
  Cert.PleIdeal.Gen.facts,
  Cert.PleRefIdeal.Gen.facts,
  Cert.GmlpIn.Gen.facts,
  Cert.GmlpInIdeal.Gen.facts,
  Cert.GmlpInRefIdeal.Gen.facts,
  Cert.Qkv.Gen.facts,
  Cert.QkvIdeal.Gen.facts,
  Cert.QkvRefIdeal.Gen.facts,
  Cert.Rms.Gen.facts,
  Cert.RmsIdeal.Gen.facts,
  Cert.RmsRefIdeal.Gen.facts,
  Cert.GmlpMix.Gen.facts,
  Cert.GmlpMixIdeal.Gen.facts,
  Cert.GmlpMixRefIdeal.Gen.facts,
  Cert.Proof.AttnP.finiteFacts,
  Cert.Proof.AttnP.promptFacts,
  Cert.Proof.Qkv.keptFacts,
  fun m ρ _ => Cert.AttnP.Gen.frame m ρ,
  fun m ρ _ => Cert.AttnPIdeal.Gen.frame m ρ,
  fun m ρ _ => Cert.AttnPIdeal.Gen.frame m ρ,
  Cert.Proof.AttnP.frame_ref,
  Cert.Proof.AttnP.frame_ref_pre,
  fun m ρ _ => Cert.Ffn.Gen.frame m ρ,
  fun m ρ _ => Cert.FfnIdeal.Gen.frame m ρ,
  Cert.Proof.Ffn.frame_ref,
  fun m ρ _ => Cert.Gates.Gen.frame m ρ,
  fun m ρ _ => Cert.GatesIdeal.Gen.frame m ρ,
  Cert.Proof.Gates.frame_ref,
  fun m ρ _ => Cert.Glu.Gen.frame m ρ,
  fun m ρ _ => Cert.GluIdeal.Gen.frame m ρ,
  Cert.Proof.Glu.frame_ref,
  fun m ρ _ => Cert.Merge.Gen.frame m ρ,
  fun m ρ _ => Cert.MergeIdeal.Gen.frame m ρ,
  Cert.Proof.Merge.frame_ref,
  fun m ρ _ => Cert.Ple.Gen.frame m ρ,
  fun m ρ _ => Cert.PleIdeal.Gen.frame m ρ,
  Cert.Proof.Ple.frame_ref,
  fun m ρ _ => Cert.GmlpIn.Gen.frame m ρ,
  fun m ρ _ => Cert.GmlpInIdeal.Gen.frame m ρ,
  Cert.Proof.GmlpIn.frame_ref,
  fun m ρ _ => Cert.Qkv.Gen.frame m ρ,
  fun m ρ _ => Cert.QkvIdeal.Gen.frame m ρ,
  Cert.Proof.Qkv.frame_ref,
  fun m ρ _ => Cert.Rms.Gen.frame m ρ,
  fun m ρ _ => Cert.RmsIdeal.Gen.frame m ρ,
  Cert.Proof.Rms.frame_ref,
  fun m ρ _ => Cert.GmlpMix.Gen.frame m ρ,
  fun m ρ _ => Cert.GmlpMixIdeal.Gen.frame m ρ,
  Cert.Proof.GmlpMix.frame_ref,
  IdealRules.named_const.statement Cert.AttnPIdeal.κ "mask" .f32 0xF149F2CA#32 ⊥ rfl,
  Cert.Proof.AttnP.algebraic,
  trivial,
  Cert.Proof.Ffn.algebraic,
  trivial,
  Cert.Proof.Gates.algebraic,
  trivial,
  Cert.Proof.Glu.algebraic,
  trivial,
  Cert.Proof.Merge.algebraic,
  trivial,
  Cert.Proof.Ple.algebraic,
  trivial,
  Cert.Proof.GmlpIn.algebraic,
  trivial,
  Cert.Proof.Qkv.algebraic,
  trivial,
  Cert.Proof.Rms.algebraic,
  trivial,
  Cert.Proof.GmlpMix.algebraic⟩

end Cert.Proof

end
